-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4x64x64 : Shape := ⟨4, ![8, 4, 64, 64]⟩
abbrev S8x1x64x64 : Shape := ⟨4, ![8, 1, 64, 64]⟩
abbrev S8x80x64x64 : Shape := ⟨4, ![8, 80, 64, 64]⟩
abbrev S8x4x32x32 : Shape := ⟨4, ![8, 4, 32, 32]⟩
abbrev S8x1x32x32 : Shape := ⟨4, ![8, 1, 32, 32]⟩
abbrev S8x80x32x32 : Shape := ⟨4, ![8, 80, 32, 32]⟩
abbrev S8x4x16x16 : Shape := ⟨4, ![8, 4, 16, 16]⟩
abbrev S8x1x16x16 : Shape := ⟨4, ![8, 1, 16, 16]⟩
abbrev S8x80x16x16 : Shape := ⟨4, ![8, 80, 16, 16]⟩
abbrev S4096x4 : Shape := ⟨2, ![4096, 4]⟩
abbrev S1024x4 : Shape := ⟨2, ![1024, 4]⟩
abbrev S256x4 : Shape := ⟨2, ![256, 4]⟩
abbrev S2 : Shape := ⟨1, ![2]⟩
abbrev S8x4x4096 : Shape := ⟨3, ![8, 4, 4096]⟩
abbrev S8x4x1024 : Shape := ⟨3, ![8, 4, 1024]⟩
abbrev S8x4x256 : Shape := ⟨3, ![8, 4, 256]⟩
abbrev S8x1x4096 : Shape := ⟨3, ![8, 1, 4096]⟩
abbrev S8x1x1024 : Shape := ⟨3, ![8, 1, 1024]⟩
abbrev S8x1x256 : Shape := ⟨3, ![8, 1, 256]⟩
abbrev S8x80x4096 : Shape := ⟨3, ![8, 80, 4096]⟩
abbrev S8x80x1024 : Shape := ⟨3, ![8, 80, 1024]⟩
abbrev S8x80x256 : Shape := ⟨3, ![8, 80, 256]⟩
abbrev S4x4096 : Shape := ⟨2, ![4, 4096]⟩
abbrev S4x1024 : Shape := ⟨2, ![4, 1024]⟩
abbrev S4x256 : Shape := ⟨2, ![4, 256]⟩
abbrev S8x8x5376 : Shape := ⟨3, ![8, 8, 5376]⟩
abbrev S1x4x4096 : Shape := ⟨3, ![1, 4, 4096]⟩
abbrev S1x1x4096 : Shape := ⟨3, ![1, 1, 4096]⟩
abbrev S1x80x4096 : Shape := ⟨3, ![1, 80, 4096]⟩
abbrev S1x4x1024 : Shape := ⟨3, ![1, 4, 1024]⟩
abbrev S1x1x1024 : Shape := ⟨3, ![1, 1, 1024]⟩
abbrev S1x80x1024 : Shape := ⟨3, ![1, 80, 1024]⟩
abbrev S1x4x256 : Shape := ⟨3, ![1, 4, 256]⟩
abbrev S1x1x256 : Shape := ⟨3, ![1, 1, 256]⟩
abbrev S1x80x256 : Shape := ⟨3, ![1, 80, 256]⟩
abbrev S1x8x5376 : Shape := ⟨3, ![1, 8, 5376]⟩
abbrev S1x4096 : Shape := ⟨2, ![1, 4096]⟩
abbrev S80x4096 : Shape := ⟨2, ![80, 4096]⟩
abbrev S4096 : Shape := ⟨1, ![4096]⟩
abbrev S2x4096 : Shape := ⟨2, ![2, 4096]⟩
abbrev S1x2x4096 : Shape := ⟨3, ![1, 2, 4096]⟩
abbrev S1x1024 : Shape := ⟨2, ![1, 1024]⟩
abbrev S80x1024 : Shape := ⟨2, ![80, 1024]⟩
abbrev S1024 : Shape := ⟨1, ![1024]⟩
abbrev S2x1024 : Shape := ⟨2, ![2, 1024]⟩
abbrev S1x2x1024 : Shape := ⟨3, ![1, 2, 1024]⟩
abbrev S1x256 : Shape := ⟨2, ![1, 256]⟩
abbrev S80x256 : Shape := ⟨2, ![80, 256]⟩
abbrev S256 : Shape := ⟨1, ![256]⟩
abbrev S2x256 : Shape := ⟨2, ![2, 256]⟩
abbrev S1x2x256 : Shape := ⟨3, ![1, 2, 256]⟩
abbrev S8x8x128 : Shape := ⟨3, ![8, 8, 128]⟩
abbrev S8x5376 : Shape := ⟨2, ![8, 5376]⟩
abbrev S8x1x5376 : Shape := ⟨3, ![8, 1, 5376]⟩
abbrev S8x128 : Shape := ⟨2, ![8, 128]⟩
abbrev S8 : Shape := ⟨1, ![8]⟩
abbrev S8x1 : Shape := ⟨2, ![8, 1]⟩
abbrev S8x2688 : Shape := ⟨2, ![8, 2688]⟩
abbrev S8x1280 : Shape := ⟨2, ![8, 1280]⟩
abbrev S8x640 : Shape := ⟨2, ![8, 640]⟩
abbrev S8x256 : Shape := ⟨2, ![8, 256]⟩
abbrev S8x1x128 : Shape := ⟨3, ![8, 1, 128]⟩
abbrev S8x6x100 : Shape := ⟨3, ![8, 6, 100]⟩
abbrev S8x100x6 : Shape := ⟨3, ![8, 100, 6]⟩

abbrev nBuf : Space → Nat
  | .hbm => 29
  | .vmem => 35
  | .smem => 0
  | _ => 0

abbrev bufTy : (tb : Table) → Fin (tcTables nBuf tb) → BufTy
  | .hbm, ⟨0, _⟩ => ⟨S8x4x64x64, .f32⟩
  | .hbm, ⟨1, _⟩ => ⟨S8x1x64x64, .f32⟩
  | .hbm, ⟨2, _⟩ => ⟨S8x80x64x64, .f32⟩
  | .hbm, ⟨3, _⟩ => ⟨S8x4x32x32, .f32⟩
  | .hbm, ⟨4, _⟩ => ⟨S8x1x32x32, .f32⟩
  | .hbm, ⟨5, _⟩ => ⟨S8x80x32x32, .f32⟩
  | .hbm, ⟨6, _⟩ => ⟨S8x4x16x16, .f32⟩
  | .hbm, ⟨7, _⟩ => ⟨S8x1x16x16, .f32⟩
  | .hbm, ⟨8, _⟩ => ⟨S8x80x16x16, .f32⟩
  | .hbm, ⟨9, _⟩ => ⟨S4096x4, .f32⟩
  | .hbm, ⟨10, _⟩ => ⟨S1024x4, .f32⟩
  | .hbm, ⟨11, _⟩ => ⟨S256x4, .f32⟩
  | .hbm, ⟨12, _⟩ => ⟨S2, .i32⟩
  | .hbm, ⟨13, _⟩ => ⟨S8x4x4096, .f32⟩
  | .hbm, ⟨14, _⟩ => ⟨S8x4x1024, .f32⟩
  | .hbm, ⟨15, _⟩ => ⟨S8x4x256, .f32⟩
  | .hbm, ⟨16, _⟩ => ⟨S8x1x4096, .f32⟩
  | .hbm, ⟨17, _⟩ => ⟨S8x1x1024, .f32⟩
  | .hbm, ⟨18, _⟩ => ⟨S8x1x256, .f32⟩
  | .hbm, ⟨19, _⟩ => ⟨S8x80x4096, .f32⟩
  | .hbm, ⟨20, _⟩ => ⟨S8x80x1024, .f32⟩
  | .hbm, ⟨21, _⟩ => ⟨S8x80x256, .f32⟩
  | .hbm, ⟨22, _⟩ => ⟨S4x4096, .f32⟩
  | .hbm, ⟨23, _⟩ => ⟨S4x1024, .f32⟩
  | .hbm, ⟨24, _⟩ => ⟨S4x256, .f32⟩
  | .hbm, ⟨25, _⟩ => ⟨S8x8x5376, .f32⟩
  | .hbm, ⟨26, _⟩ => ⟨S8x8x128, .f32⟩
  | .hbm, ⟨27, _⟩ => ⟨S8x6x100, .f32⟩
  | .hbm, ⟨28, _⟩ => ⟨S8x100x6, .f32⟩
  | .local _ .vmem, ⟨0, _⟩ => ⟨S1x4x4096, .f32⟩
  | .local _ .vmem, ⟨1, _⟩ => ⟨S1x4x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x80x4096, .f32⟩
  | .local _ .vmem, ⟨5, _⟩ => ⟨S1x80x4096, .f32⟩
  | .local _ .vmem, ⟨6, _⟩ => ⟨S1x4x1024, .f32⟩
  | .local _ .vmem, ⟨7, _⟩ => ⟨S1x4x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x80x1024, .f32⟩
  | .local _ .vmem, ⟨11, _⟩ => ⟨S1x80x1024, .f32⟩
  | .local _ .vmem, ⟨12, _⟩ => ⟨S1x4x256, .f32⟩
  | .local _ .vmem, ⟨13, _⟩ => ⟨S1x4x256, .f32⟩
  | .local _ .vmem, ⟨14, _⟩ => ⟨S1x1x256, .f32⟩
  | .local _ .vmem, ⟨15, _⟩ => ⟨S1x1x256, .f32⟩
  | .local _ .vmem, ⟨16, _⟩ => ⟨S1x80x256, .f32⟩
  | .local _ .vmem, ⟨17, _⟩ => ⟨S1x80x256, .f32⟩
  | .local _ .vmem, ⟨18, _⟩ => ⟨S4x4096, .f32⟩
  | .local _ .vmem, ⟨19, _⟩ => ⟨S4x1024, .f32⟩
  | .local _ .vmem, ⟨20, _⟩ => ⟨S4x256, .f32⟩
  | .local _ .vmem, ⟨21, _⟩ => ⟨S1x8x5376, .f32⟩
  | .local _ .vmem, ⟨22, _⟩ => ⟨S1x8x5376, .f32⟩
  | .local _ .vmem, ⟨23, _⟩ => ⟨S8x8x5376, .f32⟩
  | .local _ .vmem, ⟨24, _⟩ => ⟨S8x8x128, .f32⟩
  | .local _ .vmem, ⟨25, _⟩ => ⟨S8x5376, .f32⟩
  | .local _ .vmem, ⟨26, _⟩ => ⟨S8x5376, .f32⟩
  | .local _ .vmem, ⟨27, _⟩ => ⟨S8x5376, .f32⟩
  | .local _ .vmem, ⟨28, _⟩ => ⟨S8x5376, .f32⟩
  | .local _ .vmem, ⟨29, _⟩ => ⟨S8x5376, .f32⟩
  | .local _ .vmem, ⟨30, _⟩ => ⟨S8x5376, .f32⟩
  | .local _ .vmem, ⟨31, _⟩ => ⟨S8x5376, .f32⟩
  | .local _ .vmem, ⟨32, _⟩ => ⟨S8x5376, .f32⟩
  | .local _ .vmem, ⟨33, _⟩ => ⟨S8x5376, .f32⟩
  | .local _ .vmem, ⟨34, _⟩ => ⟨S8x5376, .f32⟩
  | _, _ => ⟨S8x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc1_stg0_0 : Ref sig .tc := ⟨.vmem, 23, rfl⟩
abbrev cc1_stg1_0 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc1_scratch3 : Ref sig .tc := ⟨.vmem, 28, rfl⟩
abbrev cc1_scratch4 : Ref sig .tc := ⟨.vmem, 29, rfl⟩
abbrev cc1_scratch5 : Ref sig .tc := ⟨.vmem, 30, rfl⟩
abbrev cc1_scratch6 : Ref sig .tc := ⟨.vmem, 31, rfl⟩
abbrev cc1_scratch7 : Ref sig .tc := ⟨.vmem, 32, rfl⟩
abbrev cc1_scratch8 : Ref sig .tc := ⟨.vmem, 33, rfl⟩
abbrev cc1_scratch9 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc1_sem0_0 : DmaSem sig := 23
abbrev cc1_sem1_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x80x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x80x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x5376 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := .none

@[reducible] def k1_t1_loop : Scf.Loop 32 :=
  let c0_i32 : BitVec 32 := 0#32
  let c50_i32 : BitVec 32 := 50#32
  let v61 : BitVec 32 := Scalar.addi c0_i32 c50_i32
  let c1_i32 : BitVec 32 := 1#32
  ⟨c0_i32, v61, c1_i32⟩
abbrev stage1_0 : Fin 1 → Memref sig .tc .vmem S8x8x5376 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S8x4x64x64 : Shape := ⟨4, ![8, 4, 64, 64]⟩
abbrev S8x1x64x64 : Shape := ⟨4, ![8, 1, 64, 64]⟩
abbrev S8x80x64x64 : Shape := ⟨4, ![8, 80, 64, 64]⟩
abbrev S8x4x32x32 : Shape := ⟨4, ![8, 4, 32, 32]⟩
abbrev S8x1x32x32 : Shape := ⟨4, ![8, 1, 32, 32]⟩
abbrev S8x80x32x32 : Shape := ⟨4, ![8, 80, 32, 32]⟩
abbrev S8x4x16x16 : Shape := ⟨4, ![8, 4, 16, 16]⟩
abbrev S8x1x16x16 : Shape := ⟨4, ![8, 1, 16, 16]⟩
abbrev S8x80x16x16 : Shape := ⟨4, ![8, 80, 16, 16]⟩
abbrev S4096x4 : Shape := ⟨2, ![4096, 4]⟩
abbrev S1024x4 : Shape := ⟨2, ![1024, 4]⟩
abbrev S256x4 : Shape := ⟨2, ![256, 4]⟩
abbrev S2 : Shape := ⟨1, ![2]⟩
abbrev S8x85x64x64 : Shape := ⟨4, ![8, 85, 64, 64]⟩
abbrev S8x64x64x85 : Shape := ⟨4, ![8, 64, 64, 85]⟩
abbrev S1x64x64x4 : Shape := ⟨4, ![1, 64, 64, 4]⟩
abbrev S1x64x64x2 : Shape := ⟨4, ![1, 64, 64, 2]⟩
abbrev S_ : Shape := ⟨0, ![]⟩
abbrev S8x64x64x2 : Shape := ⟨4, ![8, 64, 64, 2]⟩
abbrev S8x64x64x81 : Shape := ⟨4, ![8, 64, 64, 81]⟩
abbrev S8x64x64x1 : Shape := ⟨4, ![8, 64, 64, 1]⟩
abbrev S8x64x64 : Shape := ⟨3, ![8, 64, 64]⟩
abbrev S8x64x64x80 : Shape := ⟨4, ![8, 64, 64, 80]⟩
abbrev S8x4096x85 : Shape := ⟨3, ![8, 4096, 85]⟩
abbrev S8x85x32x32 : Shape := ⟨4, ![8, 85, 32, 32]⟩
abbrev S8x32x32x85 : Shape := ⟨4, ![8, 32, 32, 85]⟩
abbrev S1x32x32x4 : Shape := ⟨4, ![1, 32, 32, 4]⟩
abbrev S1x32x32x2 : Shape := ⟨4, ![1, 32, 32, 2]⟩
abbrev S8x32x32x2 : Shape := ⟨4, ![8, 32, 32, 2]⟩
abbrev S8x32x32x81 : Shape := ⟨4, ![8, 32, 32, 81]⟩
abbrev S8x32x32x1 : Shape := ⟨4, ![8, 32, 32, 1]⟩
abbrev S8x32x32 : Shape := ⟨3, ![8, 32, 32]⟩
abbrev S8x32x32x80 : Shape := ⟨4, ![8, 32, 32, 80]⟩
abbrev S8x1024x85 : Shape := ⟨3, ![8, 1024, 85]⟩
abbrev S8x85x16x16 : Shape := ⟨4, ![8, 85, 16, 16]⟩
abbrev S8x16x16x85 : Shape := ⟨4, ![8, 16, 16, 85]⟩
abbrev S1x16x16x4 : Shape := ⟨4, ![1, 16, 16, 4]⟩
abbrev S1x16x16x2 : Shape := ⟨4, ![1, 16, 16, 2]⟩
abbrev S8x16x16x2 : Shape := ⟨4, ![8, 16, 16, 2]⟩
abbrev S8x16x16x81 : Shape := ⟨4, ![8, 16, 16, 81]⟩
abbrev S8x16x16x1 : Shape := ⟨4, ![8, 16, 16, 1]⟩
abbrev S8x16x16 : Shape := ⟨3, ![8, 16, 16]⟩
abbrev S8x16x16x80 : Shape := ⟨4, ![8, 16, 16, 80]⟩
abbrev S8x256x85 : Shape := ⟨3, ![8, 256, 85]⟩
abbrev S8x5376x85 : Shape := ⟨3, ![8, 5376, 85]⟩
abbrev S8x5376x4 : Shape := ⟨3, ![8, 5376, 4]⟩
abbrev S8x5376x2 : Shape := ⟨3, ![8, 5376, 2]⟩
abbrev S8x5376x1 : Shape := ⟨3, ![8, 5376, 1]⟩
abbrev S8x5376 : Shape := ⟨2, ![8, 5376]⟩
abbrev S8x5376x80 : Shape := ⟨3, ![8, 5376, 80]⟩
abbrev S5376 : Shape := ⟨1, ![5376]⟩
abbrev S100x8x6 : Shape := ⟨3, ![100, 8, 6]⟩
abbrev S8 : Shape := ⟨1, ![8]⟩
abbrev S8x1 : Shape := ⟨2, ![8, 1]⟩
abbrev S8x1x1 : Shape := ⟨3, ![8, 1, 1]⟩
abbrev S8x1x4 : Shape := ⟨3, ![8, 1, 4]⟩
abbrev S8x4 : Shape := ⟨2, ![8, 4]⟩
abbrev S1x5376 : Shape := ⟨2, ![1, 5376]⟩
abbrev S4 : Shape := ⟨1, ![4]⟩
abbrev S8x6 : Shape := ⟨2, ![8, 6]⟩
abbrev S1x8x6 : Shape := ⟨3, ![1, 8, 6]⟩
abbrev S8x100x6 : Shape := ⟨3, ![8, 100, 6]⟩

abbrev nBuf : Space → Nat
  | .hbm => 332
  | .vmem => 0
  | .smem => 0
  | _ => 0

abbrev hbmTy0_0 (i : Nat) : BufTy := match i % 128 with
  | 0 => ⟨S8x4x64x64, .f32⟩
  | 1 => ⟨S8x1x64x64, .f32⟩
  | 2 => ⟨S8x80x64x64, .f32⟩
  | 3 => ⟨S8x4x32x32, .f32⟩
  | 4 => ⟨S8x1x32x32, .f32⟩
  | 5 => ⟨S8x80x32x32, .f32⟩
  | 6 => ⟨S8x4x16x16, .f32⟩
  | 7 => ⟨S8x1x16x16, .f32⟩
  | 8 => ⟨S8x80x16x16, .f32⟩
  | 9 => ⟨S4096x4, .f32⟩
  | 10 => ⟨S1024x4, .f32⟩
  | 11 => ⟨S256x4, .f32⟩
  | 12 => ⟨S2, .i32⟩
  | 13 => ⟨S8x85x64x64, .f32⟩
  | 14 => ⟨S8x64x64x85, .f32⟩
  | 15 => ⟨S1x64x64x4, .f32⟩
  | 16 => ⟨S1x64x64x2, .f32⟩
  | 17 => ⟨S1x64x64x2, .f32⟩
  | 18 => ⟨S1x64x64x2, .f32⟩
  | 19 => ⟨S_, .f32⟩
  | 20 => ⟨S1x64x64x2, .f32⟩
  | 21 => ⟨S1x64x64x2, .f32⟩
  | 22 => ⟨S1x64x64x2, .f32⟩
  | 23 => ⟨S1x64x64x2, .f32⟩
  | 24 => ⟨S1x64x64x2, .f32⟩
  | 25 => ⟨S8x64x64x2, .f32⟩
  | 26 => ⟨S8x64x64x2, .f32⟩
  | 27 => ⟨S8x64x64x2, .f32⟩
  | 28 => ⟨S8x64x64x2, .f32⟩
  | 29 => ⟨S8x64x64x2, .f32⟩
  | 30 => ⟨S8x64x64x2, .f32⟩
  | 31 => ⟨S8x64x64x2, .f32⟩
  | 32 => ⟨S8x64x64x2, .f32⟩
  | 33 => ⟨S8x64x64x2, .f32⟩
  | 34 => ⟨S8x64x64x2, .f32⟩
  | 35 => ⟨S8x64x64x2, .f32⟩
  | 36 => ⟨S_, .f32⟩
  | 37 => ⟨S8x64x64x2, .f32⟩
  | 38 => ⟨S8x64x64x2, .f32⟩
  | 39 => ⟨S8x64x64x2, .f32⟩
  | 40 => ⟨S8x64x64x81, .f32⟩
  | 41 => ⟨S8x64x64x81, .f32⟩
  | 42 => ⟨S8x64x64x81, .f32⟩
  | 43 => ⟨S_, .f32⟩
  | 44 => ⟨S8x64x64x81, .f32⟩
  | 45 => ⟨S8x64x64x81, .f32⟩
  | 46 => ⟨S_, .f32⟩
  | 47 => ⟨S8x64x64x81, .f32⟩
  | 48 => ⟨S8x64x64x81, .f32⟩
  | 49 => ⟨S8x64x64x1, .f32⟩
  | 50 => ⟨S8x64x64, .f32⟩
  | 51 => ⟨S8x64x64x80, .f32⟩
  | 52 => ⟨S_, .f32⟩
  | 53 => ⟨S8x64x64, .f32⟩
  | 54 => ⟨S8x64x64, .f32⟩
  | 55 => ⟨S8x64x64, .f32⟩
  | 56 => ⟨S8x64x64x1, .f32⟩
  | 57 => ⟨S8x64x64x85, .f32⟩
  | 58 => ⟨S8x4096x85, .f32⟩
  | 59 => ⟨S8x85x32x32, .f32⟩
  | 60 => ⟨S8x32x32x85, .f32⟩
  | 61 => ⟨S1x32x32x4, .f32⟩
  | 62 => ⟨S1x32x32x2, .f32⟩
  | 63 => ⟨S1x32x32x2, .f32⟩
  | 64 => ⟨S1x32x32x2, .f32⟩
  | 65 => ⟨S_, .f32⟩
  | 66 => ⟨S1x32x32x2, .f32⟩
  | 67 => ⟨S1x32x32x2, .f32⟩
  | 68 => ⟨S1x32x32x2, .f32⟩
  | 69 => ⟨S1x32x32x2, .f32⟩
  | 70 => ⟨S1x32x32x2, .f32⟩
  | 71 => ⟨S8x32x32x2, .f32⟩
  | 72 => ⟨S8x32x32x2, .f32⟩
  | 73 => ⟨S8x32x32x2, .f32⟩
  | 74 => ⟨S8x32x32x2, .f32⟩
  | 75 => ⟨S8x32x32x2, .f32⟩
  | 76 => ⟨S8x32x32x2, .f32⟩
  | 77 => ⟨S8x32x32x2, .f32⟩
  | 78 => ⟨S8x32x32x2, .f32⟩
  | 79 => ⟨S8x32x32x2, .f32⟩
  | 80 => ⟨S8x32x32x2, .f32⟩
  | 81 => ⟨S8x32x32x2, .f32⟩
  | 82 => ⟨S_, .f32⟩
  | 83 => ⟨S8x32x32x2, .f32⟩
  | 84 => ⟨S8x32x32x2, .f32⟩
  | 85 => ⟨S8x32x32x2, .f32⟩
  | 86 => ⟨S8x32x32x81, .f32⟩
  | 87 => ⟨S8x32x32x81, .f32⟩
  | 88 => ⟨S8x32x32x81, .f32⟩
  | 89 => ⟨S_, .f32⟩
  | 90 => ⟨S8x32x32x81, .f32⟩
  | 91 => ⟨S8x32x32x81, .f32⟩
  | 92 => ⟨S_, .f32⟩
  | 93 => ⟨S8x32x32x81, .f32⟩
  | 94 => ⟨S8x32x32x81, .f32⟩
  | 95 => ⟨S8x32x32x1, .f32⟩
  | 96 => ⟨S8x32x32, .f32⟩
  | 97 => ⟨S8x32x32x80, .f32⟩
  | 98 => ⟨S_, .f32⟩
  | 99 => ⟨S8x32x32, .f32⟩
  | 100 => ⟨S8x32x32, .f32⟩
  | 101 => ⟨S8x32x32, .f32⟩
  | 102 => ⟨S8x32x32x1, .f32⟩
  | 103 => ⟨S8x32x32x85, .f32⟩
  | 104 => ⟨S8x1024x85, .f32⟩
  | 105 => ⟨S8x85x16x16, .f32⟩
  | 106 => ⟨S8x16x16x85, .f32⟩
  | 107 => ⟨S1x16x16x4, .f32⟩
  | 108 => ⟨S1x16x16x2, .f32⟩
  | 109 => ⟨S1x16x16x2, .f32⟩
  | 110 => ⟨S1x16x16x2, .f32⟩
  | 111 => ⟨S_, .f32⟩
  | 112 => ⟨S1x16x16x2, .f32⟩
  | 113 => ⟨S1x16x16x2, .f32⟩
  | 114 => ⟨S1x16x16x2, .f32⟩
  | 115 => ⟨S1x16x16x2, .f32⟩
  | 116 => ⟨S1x16x16x2, .f32⟩
  | 117 => ⟨S8x16x16x2, .f32⟩
  | 118 => ⟨S8x16x16x2, .f32⟩
  | 119 => ⟨S8x16x16x2, .f32⟩
  | 120 => ⟨S8x16x16x2, .f32⟩
  | 121 => ⟨S8x16x16x2, .f32⟩
  | 122 => ⟨S8x16x16x2, .f32⟩
  | 123 => ⟨S8x16x16x2, .f32⟩
  | 124 => ⟨S8x16x16x2, .f32⟩
  | 125 => ⟨S8x16x16x2, .f32⟩
  | 126 => ⟨S8x16x16x2, .f32⟩
  | 127 => ⟨S8x16x16x2, .f32⟩
  | _ => ⟨S8x4x64x64, .f32⟩

abbrev hbmTy0_1 (i : Nat) : BufTy := match i % 128 with
  | 0 => ⟨S_, .f32⟩
  | 1 => ⟨S8x16x16x2, .f32⟩
  | 2 => ⟨S8x16x16x2, .f32⟩
  | 3 => ⟨S8x16x16x2, .f32⟩
  | 4 => ⟨S8x16x16x81, .f32⟩
  | 5 => ⟨S8x16x16x81, .f32⟩
  | 6 => ⟨S8x16x16x81, .f32⟩
  | 7 => ⟨S_, .f32⟩
  | 8 => ⟨S8x16x16x81, .f32⟩
  | 9 => ⟨S8x16x16x81, .f32⟩
  | 10 => ⟨S_, .f32⟩
  | 11 => ⟨S8x16x16x81, .f32⟩
  | 12 => ⟨S8x16x16x81, .f32⟩
  | 13 => ⟨S8x16x16x1, .f32⟩
  | 14 => ⟨S8x16x16, .f32⟩
  | 15 => ⟨S8x16x16x80, .f32⟩
  | 16 => ⟨S_, .f32⟩
  | 17 => ⟨S8x16x16, .f32⟩
  | 18 => ⟨S8x16x16, .f32⟩
  | 19 => ⟨S8x16x16, .f32⟩
  | 20 => ⟨S8x16x16x1, .f32⟩
  | 21 => ⟨S8x16x16x85, .f32⟩
  | 22 => ⟨S8x256x85, .f32⟩
  | 23 => ⟨S8x5376x85, .f32⟩
  | 24 => ⟨S8x5376x4, .f32⟩
  | 25 => ⟨S8x5376x2, .f32⟩
  | 26 => ⟨S_, .f32⟩
  | 27 => ⟨S8x5376x2, .f32⟩
  | 28 => ⟨S8x5376x2, .f32⟩
  | 29 => ⟨S8x5376x2, .f32⟩
  | 30 => ⟨S8x5376x2, .f32⟩
  | 31 => ⟨S8x5376x2, .f32⟩
  | 32 => ⟨S8x5376x2, .f32⟩
  | 33 => ⟨S8x5376x4, .f32⟩
  | 34 => ⟨S8x5376x1, .f32⟩
  | 35 => ⟨S8x5376, .f32⟩
  | 36 => ⟨S8x5376x80, .f32⟩
  | 37 => ⟨S8x5376x80, .i32⟩
  | 38 => ⟨S_, .f32⟩
  | 39 => ⟨S_, .i32⟩
  | 40 => ⟨S8x5376, .f32⟩
  | 41 => ⟨S8x5376, .i32⟩
  | 42 => ⟨S_, .f32⟩
  | 43 => ⟨S8x5376, .f32⟩
  | 44 => ⟨S8x5376, .i1⟩
  | 45 => ⟨S_, .f32⟩
  | 46 => ⟨S_, .f32⟩
  | 47 => ⟨S5376, .f32⟩
  | 48 => ⟨S8x5376, .f32⟩
  | 49 => ⟨S8x5376, .f32⟩
  | 50 => ⟨S8x5376, .f32⟩
  | 51 => ⟨S8x5376x1, .f32⟩
  | 52 => ⟨S_, .f32⟩
  | 53 => ⟨S8x5376x1, .f32⟩
  | 54 => ⟨S8x5376x1, .f32⟩
  | 55 => ⟨S8x5376x4, .f32⟩
  | 56 => ⟨S8x5376x4, .f32⟩
  | 57 => ⟨S8x5376x1, .f32⟩
  | 58 => ⟨S8x5376, .f32⟩
  | 59 => ⟨S8x5376x1, .f32⟩
  | 60 => ⟨S8x5376, .f32⟩
  | 61 => ⟨S8x5376, .f32⟩
  | 62 => ⟨S8x5376x1, .f32⟩
  | 63 => ⟨S8x5376, .f32⟩
  | 64 => ⟨S8x5376x1, .f32⟩
  | 65 => ⟨S8x5376, .f32⟩
  | 66 => ⟨S8x5376, .f32⟩
  | 67 => ⟨S8x5376, .f32⟩
  | 68 => ⟨S_, .f32⟩
  | 69 => ⟨S100x8x6, .f32⟩
  | 70 => ⟨S_, .i32⟩
  | 71 => ⟨S8x5376x4, .f32⟩
  | 72 => ⟨S8x5376, .f32⟩
  | 73 => ⟨S8x5376x4, .f32⟩
  | 74 => ⟨S8x5376, .i32⟩
  | 75 => ⟨S_, .i32⟩
  | 76 => ⟨S8x5376, .f32⟩
  | 77 => ⟨S100x8x6, .f32⟩
  | 78 => ⟨S_, .i32⟩
  | 79 => ⟨S_, .i1⟩
  | 80 => ⟨S8x5376, .i32⟩
  | 81 => ⟨S_, .f32⟩
  | 82 => ⟨S_, .i32⟩
  | 83 => ⟨S8, .f32⟩
  | 84 => ⟨S8, .i32⟩
  | 85 => ⟨S_, .f32⟩
  | 86 => ⟨S8, .f32⟩
  | 87 => ⟨S_, .f32⟩
  | 88 => ⟨S8, .f32⟩
  | 89 => ⟨S8, .i1⟩
  | 90 => ⟨S8x1, .i32⟩
  | 91 => ⟨S8x1x1, .i32⟩
  | 92 => ⟨S8x1x4, .f32⟩
  | 93 => ⟨S8x4, .f32⟩
  | 94 => ⟨S8x1, .f32⟩
  | 95 => ⟨S8, .f32⟩
  | 96 => ⟨S8x5376x1, .f32⟩
  | 97 => ⟨S8x5376, .f32⟩
  | 98 => ⟨S8x1, .f32⟩
  | 99 => ⟨S8x5376, .f32⟩
  | 100 => ⟨S8x5376, .f32⟩
  | 101 => ⟨S8x1, .f32⟩
  | 102 => ⟨S8, .f32⟩
  | 103 => ⟨S8x5376x1, .f32⟩
  | 104 => ⟨S8x5376, .f32⟩
  | 105 => ⟨S8x1, .f32⟩
  | 106 => ⟨S8x5376, .f32⟩
  | 107 => ⟨S8x5376, .f32⟩
  | 108 => ⟨S8x1, .f32⟩
  | 109 => ⟨S8, .f32⟩
  | 110 => ⟨S8x5376x1, .f32⟩
  | 111 => ⟨S8x5376, .f32⟩
  | 112 => ⟨S8x1, .f32⟩
  | 113 => ⟨S8x5376, .f32⟩
  | 114 => ⟨S8x5376, .f32⟩
  | 115 => ⟨S8x1, .f32⟩
  | 116 => ⟨S8, .f32⟩
  | 117 => ⟨S8x5376x1, .f32⟩
  | 118 => ⟨S8x5376, .f32⟩
  | 119 => ⟨S8x1, .f32⟩
  | 120 => ⟨S8x5376, .f32⟩
  | 121 => ⟨S8x5376, .f32⟩
  | 122 => ⟨S8x5376, .f32⟩
  | 123 => ⟨S_, .f32⟩
  | 124 => ⟨S8x5376, .f32⟩
  | 125 => ⟨S8x5376, .f32⟩
  | 126 => ⟨S8x5376, .f32⟩
  | 127 => ⟨S_, .f32⟩
  | _ => ⟨S8x4x64x64, .f32⟩

abbrev hbmTy0_2 (i : Nat) : BufTy := match i % 128 with
  | 0 => ⟨S8x5376, .f32⟩
  | 1 => ⟨S8x5376, .f32⟩
  | 2 => ⟨S8x5376, .f32⟩
  | 3 => ⟨S8x1, .f32⟩
  | 4 => ⟨S8, .f32⟩
  | 5 => ⟨S8x1, .f32⟩
  | 6 => ⟨S8, .f32⟩
  | 7 => ⟨S8, .f32⟩
  | 8 => ⟨S8x1, .f32⟩
  | 9 => ⟨S8, .f32⟩
  | 10 => ⟨S8x1, .f32⟩
  | 11 => ⟨S8, .f32⟩
  | 12 => ⟨S8, .f32⟩
  | 13 => ⟨S8, .f32⟩
  | 14 => ⟨S8x1, .f32⟩
  | 15 => ⟨S8x5376, .f32⟩
  | 16 => ⟨S8x5376, .f32⟩
  | 17 => ⟨S8x5376, .f32⟩
  | 18 => ⟨S_, .f32⟩
  | 19 => ⟨S8x5376, .f32⟩
  | 20 => ⟨S8x5376, .f32⟩
  | 21 => ⟨S8x5376, .f32⟩
  | 22 => ⟨S_, .f32⟩
  | 23 => ⟨S8x5376, .f32⟩
  | 24 => ⟨S8x5376, .i1⟩
  | 25 => ⟨S8x1, .i1⟩
  | 26 => ⟨S8x5376, .i1⟩
  | 27 => ⟨S8x5376, .i1⟩
  | 28 => ⟨S_, .f32⟩
  | 29 => ⟨S_, .f32⟩
  | 30 => ⟨S5376, .f32⟩
  | 31 => ⟨S8x5376, .f32⟩
  | 32 => ⟨S8x5376, .f32⟩
  | 33 => ⟨S5376, .i32⟩
  | 34 => ⟨S1x5376, .i32⟩
  | 35 => ⟨S8x1, .i32⟩
  | 36 => ⟨S8x5376, .i32⟩
  | 37 => ⟨S8x5376, .i32⟩
  | 38 => ⟨S8x5376, .i1⟩
  | 39 => ⟨S_, .f32⟩
  | 40 => ⟨S_, .f32⟩
  | 41 => ⟨S5376, .f32⟩
  | 42 => ⟨S8x5376, .f32⟩
  | 43 => ⟨S8x5376, .f32⟩
  | 44 => ⟨S8x1, .i32⟩
  | 45 => ⟨S8x1x1, .i32⟩
  | 46 => ⟨S8x1x4, .f32⟩
  | 47 => ⟨S8x4, .f32⟩
  | 48 => ⟨S_, .f32⟩
  | 49 => ⟨S4, .f32⟩
  | 50 => ⟨S8x4, .f32⟩
  | 51 => ⟨S8x4, .i1⟩
  | 52 => ⟨S8x4, .f32⟩
  | 53 => ⟨S_, .f32⟩
  | 54 => ⟨S_, .f32⟩
  | 55 => ⟨S8, .f32⟩
  | 56 => ⟨S8, .f32⟩
  | 57 => ⟨S8x1, .f32⟩
  | 58 => ⟨S8x1, .i32⟩
  | 59 => ⟨S8x1x1, .i32⟩
  | 60 => ⟨S8x1, .i32⟩
  | 61 => ⟨S8, .i32⟩
  | 62 => ⟨S8, .f32⟩
  | 63 => ⟨S_, .f32⟩
  | 64 => ⟨S_, .f32⟩
  | 65 => ⟨S8, .f32⟩
  | 66 => ⟨S8, .f32⟩
  | 67 => ⟨S8x1, .f32⟩
  | 68 => ⟨S8x6, .f32⟩
  | 69 => ⟨S1x8x6, .f32⟩
  | 70 => ⟨S_, .i32⟩
  | 71 => ⟨S_, .i32⟩
  | 72 => ⟨S100x8x6, .f32⟩
  | 73 => ⟨S_, .i32⟩
  | 74 => ⟨S_, .i32⟩
  | 75 => ⟨S8x100x6, .f32⟩
  | _ => ⟨S8x4x64x64, .f32⟩

abbrev hbmTy (i : Nat) : BufTy := match i / 128 with
  | 0 => hbmTy0_0 i
  | 1 => hbmTy0_1 i
  | 2 => hbmTy0_2 i
  | _ => ⟨S8x4x64x64, .f32⟩

abbrev bufTy : (tb : Table) → Fin (tcTables nBuf tb) → BufTy
  | .hbm, ⟨i, _⟩ => hbmTy i
  | _, _ => ⟨S8x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_5 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_8 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_9 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_10 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_11 : Ref sig .tc := ⟨.hbm, 135, rfl⟩
abbrev main_v110 : Ref sig .tc := ⟨.hbm, 136, rfl⟩
abbrev main_v111 : Ref sig .tc := ⟨.hbm, 137, rfl⟩
abbrev main_cst_12 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_13 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_14 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_call0_v0 : Ref sig .tc := ⟨.hbm, 165, rfl⟩
abbrev main_call0_cst : Ref sig .tc := ⟨.hbm, 166, rfl⟩
abbrev main_call0_c : Ref sig .tc := ⟨.hbm, 167, rfl⟩
abbrev main_call0_v1_0 : Ref sig .tc := ⟨.hbm, 168, rfl⟩
abbrev main_v136 : Ref sig .tc := ⟨.hbm, 169, rfl⟩
abbrev main_cst_15 : Ref sig .tc := ⟨.hbm, 170, rfl⟩
abbrev main_v137 : Ref sig .tc := ⟨.hbm, 171, rfl⟩
abbrev main_v138 : Ref sig .tc := ⟨.hbm, 172, rfl⟩
abbrev main_cst_16 : Ref sig .tc := ⟨.hbm, 173, rfl⟩
abbrev main_call1_v0 : Ref sig .tc := ⟨.hbm, 174, rfl⟩
abbrev main_call1_v1 : Ref sig .tc := ⟨.hbm, 175, rfl⟩
abbrev main_call1_v2 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_17 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_cst_18 : Ref sig .tc := ⟨.hbm, 196, rfl⟩
abbrev main_v157 : Ref sig .tc := ⟨.hbm, 197, rfl⟩
abbrev main_c : Ref sig .tc := ⟨.hbm, 198, rfl⟩
abbrev main_v158_0 : Ref sig .tc := ⟨.hbm, 199, rfl⟩
abbrev main_v158_1 : Ref sig .tc := ⟨.hbm, 200, rfl⟩
abbrev main_v158_2 : Ref sig .tc := ⟨.hbm, 201, rfl⟩
abbrev main_v158_3 : Ref sig .tc := ⟨.hbm, 202, rfl⟩
abbrev main_v158_4 : Ref sig .tc := ⟨.hbm, 203, rfl⟩
abbrev main_v158_5 : Ref sig .tc := ⟨.hbm, 204, rfl⟩
abbrev main_v158_6 : Ref sig .tc := ⟨.hbm, 205, rfl⟩
abbrev main_while0c_c_25 : Ref sig .tc := ⟨.hbm, 206, rfl⟩
abbrev main_while0c_v160 : Ref sig .tc := ⟨.hbm, 207, rfl⟩
abbrev main_while0b_call2_v0 : Ref sig .tc := ⟨.hbm, 208, rfl⟩
abbrev main_while0b_call2_cst : Ref sig .tc := ⟨.hbm, 209, rfl⟩
abbrev main_while0b_call2_c : Ref sig .tc := ⟨.hbm, 210, rfl⟩
abbrev main_while0b_call2_v1_0 : Ref sig .tc := ⟨.hbm, 211, rfl⟩
abbrev main_while0b_v160 : Ref sig .tc := ⟨.hbm, 212, rfl⟩
abbrev main_while0b_cst_25 : Ref sig .tc := ⟨.hbm, 213, rfl⟩
abbrev main_while0b_v161 : Ref sig .tc := ⟨.hbm, 214, rfl⟩
abbrev main_while0b_cst_26 : Ref sig .tc := ⟨.hbm, 215, rfl⟩
abbrev main_while0b_v162 : Ref sig .tc := ⟨.hbm, 216, rfl⟩
abbrev main_while0b_v163 : Ref sig .tc := ⟨.hbm, 217, rfl⟩
abbrev main_while0b_v164 : Ref sig .tc := ⟨.hbm, 218, rfl⟩
abbrev main_while0b_call3_v0 : Ref sig .tc := ⟨.hbm, 219, rfl⟩
abbrev main_while0b_v165 : Ref sig .tc := ⟨.hbm, 220, rfl⟩
abbrev main_while0b_v166 : Ref sig .tc := ⟨.hbm, 221, rfl⟩
abbrev main_while0b_v167 : Ref sig .tc := ⟨.hbm, 222, rfl⟩
abbrev main_while0b_v168 : Ref sig .tc := ⟨.hbm, 223, rfl⟩
abbrev main_while0b_v169 : Ref sig .tc := ⟨.hbm, 224, rfl⟩
abbrev main_while0b_v170 : Ref sig .tc := ⟨.hbm, 225, rfl⟩
abbrev main_while0b_v171 : Ref sig .tc := ⟨.hbm, 226, rfl⟩
abbrev main_while0b_v172 : Ref sig .tc := ⟨.hbm, 227, rfl⟩
abbrev main_while0b_v173 : Ref sig .tc := ⟨.hbm, 228, rfl⟩
abbrev main_while0b_v174 : Ref sig .tc := ⟨.hbm, 229, rfl⟩
abbrev main_while0b_v175 : Ref sig .tc := ⟨.hbm, 230, rfl⟩
abbrev main_while0b_v176 : Ref sig .tc := ⟨.hbm, 231, rfl⟩
abbrev main_while0b_v177 : Ref sig .tc := ⟨.hbm, 232, rfl⟩
abbrev main_while0b_v178 : Ref sig .tc := ⟨.hbm, 233, rfl⟩
abbrev main_while0b_v179 : Ref sig .tc := ⟨.hbm, 234, rfl⟩
abbrev main_while0b_v180 : Ref sig .tc := ⟨.hbm, 235, rfl⟩
abbrev main_while0b_v181 : Ref sig .tc := ⟨.hbm, 236, rfl⟩
abbrev main_while0b_v182 : Ref sig .tc := ⟨.hbm, 237, rfl⟩
abbrev main_while0b_v183 : Ref sig .tc := ⟨.hbm, 238, rfl⟩
abbrev main_while0b_v184 : Ref sig .tc := ⟨.hbm, 239, rfl⟩
abbrev main_while0b_v185 : Ref sig .tc := ⟨.hbm, 240, rfl⟩
abbrev main_while0b_v186 : Ref sig .tc := ⟨.hbm, 241, rfl⟩
abbrev main_while0b_v187 : Ref sig .tc := ⟨.hbm, 242, rfl⟩
abbrev main_while0b_v188 : Ref sig .tc := ⟨.hbm, 243, rfl⟩
abbrev main_while0b_v189 : Ref sig .tc := ⟨.hbm, 244, rfl⟩
abbrev main_while0b_v190 : Ref sig .tc := ⟨.hbm, 245, rfl⟩
abbrev main_while0b_v191 : Ref sig .tc := ⟨.hbm, 246, rfl⟩
abbrev main_while0b_v192 : Ref sig .tc := ⟨.hbm, 247, rfl⟩
abbrev main_while0b_v193 : Ref sig .tc := ⟨.hbm, 248, rfl⟩
abbrev main_while0b_v194 : Ref sig .tc := ⟨.hbm, 249, rfl⟩
abbrev main_while0b_v195 : Ref sig .tc := ⟨.hbm, 250, rfl⟩
abbrev main_while0b_cst_27 : Ref sig .tc := ⟨.hbm, 251, rfl⟩
abbrev main_while0b_v196 : Ref sig .tc := ⟨.hbm, 252, rfl⟩
abbrev main_while0b_v197 : Ref sig .tc := ⟨.hbm, 253, rfl⟩
abbrev main_while0b_v198 : Ref sig .tc := ⟨.hbm, 254, rfl⟩
abbrev main_while0b_cst_28 : Ref sig .tc := ⟨.hbm, 255, rfl⟩
abbrev main_while0b_v199 : Ref sig .tc := ⟨.hbm, 256, rfl⟩
abbrev main_while0b_v200 : Ref sig .tc := ⟨.hbm, 257, rfl⟩
abbrev main_while0b_v201 : Ref sig .tc := ⟨.hbm, 258, rfl⟩
abbrev main_while0b_v202 : Ref sig .tc := ⟨.hbm, 259, rfl⟩
abbrev main_while0b_v203 : Ref sig .tc := ⟨.hbm, 260, rfl⟩
abbrev main_while0b_v204 : Ref sig .tc := ⟨.hbm, 261, rfl⟩
abbrev main_while0b_v205 : Ref sig .tc := ⟨.hbm, 262, rfl⟩
abbrev main_while0b_v206 : Ref sig .tc := ⟨.hbm, 263, rfl⟩
abbrev main_while0b_v207 : Ref sig .tc := ⟨.hbm, 264, rfl⟩
abbrev main_while0b_v208 : Ref sig .tc := ⟨.hbm, 265, rfl⟩
abbrev main_while0b_v209 : Ref sig .tc := ⟨.hbm, 266, rfl⟩
abbrev main_while0b_v210 : Ref sig .tc := ⟨.hbm, 267, rfl⟩
abbrev main_while0b_v211 : Ref sig .tc := ⟨.hbm, 268, rfl⟩
abbrev main_while0b_v212 : Ref sig .tc := ⟨.hbm, 269, rfl⟩
abbrev main_while0b_v213 : Ref sig .tc := ⟨.hbm, 270, rfl⟩
abbrev main_while0b_v214 : Ref sig .tc := ⟨.hbm, 271, rfl⟩
abbrev main_while0b_v215 : Ref sig .tc := ⟨.hbm, 272, rfl⟩
abbrev main_while0b_v216 : Ref sig .tc := ⟨.hbm, 273, rfl⟩
abbrev main_while0b_cst_29 : Ref sig .tc := ⟨.hbm, 274, rfl⟩
abbrev main_while0b_v217 : Ref sig .tc := ⟨.hbm, 275, rfl⟩
abbrev main_while0b_v218 : Ref sig .tc := ⟨.hbm, 276, rfl⟩
abbrev main_while0b_v219 : Ref sig .tc := ⟨.hbm, 277, rfl⟩
abbrev main_while0b_cst_30 : Ref sig .tc := ⟨.hbm, 278, rfl⟩
abbrev main_while0b_v220 : Ref sig .tc := ⟨.hbm, 279, rfl⟩
abbrev main_while0b_v221 : Ref sig .tc := ⟨.hbm, 280, rfl⟩
abbrev main_while0b_v222 : Ref sig .tc := ⟨.hbm, 281, rfl⟩
abbrev main_while0b_v223 : Ref sig .tc := ⟨.hbm, 282, rfl⟩
abbrev main_while0b_v224 : Ref sig .tc := ⟨.hbm, 283, rfl⟩
abbrev main_while0b_cst_31 : Ref sig .tc := ⟨.hbm, 284, rfl⟩
abbrev main_while0b_call4_v0 : Ref sig .tc := ⟨.hbm, 285, rfl⟩
abbrev main_while0b_call4_v1 : Ref sig .tc := ⟨.hbm, 286, rfl⟩
abbrev main_while0b_call4_v2 : Ref sig .tc := ⟨.hbm, 287, rfl⟩
abbrev main_while0b_v225 : Ref sig .tc := ⟨.hbm, 288, rfl⟩
abbrev main_while0b_v226 : Ref sig .tc := ⟨.hbm, 289, rfl⟩
abbrev main_while0b_v227 : Ref sig .tc := ⟨.hbm, 290, rfl⟩
abbrev main_while0b_v228 : Ref sig .tc := ⟨.hbm, 291, rfl⟩
abbrev main_while0b_v229 : Ref sig .tc := ⟨.hbm, 292, rfl⟩
abbrev main_while0b_v230 : Ref sig .tc := ⟨.hbm, 293, rfl⟩
abbrev main_while0b_v231 : Ref sig .tc := ⟨.hbm, 294, rfl⟩
abbrev main_while0b_cst_32 : Ref sig .tc := ⟨.hbm, 295, rfl⟩
abbrev main_while0b_call5_v0 : Ref sig .tc := ⟨.hbm, 296, rfl⟩
abbrev main_while0b_call5_v1 : Ref sig .tc := ⟨.hbm, 297, rfl⟩
abbrev main_while0b_call5_v2 : Ref sig .tc := ⟨.hbm, 298, rfl⟩
abbrev main_while0b_v232 : Ref sig .tc := ⟨.hbm, 299, rfl⟩
abbrev main_while0b_v233 : Ref sig .tc := ⟨.hbm, 300, rfl⟩
abbrev main_while0b_call6_v0 : Ref sig .tc := ⟨.hbm, 301, rfl⟩
abbrev main_while0b_v234 : Ref sig .tc := ⟨.hbm, 302, rfl⟩
abbrev main_while0b_v235 : Ref sig .tc := ⟨.hbm, 303, rfl⟩
abbrev main_while0b_cst_33 : Ref sig .tc := ⟨.hbm, 304, rfl⟩
abbrev main_while0b_v236 : Ref sig .tc := ⟨.hbm, 305, rfl⟩
abbrev main_while0b_call7_v0 : Ref sig .tc := ⟨.hbm, 306, rfl⟩
abbrev main_while0b_call7_v1 : Ref sig .tc := ⟨.hbm, 307, rfl⟩
abbrev main_while0b_v237 : Ref sig .tc := ⟨.hbm, 308, rfl⟩
abbrev main_while0b_cst_34 : Ref sig .tc := ⟨.hbm, 309, rfl⟩
abbrev main_while0b_call8_v0 : Ref sig .tc := ⟨.hbm, 310, rfl⟩
abbrev main_while0b_call8_v1 : Ref sig .tc := ⟨.hbm, 311, rfl⟩
abbrev main_while0b_v238 : Ref sig .tc := ⟨.hbm, 312, rfl⟩
abbrev main_while0b_v239 : Ref sig .tc := ⟨.hbm, 313, rfl⟩
abbrev main_while0b_v240 : Ref sig .tc := ⟨.hbm, 314, rfl⟩
abbrev main_while0b_call9_v0 : Ref sig .tc := ⟨.hbm, 315, rfl⟩
abbrev main_while0b_v241 : Ref sig .tc := ⟨.hbm, 316, rfl⟩
abbrev main_while0b_v242 : Ref sig .tc := ⟨.hbm, 317, rfl⟩
abbrev main_while0b_v243 : Ref sig .tc := ⟨.hbm, 318, rfl⟩
abbrev main_while0b_cst_35 : Ref sig .tc := ⟨.hbm, 319, rfl⟩
abbrev main_while0b_call10_v0 : Ref sig .tc := ⟨.hbm, 320, rfl⟩
abbrev main_while0b_call10_v1 : Ref sig .tc := ⟨.hbm, 321, rfl⟩
abbrev main_while0b_v244 : Ref sig .tc := ⟨.hbm, 322, rfl⟩
abbrev main_while0b_v245 : Ref sig .tc := ⟨.hbm, 323, rfl⟩
abbrev main_while0b_v246 : Ref sig .tc := ⟨.hbm, 324, rfl⟩
abbrev main_while0b_call11_v0 : Ref sig .tc := ⟨.hbm, 325, rfl⟩
abbrev main_while0b_call11_c : Ref sig .tc := ⟨.hbm, 326, rfl⟩
abbrev main_while0b_call11_c_0 : Ref sig .tc := ⟨.hbm, 327, rfl⟩
abbrev main_while0b_v247 : Ref sig .tc := ⟨.hbm, 328, rfl⟩
abbrev main_while0b_c_36 : Ref sig .tc := ⟨.hbm, 329, rfl⟩
abbrev main_while0b_v248 : Ref sig .tc := ⟨.hbm, 330, rfl⟩
abbrev main_v159 : Ref sig .tc := ⟨.hbm, 331, rfl⟩

abbrev nD : Nat := 1
abbrev τ : Topo := Topo.v7x

variable {F : FTy → Type} [FloatOps F]

abbrev main_while0_count : Scf.Loop 32 := ⟨0#32, 100#32, 1#32⟩
-- ==== Proof.KerStep.lean ====
/- One step of the kernel's suppression loop, as functions of whole arrays, and the program's own stored values read as those functions. -/
module

public import proofs.«01_k».proof.Proof.Gen.KernelIdeal.Frame
public import Idealize.ShloMosaic.Lib.Pipeline.Value
public import Idealize.ShloMosaic.PureOps.Ideal

@[expose] public section

noncomputable section

namespace Cert.KerRun

open Cert.KernelIdeal Cert.KernelIdeal.Gen
open Idealize.ShloMosaic Idealize.ShloMosaic.TcCoe

/-- An array of a number per image and box. -/
abbrev Big := FVec Ideal S8x5376 .f32
/-- A number per image. -/
abbrev Col := FVec Ideal S8x1 .f32
/-- A number per image and output slot. -/
abbrev Lane := FVec Ideal S8x128 .f32

/-- The halving tree over the boxes: 5376 columns combined into 128. -/
def tree {α : Type} (op : α → α → α) (v : S8x5376.Idx → α) : S8x128.Idx → α :=
  let a : S8x2688.Idx → α := fun i => op (extractStridedSlice S8x2688 ![0, 0] v slices_S8x5376_o0_0_S8x2688 i)
    (extractStridedSlice S8x2688 ![0, 2688] v slices_S8x5376_o0_2688_S8x2688 i)
  let b : S8x1280.Idx → α := fun i => op (extractStridedSlice S8x1280 ![0, 0] a slices_S8x2688_o0_0_S8x1280 i)
    (extractStridedSlice S8x1280 ![0, 1280] a slices_S8x2688_o0_1280_S8x1280 i)
  let c : S8x640.Idx → α := fun i => op (extractStridedSlice S8x640 ![0, 0] b slices_S8x1280_o0_0_S8x640 i)
    (extractStridedSlice S8x640 ![0, 640] b slices_S8x1280_o0_640_S8x640 i)
  let d : S8x256.Idx → α := fun i => op (extractStridedSlice S8x256 ![0, 0] c slices_S8x640_o0_0_S8x256 i)
    (extractStridedSlice S8x256 ![0, 256] c slices_S8x640_o0_256_S8x256 i)
  fun i => op (op (op (extractStridedSlice S8x128 ![0, 0] d slices_S8x256_o0_0_S8x128 i)
    (extractStridedSlice S8x128 ![0, 128] d slices_S8x256_o0_128_S8x128 i))
    (extractStridedSlice S8x128 ![0, 2560] a slices_S8x2688_o0_2560_S8x128 i))
    (extractStridedSlice S8x128 ![0, 512] c slices_S8x640_o0_512_S8x128 i)

/-- The smallest key among the boxes whose score is the best one. -/
def kIdx (key : IVec S8x5376 32) (best : Col) (sc : Big) : IVec S8x1 32 :=
  shapeCast S8x1 (multiReductionI .minsi [1] S8
    (tree IntOp.minsi (select (cmpf .oeq sc (broadcastTo S8x5376 best broadcasts_S8x1_S8x5376)) key (broadcast S8x5376 1073741824#32)))
    2147483647#32 reduces_S8x128_S8 rfl) shapeCasts_S8_S8x1

/-- Whether a box is the chosen one. -/
def kMask (ii : IVec S8x5376 32) (kidx : IVec S8x1 32) : IVec S8x5376 1 :=
  cmpi .eq ii (broadcastTo S8x5376 (shrui kidx (broadcast S8x1 7#32)) broadcasts_S8x1_S8x5376)

/-- Whether the best score is positive. -/
def kValid (best : Col) : IVec S8x1 1 := cmpf .ogt best (broadcast S8x1 (Scalar.ofBits .f32 0x00000000#32))

/-- The entry of the chosen box, as a sum over the boxes. -/
def kSel (mask : IVec S8x5376 1) (x : Big) : Col :=
  shapeCast S8x1 (multiReduction .add [1] S8
    (tree (FloatOps.addf (F := Ideal) (φ := .f32)) (select mask x (broadcast S8x5376 (Scalar.ofBits .f32 0x00000000#32))))
    0x00000000#32 reduces_S8x128_S8 (.inl rfl) rfl) shapeCasts_S8_S8x1

/-- The chosen box's class. -/
def kCls (kidx : IVec S8x1 32) : Col := sitofp .f32 (andi kidx (broadcast S8x1 127#32))

/-- The chosen box's class offset. -/
def kOff (kidx : IVec S8x1 32) : Col := mulf (kCls kidx) (broadcast S8x1 (Scalar.ofBits .f32 0x45800000#32))

/-- The best score after a step: the largest of the new scores. -/
def kBest (sc : Big) : Col :=
  shapeCast S8x1 (multiReduction .maximumf [1] S8 (tree (FloatOps.maximumf (F := Ideal) (φ := .f32)) sc)
    0xFF800000#32 reduces_S8x128_S8 (.inl rfl) rfl) shapeCasts_S8_S8x1

/-- The overlap of every box with the chosen one (its four offset corners given). -/
def kInter (b0 b1 b2 b3 : Col) (o1 o2 o3 o4 : Big) : Big :=
  mulf
    (maximumf (subf (minimumf (broadcastTo S8x5376 b2 broadcasts_S8x1_S8x5376) o3) (maximumf (broadcastTo S8x5376 b0 broadcasts_S8x1_S8x5376) o1))
      (broadcast S8x5376 (Scalar.ofBits .f32 0x00000000#32)))
    (maximumf (subf (minimumf (broadcastTo S8x5376 b3 broadcasts_S8x1_S8x5376) o4) (maximumf (broadcastTo S8x5376 b1 broadcasts_S8x1_S8x5376) o2))
      (broadcast S8x5376 (Scalar.ofBits .f32 0x00000000#32)))

/-- The scores after a step, from the overlap and the chosen box's area. -/
def kRest (sc : Big) (mask : IVec S8x5376 1) (valid : IVec S8x1 1) (inter : Big) (ba : Col) (ar : Big) : Big :=
  select mask (broadcast S8x5376 (Scalar.ofBits .f32 0xBF800000#32))
    (select (andi (cmpf .oge (divf inter (addf (subf (addf (broadcastTo S8x5376 ba broadcasts_S8x1_S8x5376) ar) inter)
          (broadcast S8x5376 (Scalar.ofBits .f32 0x3089705F#32)))) (broadcast S8x5376 (Scalar.ofBits .f32 0x3F19999A#32)))
        (broadcastTo S8x5376 valid broadcasts_S8x1_S8x5376))
      (broadcast S8x5376 (Scalar.ofBits .f32 0xBF800000#32)) sc)

/-- The scores after a step, from the chosen box's offset corners. -/
def kNew (sc : Big) (mask : IVec S8x5376 1) (valid : IVec S8x1 1) (b0 b1 b2 b3 : Col) (o1 o2 o3 o4 ar : Big) : Big :=
  kRest sc mask valid (kInter b0 b1 b2 b3 o1 o2 o3 o4) (mulf (subf b2 b0) (subf b3 b1)) ar

/-- The output slots after a step: slot `t` takes the value (the default where the best score is not positive). -/
def kPut (ti : IVec S8x128 32) (t : BitVec 32) (valid : IVec S8x1 1) (v : Col) (dflt : BitVec 32) (acc : Lane) : Lane :=
  select (cmpi .eq ti (broadcast S8x128 t))
    (broadcastTo S8x128 (shapeCast S8x1 (select valid v (broadcast S8x1 (Scalar.ofBits .f32 dflt))) shapeCasts_S8x1_S8x1) broadcasts_S8x1_S8x128) acc

variable (key ii : IVec S8x5376 32) (kidx : IVec S8x1 32) (best : Col) (sc x y z w : Big) (mask : IVec S8x5376 1) (valid : IVec S8x1 1)

theorem pay9_eq : k1_pay9 key best sc = kIdx key best sc := rfl
theorem pay10_eq : k1_pay10 ii key best sc = kMask ii (kIdx key best sc) := rfl
theorem pay11_eq : k1_pay11 best = kValid best := rfl
theorem pay17_eq : k1_pay17 (k1_pay13 ii key best sc x) (k1_pay15 ii key best sc x) (k1_pay16 ii key best sc x)
    = kSel (kMask ii (kIdx key best sc)) x := rfl
theorem pay18_eq : k1_pay18 mask x = kSel mask x := rfl
theorem pay25_eq : k1_pay25 (k1_pay20 mask x) (k1_pay22 mask x) (k1_pay23 mask x) (k1_pay24 mask x) = kSel mask x := rfl
theorem pay26_eq : k1_pay26 mask x = kSel mask x := rfl
theorem pay27_eq : k1_pay27 (F := Ideal) kidx = kCls kidx := rfl
theorem pay29_eq (v : Col) : k1_pay29 kidx v = addf v (kOff kidx) := rfl
theorem pay30_eq (v : Col) : k1_pay30 kidx v = addf v (kOff kidx) := rfl
theorem pay31_eq : k1_pay31 kidx (k1_pay20 mask x) (k1_pay22 mask x) (k1_pay23 mask x) (k1_pay24 mask x) = addf (kSel mask x) (kOff kidx) := rfl
theorem pay32_eq : k1_pay32 kidx mask x = addf (kSel mask x) (kOff kidx) := rfl
theorem pay33_eq (v : Col) : k1_pay33 kidx v x = maximumf (broadcastTo S8x5376 (addf v (kOff kidx)) broadcasts_S8x1_S8x5376) x := rfl
theorem pay34_eq (v : Col) : k1_pay34 kidx v x = maximumf (broadcastTo S8x5376 (addf v (kOff kidx)) broadcasts_S8x1_S8x5376) x := rfl
theorem pay35_eq (b0 b1 b2 b3 : Col) (ar : Big) : k1_pay35 sc mask valid b0 b1 b2 b3
      (maximumf (broadcastTo S8x5376 b0 broadcasts_S8x1_S8x5376) x) (maximumf (broadcastTo S8x5376 b1 broadcasts_S8x1_S8x5376) y) z w ar
    = kNew sc mask valid b0 b1 b2 b3 x y z w ar := rfl
theorem pay36_eq (b0 b1 b2 b3 : Col) (ar : Big) : k1_pay36 sc mask valid b0 b1 b2 b3
      (maximumf (broadcastTo S8x5376 b0 broadcasts_S8x1_S8x5376) x) (maximumf (broadcastTo S8x5376 b1 broadcasts_S8x1_S8x5376) y) z w ar
    = kNew sc mask valid b0 b1 b2 b3 x y z w ar := (shapeCast_self _ _).trans (pay35_eq sc x y z w mask valid b0 b1 b2 b3 ar)
theorem pay43_eq (b0 b1 b2 b3 : Col) (u v p q ar : Big) : k1_pay43 (k1_pay38 sc mask valid b0 b1 b2 b3 u v p q ar)
      (k1_pay40 sc mask valid b0 b1 b2 b3 u v p q ar) (k1_pay41 sc mask valid b0 b1 b2 b3 u v p q ar) (k1_pay42 sc mask valid b0 b1 b2 b3 u v p q ar)
    = kBest (k1_pay35 sc mask valid b0 b1 b2 b3 u v p q ar) := rfl

section Put
variable (ti : IVec S8x128 32) (t : BitVec 32) (v : Col) (acc : Lane)
theorem pay45_eq : k1_pay45 ti acc t valid v = kPut ti t valid v 0x00000000#32 acc := rfl
theorem pay46_eq : k1_pay46 ti acc t valid v = kPut ti t valid v 0x00000000#32 acc := rfl
theorem pay47_eq : k1_pay47 ti acc t valid v = kPut ti t valid v 0x00000000#32 acc := rfl
theorem pay48_eq : k1_pay48 ti acc t valid v = kPut ti t valid v 0x00000000#32 acc := rfl
theorem pay49_eq : k1_pay49 ti acc v t valid = kPut ti t valid v 0x00000000#32 acc := rfl
theorem pay50_eq : k1_pay50 ti acc t valid v = kPut ti t valid v 0xBF800000#32 acc := rfl
theorem pay107_eq : k1_pay107 acc (k1_pay77 ti t) (k1_pay78 valid v) = kPut ti t valid v 0x00000000#32 acc := rfl
theorem pay108_eq : k1_pay108 acc (k1_pay77 ti t) (k1_pay79 valid v) = kPut ti t valid v 0x00000000#32 acc := rfl
theorem pay109_eq : k1_pay109 acc (k1_pay77 ti t) (k1_pay80 valid v) = kPut ti t valid v 0x00000000#32 acc := rfl
theorem pay110_eq : k1_pay110 acc valid v (k1_pay77 ti t) = kPut ti t valid v 0x00000000#32 acc := rfl
theorem pay111_eq : k1_pay111 v acc valid (k1_pay77 ti t) = kPut ti t valid v 0x00000000#32 acc := rfl
theorem pay112_eq : k1_pay112 acc valid v (k1_pay77 ti t) = kPut ti t valid v 0xBF800000#32 acc := rfl
end Put

section Second
variable (a b : Lane) (c d : FVec Ideal S8x256 .f32) (i1 : IVec S8x2688 32) (i2 : IVec S8x128 32) (i3 : IVec S8x1280 32)
theorem pay54_eq : k1_pay54 (k1_pay51 key a b c d sc) (k1_pay52 key a b c d sc) (k1_pay53 key a b c d sc) = kIdx key (k1_pay43 a b c d) sc := rfl
theorem pay55_eq : k1_pay55 ii i1 i2 i3 = kMask ii (k1_pay54 i1 i2 i3) := rfl
theorem pay56_eq : k1_pay56 best = kValid best := rfl
theorem pay57_eq : k1_pay57 ii i1 i2 i3 x = kSel (kMask ii (k1_pay54 i1 i2 i3)) x := rfl
theorem pay60_eq : k1_pay60 (k1_pay58 ii i1 i2 i3 x) (k1_pay59 ii i1 i2 i3 x) = kSel (kMask ii (k1_pay54 i1 i2 i3)) x := rfl
theorem pay61_eq : k1_pay61 mask x = kSel mask x := rfl
theorem pay65_eq : k1_pay65 (k1_pay62 mask x) (k1_pay63 mask x) (k1_pay64 mask x) = kSel mask x := rfl
theorem pay66_eq : k1_pay66 (F := Ideal) kidx = kCls kidx := rfl
theorem pay72_eq (v0 v1 v2 : Col) : k1_pay72 kidx v0 v1 v2 (k1_pay62 mask sc) (k1_pay63 mask sc) (k1_pay64 mask sc) x y z w
    = kInter (addf v0 (kOff kidx)) (addf v1 (kOff kidx)) (addf v2 (kOff kidx)) (addf (kSel mask sc) (kOff kidx)) x y z w := rfl
theorem pay73_eq (v0 v1 v2 : Col) : k1_pay73 kidx v0 v1 v2 (k1_pay62 mask sc) (k1_pay63 mask sc) (k1_pay64 mask sc)
    = mulf (subf (addf v2 (kOff kidx)) (addf v0 (kOff kidx))) (subf (addf (kSel mask sc) (kOff kidx)) (addf v1 (kOff kidx))) := rfl
theorem pay75_eq (v : Col) : k1_pay75 sc mask valid x v y = kRest sc mask valid x v y := shapeCast_self _ _
theorem pay76_eq (v : Col) : k1_pay76 sc mask valid x v y = kBest (kRest sc mask valid x v y) := rfl
end Second

/-- The arrays a step reads and does not change: the boxes' keys and numbers, the slots' numbers, the boxes, the offset boxes and their areas. -/
structure Env where
  key : IVec S8x5376 32
  ii : IVec S8x5376 32
  ti : IVec S8x128 32
  o1 : Big
  o2 : Big
  o3 : Big
  o4 : Big
  ar : Big
  r1 : Big
  r2 : Big
  r3 : Big
  r4 : Big

/-- What the loop carries in its values: the six output slots and the best score. -/
abbrev Acc := Lane × Lane × Lane × Lane × Lane × Lane × Col

variable (E : Env)

/-- The key of the box a step chooses. -/
def cKey (best : Col) (sc : Big) : IVec S8x1 32 := kIdx E.key best sc
/-- Where the chosen box is. -/
def cMask (best : Col) (sc : Big) : IVec S8x5376 1 := kMask E.ii (cKey E best sc)
/-- The scores after a step. -/
def cNew (best : Col) (sc : Big) : Big :=
  kNew sc (cMask E best sc) (kValid best)
    (addf (kSel (cMask E best sc) E.r1) (kOff (cKey E best sc))) (addf (kSel (cMask E best sc) E.r2) (kOff (cKey E best sc)))
    (addf (kSel (cMask E best sc) E.r3) (kOff (cKey E best sc))) (addf (kSel (cMask E best sc) E.r4) (kOff (cKey E best sc)))
    E.o1 E.o2 E.o3 E.o4 E.ar
/-- The carried values after step `t`. -/
def cAcc (t : BitVec 32) (a : Acc) (sc : Big) : Acc :=
  let b := a.2.2.2.2.2.2
  (kPut E.ti t (kValid b) (kSel (cMask E b sc) E.r1) 0x00000000#32 a.1,
   kPut E.ti t (kValid b) (kSel (cMask E b sc) E.r2) 0x00000000#32 a.2.1,
   kPut E.ti t (kValid b) (kSel (cMask E b sc) E.r3) 0x00000000#32 a.2.2.1,
   kPut E.ti t (kValid b) (kSel (cMask E b sc) E.r4) 0x00000000#32 a.2.2.2.1,
   kPut E.ti t (kValid b) b 0x00000000#32 a.2.2.2.2.1,
   kPut E.ti t (kValid b) (kCls (cKey E b sc)) 0xBF800000#32 a.2.2.2.2.2.1,
   kBest (cNew E b sc))

end Cert.KerRun

end
-- ==== Proof.Spec.lean ====
/- The detection head written as functions on the extended reals: box decoding, box scores, and greedy non-maximum suppression of one image. No program is named here. -/
module

public import Idealize.ShloMosaic.PureOps.Ideal
public import Idealize.ShloMosaic.PureOps.Ideal.Laws

@[expose] public section

noncomputable section

namespace Cert.Spec

open Idealize.ShloMosaic

/-- A printed constant's value. -/
abbrev lit (b : BitVec 32) : EReal := Ideal.ofBits .f32 b

/-! ## The first position of the largest entry -/

/-- The position `i` holds a largest entry, and no earlier position does. -/
def IsFirst {n : ℕ} (f : Fin n → EReal) (i : Fin n) : Prop := (∀ j, f j ≤ f i) ∧ ∀ j, j < i → f j ≠ f i

/-- There is at most one such position. -/
theorem IsFirst.unique {n : ℕ} {f : Fin n → EReal} {i j : Fin n} (hi : IsFirst f i) (hj : IsFirst f j) : i = j := by
  have e : f i = f j := le_antisymm (hj.1 i) (hi.1 j)
  rcases lt_trichotomy i j with h | h | h
  · exact absurd e (hj.2 i h)
  · exact h
  · exact absurd e.symm (hi.2 j h)

/-- There is one where there is a position at all. -/
theorem exists_isFirst {n : ℕ} [NeZero n] (f : Fin n → EReal) : ∃ i, IsFirst f i := by
  obtain ⟨m, -, hm⟩ := Finset.exists_max_image (Finset.univ : Finset (Fin n)) f ⟨0, Finset.mem_univ _⟩
  have hne : (Finset.univ.filter fun j => f j = f m).Nonempty := ⟨m, by simp⟩
  refine ⟨(Finset.univ.filter fun j => f j = f m).min' hne, ?_, ?_⟩
  · have := (Finset.mem_filter.mp (Finset.min'_mem _ hne)).2
    intro j; rw [this]; exact hm j (Finset.mem_univ _)
  · intro j hj e
    have := (Finset.mem_filter.mp (Finset.min'_mem _ hne)).2
    exact absurd (Finset.min'_le _ j (by simp [e, this])) (not_le.mpr hj)

/-- The first position of the largest entry. -/
def first {n : ℕ} [NeZero n] (f : Fin n → EReal) : Fin n := (exists_isFirst f).choose

theorem first_spec {n : ℕ} [NeZero n] (f : Fin n → EReal) : IsFirst f (first f) := (exists_isFirst f).choose_spec

theorem IsFirst.eq_first {n : ℕ} [NeZero n] {f : Fin n → EReal} {i : Fin n} (h : IsFirst f i) : i = first f :=
  h.unique (first_spec f)

/-- The largest entry. -/
def best {n : ℕ} (f : Fin n → EReal) : EReal := Finset.univ.fold max (lit 0xFF800000#32) f

theorem lit_bot : lit 0xFF800000#32 = ⊥ := by
  unfold lit Ideal.ofBits
  simp [Ideal.ieee]

theorem fold_max_le {n : ℕ} (f : Fin n → EReal) (c : EReal) : best f ≤ c ↔ ∀ i, f i ≤ c := by
  unfold best
  rw [Finset.fold_max_le, lit_bot]
  simp

/-- The largest entry is the entry at its first position. -/
theorem best_eq {n : ℕ} [NeZero n] (f : Fin n → EReal) : best f = f (first f) :=
  le_antisymm ((fold_max_le f _).mpr (first_spec f).1) ((fold_max_le f _).mp le_rfl _)

theorem IsFirst.of_best {n : ℕ} [NeZero n] {f : Fin n → EReal} {i : Fin n} (h : f i = best f) (h' : ∀ j, j < i → f j ≠ best f) :
    IsFirst f i :=
  ⟨fun j => h ▸ (fold_max_le f _).mp le_rfl j, fun j hj => h ▸ h' j hj⟩

/-! ## One box -/

/-- The lower end of a decoded interval: anchor ends `u`, `v`, predicted distances `p`, `q`. -/
def lo (u v p q : EReal) : EReal :=
  lit 0x3F000000#32 * ((lit 0x3F000000#32 * (u + v) - p * (v - u)) + (lit 0x3F000000#32 * (u + v) + q * (v - u)))
    - lit 0x3F000000#32 * ((lit 0x3F000000#32 * (u + v) + q * (v - u)) - (lit 0x3F000000#32 * (u + v) - p * (v - u)))

/-- The upper end. -/
def hi (u v p q : EReal) : EReal :=
  lit 0x3F000000#32 * ((lit 0x3F000000#32 * (u + v) - p * (v - u)) + (lit 0x3F000000#32 * (u + v) + q * (v - u)))
    + lit 0x3F000000#32 * ((lit 0x3F000000#32 * (u + v) + q * (v - u)) - (lit 0x3F000000#32 * (u + v) - p * (v - u)))

/-- The four corners of a decoded box: anchor `a`, prediction `p`. -/
def corner (a p : Fin 4 → EReal) (r : Fin 4) : EReal :=
  match r with
  | 0 => lo (a 0) (a 2) (p 0) (p 2)
  | 1 => lo (a 1) (a 3) (p 1) (p 3)
  | 2 => hi (a 0) (a 2) (p 0) (p 2)
  | 3 => hi (a 1) (a 3) (p 1) (p 3)

/-- A box's class scores. -/
def probs (c : Fin 80 → EReal) (k : Fin 80) : EReal := Ideal.logistic (c k)

/-- A box's score before the threshold. -/
def conf (o : EReal) (c : Fin 80 → EReal) : EReal := Ideal.sqrt (Ideal.logistic o * best (probs c))

/-- A box's score: minus one under the threshold. -/
def score (o : EReal) (c : Fin 80 → EReal) : EReal :=
  if lit 0x3E4CCCCD#32 < conf o c then conf o c else lit 0xBF800000#32

/-- A box's class. -/
def cls (c : Fin 80 → EReal) : Fin 80 := first (probs c)

/-- A class as a number. -/
def num (k : Fin 80) : EReal := ((k.val : ℝ) : EReal)

/-! ## Suppression -/

/-- One image's boxes: corners and class. -/
structure Boxes where
  /-- a corner of a box -/
  at_ : Fin 4 → Fin 5376 → EReal
  /-- a box's class -/
  kind : Fin 5376 → Fin 80

namespace Boxes
variable (B : Boxes)

/-- A corner moved apart by class. -/
def moved (r : Fin 4) (j : Fin 5376) : EReal := B.at_ r j + num (B.kind j) * lit 0x45800000#32

/-- The area of a moved box. -/
def area (j : Fin 5376) : EReal := (B.moved 2 j - B.moved 0 j) * (B.moved 3 j - B.moved 1 j)

/-- The overlap of two moved boxes. -/
def inter (i j : Fin 5376) : EReal :=
  max (min (B.moved 2 i) (B.moved 2 j) - max (B.moved 0 i) (B.moved 0 j)) 0
    * max (min (B.moved 3 i) (B.moved 3 j) - max (B.moved 1 i) (B.moved 1 j)) 0

/-- The overlap over the union. -/
def iou (i j : Fin 5376) : EReal := Ideal.div (B.inter i j) (B.area i + B.area j - B.inter i j + lit 0x3089705F#32)

/-- The scores after the best box is taken: it and the boxes it overlaps lose their score. -/
def next (sc : Fin 5376 → EReal) (j : Fin 5376) : EReal :=
  if j = first sc then lit 0xBF800000#32
  else if lit 0x3F19999A#32 ≤ B.iou (first sc) j ∧ 0 < best sc then lit 0xBF800000#32 else sc j

/-- What is reported for the best box: corners, score, class (nothing where the best score is not positive). -/
def report (sc : Fin 5376 → EReal) (r : Fin 6) : EReal :=
  match r with
  | 0 => if 0 < best sc then B.at_ 0 (first sc) else 0
  | 1 => if 0 < best sc then B.at_ 1 (first sc) else 0
  | 2 => if 0 < best sc then B.at_ 2 (first sc) else 0
  | 3 => if 0 < best sc then B.at_ 3 (first sc) else 0
  | 4 => if 0 < best sc then best sc else 0
  | 5 => if 0 < best sc then num (B.kind (first sc)) else lit 0xBF800000#32

/-- The scores after `t` steps. -/
def scores (sc : Fin 5376 → EReal) : ℕ → Fin 5376 → EReal
  | 0 => sc
  | t + 1 => B.next (scores sc t)

end Boxes

/-! ## The three grids in one row -/

/-- An entry of the long row, from the three grids' entries. -/
def glue {α : Type} (f : Fin 4096 → α) (g : Fin 1024 → α) (h : Fin 256 → α) (j : Fin 5376) : α :=
  if h1 : j.val < 4096 then f ⟨j.val, h1⟩
  else if h2 : j.val < 5120 then g ⟨j.val - 4096, by omega⟩
  else h ⟨j.val - 5120, by have := j.isLt; omega⟩

theorem glue_0 {α : Type} (f : Fin 4096 → α) (g : Fin 1024 → α) (h : Fin 256 → α) (j : Fin 4096) :
    glue f g h ⟨j.val, by omega⟩ = f j := by
  unfold glue; rw [dif_pos (show j.val < 4096 from j.isLt)]

theorem glue_1 {α : Type} (f : Fin 4096 → α) (g : Fin 1024 → α) (h : Fin 256 → α) (j : Fin 1024) :
    glue f g h ⟨4096 + j.val, by omega⟩ = g j := by
  have h1 : ¬ 4096 + j.val < 4096 := by omega
  have h2 : 4096 + j.val < 5120 := by omega
  have h3 : (⟨4096 + j.val - 4096, by omega⟩ : Fin 1024) = j := Fin.ext (by show 4096 + j.val - 4096 = j.val; omega)
  simp only [glue, h1, h2, dite_true, dite_false, h3]

theorem glue_2 {α : Type} (f : Fin 4096 → α) (g : Fin 1024 → α) (h : Fin 256 → α) (j : Fin 256) :
    glue f g h ⟨5120 + j.val, by omega⟩ = h j := by
  have h1 : ¬ 5120 + j.val < 4096 := by omega
  have h2 : ¬ 5120 + j.val < 5120 := by omega
  have h3 : (⟨5120 + j.val - 5120, by omega⟩ : Fin 256) = j := Fin.ext (by show 5120 + j.val - 5120 = j.val; omega)
  simp only [glue, h1, h2, dite_false, h3]

/-- The three grids' anchors, predictions, objectness and class scores of one image. -/
structure Raw where
  /-- anchors -/
  anc : Fin 5376 → Fin 4 → EReal
  /-- predicted distances -/
  prd : Fin 5376 → Fin 4 → EReal
  /-- objectness -/
  obj : Fin 5376 → EReal
  /-- class scores -/
  cla : Fin 5376 → Fin 80 → EReal

/-- One image's decoded boxes. -/
def Raw.boxes (R : Raw) : Boxes where
  at_ r j := corner (R.anc j) (R.prd j) r
  kind j := cls (R.cla j)

/-- One image's box scores. -/
def Raw.start (R : Raw) (j : Fin 5376) : EReal := score (R.obj j) (R.cla j)

/-- One image's reported row `t`. -/
def Raw.result (R : Raw) (t : ℕ) (r : Fin 6) : EReal := R.boxes.report (R.boxes.scores R.start t) r

end Cert.Spec
-- ==== Proof.KerTree.lean ====
/- Combining the 5376 columns by the halving tree and then along the 128 lanes combines all of them, for any commutative and associative operation. -/
module

public import proofs.«01_k».proof.Proof.KerStep
public import proofs.«01_k».proof.Proof.Spec
public import Idealize.ShloMosaic.Lib.Pointwise

@[expose] public section

noncomputable section

namespace Cert.KerRun

open Cert.KernelIdeal Cert.KernelIdeal.Gen
open Idealize.ShloMosaic Idealize.ShloMosaic.TcCoe Idealize.ShloMosaic.Pointwise

section
variable {α : Type} (op : α → α → α) [Std.Commutative op] [Std.Associative op] (e : α)

/-- Over `n + m` numbers: over the first `n` and the next `m`. -/
theorem fold_range_add (he : ∀ x, op e x = x) (g : ℕ → α) (n m : ℕ) :
    (Finset.range (n + m)).fold op e g = op ((Finset.range n).fold op e g) ((Finset.range m).fold op e fun i => g (n + i)) := by
  induction m with
  | zero => rw [Nat.add_zero, Finset.range_zero, Finset.fold_empty, Std.Commutative.comm (op := op), he]
  | succ m ih =>
    rw [← Nat.add_assoc, Finset.range_add_one, Finset.fold_insert Finset.notMem_range_self, ih, Finset.range_add_one,
      Finset.fold_insert Finset.notMem_range_self, ← Std.Associative.assoc (op := op), ← Std.Associative.assoc (op := op),
      Std.Commutative.comm (op := op) (g (n + m))]

/-- Of two functions combined: the two results combined. -/
theorem fold_both (he : ∀ x, op e x = x) (g h : ℕ → α) (n : ℕ) :
    (Finset.range n).fold op e (fun i => op (g i) (h i)) = op ((Finset.range n).fold op e g) ((Finset.range n).fold op e h) := by
  have := Finset.fold_op_distrib (op := op) (f := g) (g := h) (s := Finset.range n) (b₁ := e) (b₂ := e)
  rw [he] at this; exact this

/-- Over the numbers under `n`, by either name. -/
theorem fold_fin (g : ℕ → α) (n : ℕ) : (Finset.univ : Finset (Fin n)).fold op e (fun i => g i.val) = (Finset.range n).fold op e g := by
  rw [← Nat.Iio_eq_range, ← Fin.map_valEmbedding_univ, Finset.fold_map]; rfl

theorem fold_tree (he : ∀ x, op e x = x) (v : S8x5376.Idx → α) (b : Fin 8) :
    (Finset.univ : Finset (Fin 128)).fold op e (fun l => tree op v (ix2 b l))
      = (Finset.univ : Finset (Fin 5376)).fold op e (fun j => v (ix2 b j)) := by
  obtain ⟨g, hg⟩ : ∃ g : ℕ → α, ∀ (J : ℕ) (h : J < 5376), v (ix2 b ⟨J, h⟩) = g J :=
    ⟨fun J => if h : J < 5376 then v (ix2 b ⟨J, h⟩) else e, fun J h => by show _ = dite _ _ _; rw [dif_pos h]⟩
  have h1 : (fun j : Fin 5376 => v (ix2 b j)) = fun j => g j.val := funext fun j => hg j.val j.isLt
  let A : ℕ → α := fun l => op (g l) (g (2688 + l))
  let B : ℕ → α := fun l => op (A l) (A (1280 + l))
  let C : ℕ → α := fun l => op (B l) (B (640 + l))
  let D : ℕ → α := fun l => op (C l) (C (256 + l))
  have h2 : (fun l : Fin 128 => tree op v (ix2 b l))
      = fun l : Fin 128 => (fun l : ℕ => op (op (op (D l) (D (128 + l))) (A (2560 + l))) (C (512 + l))) l.val := funext fun l => by
    pointwise [tree]
    simp only [hg]
    rfl
  rw [h1, h2, fold_fin op e (fun l : ℕ => op (op (op (D l) (D (128 + l))) (A (2560 + l))) (C (512 + l))), fold_fin op e g]
  rw [fold_both op e he (fun l => op (op (D l) (D (128 + l))) (A (2560 + l))) (fun l => C (512 + l)),
    fold_both op e he (fun l => op (D l) (D (128 + l))) (fun l => A (2560 + l)), fold_both op e he D (fun l => D (128 + l)),
    ← fold_range_add op e he D 128 128]
  have g1 := fold_range_add op e he g 2688 2688
  rw [← fold_both op e he g (fun i => g (2688 + i))] at g1
  have g2 := fold_range_add op e he A (1280 + 1280) 128
  rw [fold_range_add op e he A 1280 1280, ← fold_both op e he A (fun i => A (1280 + i))] at g2
  have g3 := fold_range_add op e he B 640 640
  rw [← fold_both op e he B (fun i => B (640 + i))] at g3
  have g4 := fold_range_add op e he C (256 + 256) 128
  rw [fold_range_add op e he C 256 256, ← fold_both op e he C (fun i => C (256 + i))] at g4
  refine Eq.symm (g1.trans (g2.trans ?_))
  refine (congrArg (fun x => op x _) (g3.trans g4)).trans ?_
  rw [Std.Associative.assoc (op := op), Std.Associative.assoc (op := op)]
  exact congrArg (op _) (Std.Commutative.comm (op := op) _ _)
end

/-! ## The three reductions -/

instance : Std.Commutative (IntOp.minsi (w := 32)) := ⟨fun x y => by
  unfold IntOp.minsi
  simp only [BitVec.slt_eq_decide, decide_eq_true_eq]
  split <;> split
  · omega
  · rfl
  · rfl
  · exact BitVec.eq_of_toInt_eq (by omega)⟩

instance : Std.Associative (IntOp.minsi (w := 32)) := ⟨fun x y z => by
  unfold IntOp.minsi
  simp only [BitVec.slt_eq_decide, decide_eq_true_eq]
  repeat' split
  all_goals first | rfl | omega⟩

theorem minsi_top (x : BitVec 32) : IntOp.minsi 2147483647#32 x = x := by
  unfold IntOp.minsi
  have := x.toInt_lt
  have e : (2147483647#32 : BitVec 32).toInt = 2147483647 := by decide
  simp only [BitVec.slt_eq_decide, decide_eq_true_eq, e]
  split
  · omega
  · rfl

theorem kBest_apply (sc : Big) (b : Fin 8) :
    kBest sc (ix2 b 0) = Spec.best fun j : Fin 5376 => sc (ix2 b j) := by
  unfold Spec.best
  rw [← fold_tree (α := EReal) max (Ideal.ofBits .f32 0xFF800000#32) ?_ sc b]
  · pointwise [kBest]
  · intro x; show max (Spec.lit 0xFF800000#32) x = x; rw [Spec.lit_bot, max_eq_right bot_le]

theorem kSel_apply (mask : IVec S8x5376 1) (x : Big) (b : Fin 8) :
    kSel mask x (ix2 b 0) = ∑ j : Fin 5376, if mask (ix2 b j) = 1 then x (ix2 b j) else 0 := by
  have := fold_tree (α := EReal) (· + ·) 0 zero_add
    (select mask x (broadcast S8x5376 (Scalar.ofBits (F := Ideal) .f32 0x00000000#32))) b
  refine Eq.trans ?_ (this.trans ?_)
  · pointwise [kSel]
    rfl
  · pointwise
    rfl

theorem kIdx_apply (key : IVec S8x5376 32) (best : Col) (sc : Big) (b : Fin 8) :
    kIdx key best sc (ix2 b 0) = Finset.univ.fold IntOp.minsi 2147483647#32 fun j : Fin 5376 =>
      if sc (ix2 b j) = best (ix2 b 0) then key (ix2 b j) else 1073741824#32 := by
  have := fold_tree (α := BitVec 32) IntOp.minsi 2147483647#32 minsi_top
    (select (cmpf .oeq sc (broadcastTo S8x5376 best broadcasts_S8x1_S8x5376)) key (broadcast S8x5376 1073741824#32)) b
  refine Eq.trans ?_ (this.trans ?_)
  · pointwise [kIdx]
  · pointwise

end Cert.KerRun
-- ==== Proof.KerTrip.lean ====
/- A trip of the kernel's suppression loop is two steps. -/
module

public import proofs.«01_k».proof.Proof.KerStep
public import Idealize.ShloMosaic.Lib.VecWindow
public import Idealize.ShloMosaic.PureOps.Ideal

@[expose] public section

noncomputable section

namespace Cert.KerRun

open Cert.KernelIdeal Cert.KernelIdeal.Gen
open Idealize.ShloMosaic Idealize.ShloMosaic.TcCoe Idealize.ShloMosaic.Tactic

/-- A load of a whole scratch array. -/
abbrev ldWhole (a : Memref sig .tc .vmem S8x5376 .f32) (X : BufTy.Contents (Elt Ideal) a.view.ty) : Big :=
  View.readAt (Elt Ideal) a.view (Rect.unit ![0, 0] S8x5376.size inb_S8x5376_S8x5376_0_0).toLoadRect X

/-- Two steps of the loop: the carried values and the scores. -/
def twoSteps (E : Env) (k : ℕ) (a : Acc) (sc : Big) : Acc × Big :=
  let a1 := cAcc E (Scalar.muli 2#32 (Scf.iv 0#32 1#32 k)) a sc
  let sc1 := cNew E a.2.2.2.2.2.2 sc
  (cAcc E (Scalar.addi (Scalar.muli 2#32 (Scf.iv 0#32 1#32 k)) 1#32) a1 sc1, cNew E a1.2.2.2.2.2.2 sc1)

/-- A load of a whole scratch array just stored reads what was stored. -/
theorem cov_eq (a : Memref sig .tc .vmem S8x5376 .f32) (w : Big) (L : List (View.Piece (Elt Ideal) S8x5376 .f32)) :
    a.view.readCov (⟨Rect.unit ![0, 0] S8x5376.size inb_S8x5376_S8x5376_0_0, w⟩ :: L) (Rect.unit ![0, 0] S8x5376.size inb_S8x5376_S8x5376_0_0).toLoadRect = w :=
  View.readCov_full (Val := Elt Ideal) (s := S8x5376) (e := .f32) a.view (off := ![0, 0]) (off' := ![0, 0]) inb_S8x5376_S8x5376_0_0 inb_S8x5376_S8x5376_0_0 w L

set_option maxRecDepth 8192
set_option maxHeartbeats 4000000

/-- What a trip stores last into the scores. -/
theorem tripL_eq (𝒱 : Variants) (c : Dev nD) (bd : Option 𝒱.V) (arg0 : Memref sig .tc .vmem S8x8x5376 .f32) (harg0 : arg0.IsWhole) (arg1 : Memref sig .tc .vmem S8x8x128 .f32) (harg1 : arg1.IsWhole) (arg2 : Memref sig .tc .vmem S8x5376 .f32) (harg2 : arg2.IsWhole) (arg3 : Memref sig .tc .vmem S8x5376 .f32) (harg3 : arg3.IsWhole) (arg4 : Memref sig .tc .vmem S8x5376 .f32) (harg4 : arg4.IsWhole) (arg5 : Memref sig .tc .vmem S8x5376 .f32) (harg5 : arg5.IsWhole) (arg6 : Memref sig .tc .vmem S8x5376 .f32) (harg6 : arg6.IsWhole) (arg7 : Memref sig .tc .vmem S8x5376 .f32) (harg7 : arg7.IsWhole) (arg8 : Memref sig .tc .vmem S8x5376 .f32) (harg8 : arg8.IsWhole) (arg9 : Memref sig .tc .vmem S8x5376 .f32) (harg9 : arg9.IsWhole) (arg10 : Memref sig .tc .vmem S8x5376 .f32) (harg10 : arg10.IsWhole) (arg11 : Memref sig .tc .vmem S8x5376 .f32) (harg11 : arg11.IsWhole) (v1 : FVec Ideal S8x5376 .f32) (v3 : FVec Ideal S8x5376 .f32) (v5 : FVec Ideal S8x5376 .f32) (v7 : FVec Ideal S8x5376 .f32) (v9 : FVec Ideal S8x5376 .f32) (v30 : FVec Ideal S8x5376 .f32) (v46 : IVec S8x5376 32) (v51 : IVec S8x128 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (k : Fin k1_t1_loop.trips)
   (acc : Acc) (G : BufTy.Contents (Elt Ideal) arg11.view.ty) :
   tripL_k1_t1 (F := Ideal) 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 k acc G
     = [⟨Rect.unit ![0, 0] S8x5376.size inb_S8x5376_S8x5376_0_0, (twoSteps ⟨k1_pay101 v9, v46, v51, ldWhole arg2 X2, ldWhole arg3 X3, ldWhole arg4 X4, ldWhole arg5 X5, ldWhole arg6 X6, ldWhole arg7 X7, ldWhole arg8 X8, ldWhole arg9 X9, ldWhole arg10 X10⟩ k acc (ldWhole arg11 G)).2⟩,
        ⟨Rect.unit ![0, 0] S8x5376.size inb_S8x5376_S8x5376_0_0, cNew ⟨k1_pay101 v9, v46, v51, ldWhole arg2 X2, ldWhole arg3 X3, ldWhole arg4 X4, ldWhole arg5 X5, ldWhole arg6 X6, ldWhole arg7 X7, ldWhole arg8 X8, ldWhole arg9 X9, ldWhole arg10 X10⟩ acc.2.2.2.2.2.2 (ldWhole arg11 G)⟩] := by
  unfold tripL_k1_t1 trip_k1_t1
  dsimp only
  sl_unfold_words
  simp (config := { proj := false }) only [cov_eq, pay9_eq, pay10_eq, pay11_eq, pay17_eq, pay18_eq, pay25_eq, pay26_eq, pay27_eq, pay29_eq, pay30_eq, pay31_eq, pay32_eq, pay33_eq, pay34_eq, pay35_eq, pay36_eq, pay43_eq, pay45_eq, pay46_eq, pay47_eq, pay48_eq, pay49_eq, pay50_eq, pay107_eq, pay108_eq, pay109_eq, pay110_eq, pay111_eq, pay112_eq, pay54_eq, pay55_eq, pay56_eq, pay57_eq, pay60_eq, pay61_eq, pay65_eq, pay66_eq, pay72_eq, pay73_eq, pay75_eq, pay76_eq]
  simp only [twoSteps, cAcc, cNew, cKey, cMask, kNew, ldWhole]

/-- What a trip leaves in the carried values. -/
theorem tripR_eq (𝒱 : Variants) (c : Dev nD) (bd : Option 𝒱.V) (arg0 : Memref sig .tc .vmem S8x8x5376 .f32) (harg0 : arg0.IsWhole) (arg1 : Memref sig .tc .vmem S8x8x128 .f32) (harg1 : arg1.IsWhole) (arg2 : Memref sig .tc .vmem S8x5376 .f32) (harg2 : arg2.IsWhole) (arg3 : Memref sig .tc .vmem S8x5376 .f32) (harg3 : arg3.IsWhole) (arg4 : Memref sig .tc .vmem S8x5376 .f32) (harg4 : arg4.IsWhole) (arg5 : Memref sig .tc .vmem S8x5376 .f32) (harg5 : arg5.IsWhole) (arg6 : Memref sig .tc .vmem S8x5376 .f32) (harg6 : arg6.IsWhole) (arg7 : Memref sig .tc .vmem S8x5376 .f32) (harg7 : arg7.IsWhole) (arg8 : Memref sig .tc .vmem S8x5376 .f32) (harg8 : arg8.IsWhole) (arg9 : Memref sig .tc .vmem S8x5376 .f32) (harg9 : arg9.IsWhole) (arg10 : Memref sig .tc .vmem S8x5376 .f32) (harg10 : arg10.IsWhole) (arg11 : Memref sig .tc .vmem S8x5376 .f32) (harg11 : arg11.IsWhole) (v1 : FVec Ideal S8x5376 .f32) (v3 : FVec Ideal S8x5376 .f32) (v5 : FVec Ideal S8x5376 .f32) (v7 : FVec Ideal S8x5376 .f32) (v9 : FVec Ideal S8x5376 .f32) (v30 : FVec Ideal S8x5376 .f32) (v46 : IVec S8x5376 32) (v51 : IVec S8x128 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (k : Fin k1_t1_loop.trips)
   (acc : Acc) (G : BufTy.Contents (Elt Ideal) arg11.view.ty) :
   tripR_k1_t1 (F := Ideal) 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 k acc G
     = (twoSteps ⟨k1_pay101 v9, v46, v51, ldWhole arg2 X2, ldWhole arg3 X3, ldWhole arg4 X4, ldWhole arg5 X5, ldWhole arg6 X6, ldWhole arg7 X7, ldWhole arg8 X8, ldWhole arg9 X9, ldWhole arg10 X10⟩ k acc (ldWhole arg11 G)).1 := by
  unfold tripR_k1_t1 trip_k1_t1
  dsimp only
  sl_unfold_words
  simp (config := { proj := false }) only [cov_eq, pay9_eq, pay10_eq, pay11_eq, pay17_eq, pay18_eq, pay25_eq, pay26_eq, pay27_eq, pay29_eq, pay30_eq, pay31_eq, pay32_eq, pay33_eq, pay34_eq, pay35_eq, pay36_eq, pay43_eq, pay45_eq, pay46_eq, pay47_eq, pay48_eq, pay49_eq, pay50_eq, pay107_eq, pay108_eq, pay109_eq, pay110_eq, pay111_eq, pay112_eq, pay54_eq, pay55_eq, pay56_eq, pay57_eq, pay60_eq, pay61_eq, pay65_eq, pay66_eq, pay72_eq, pay73_eq, pay75_eq, pay76_eq]
  simp only [twoSteps, cAcc, cNew, cKey, cMask, kNew, ldWhole]

end Cert.KerRun

end
-- ==== Proof.KerLoop.lean ====
/- The kernel's suppression loop after any number of trips. -/
module

public import proofs.«01_k».proof.Proof.KerTrip
public import Idealize.ShloMosaic.Lib.VecWindow
public import Idealize.ShloMosaic.PureOps.Ideal

@[expose] public section

noncomputable section

namespace Cert.KerRun

open Cert.KernelIdeal Cert.KernelIdeal.Gen
open Idealize.ShloMosaic Idealize.ShloMosaic.TcCoe Idealize.ShloMosaic.Tactic

/-- The carried values and the scores after `k` trips. -/
def runTrips (E : Env) (a : Acc) (sc : Big) : ℕ → Acc × Big
  | 0 => (a, sc)
  | k + 1 => twoSteps E k (runTrips E a sc k).1 (runTrips E a sc k).2

/-- A load of a whole scratch array just stored reads what was stored. -/
theorem ld_writes (a : Memref sig .tc .vmem S8x5376 .f32) (G : BufTy.Contents (Elt Ideal) a.view.ty) (w : Big) (L : List (View.Piece (Elt Ideal) S8x5376 .f32)) :
    ldWhole a (a.view.writes (Elt Ideal) G (⟨Rect.unit ![0, 0] S8x5376.size inb_S8x5376_S8x5376_0_0, w⟩ :: L)) = w :=
  View.readAt_writes_full (Val := Elt Ideal) (s := S8x5376) (e := .f32) a.view G (off := ![0, 0]) (off' := ![0, 0]) inb_S8x5376_S8x5376_0_0 inb_S8x5376_S8x5376_0_0 w L

/-- The state before trip `k` of the loop. -/
theorem st_eq (𝒱 : Variants) (c : Dev nD) (bd : Option 𝒱.V) (arg0 : Memref sig .tc .vmem S8x8x5376 .f32) (harg0 : arg0.IsWhole) (arg1 : Memref sig .tc .vmem S8x8x128 .f32) (harg1 : arg1.IsWhole) (arg2 : Memref sig .tc .vmem S8x5376 .f32) (harg2 : arg2.IsWhole) (arg3 : Memref sig .tc .vmem S8x5376 .f32) (harg3 : arg3.IsWhole) (arg4 : Memref sig .tc .vmem S8x5376 .f32) (harg4 : arg4.IsWhole) (arg5 : Memref sig .tc .vmem S8x5376 .f32) (harg5 : arg5.IsWhole) (arg6 : Memref sig .tc .vmem S8x5376 .f32) (harg6 : arg6.IsWhole) (arg7 : Memref sig .tc .vmem S8x5376 .f32) (harg7 : arg7.IsWhole) (arg8 : Memref sig .tc .vmem S8x5376 .f32) (harg8 : arg8.IsWhole) (arg9 : Memref sig .tc .vmem S8x5376 .f32) (harg9 : arg9.IsWhole) (arg10 : Memref sig .tc .vmem S8x5376 .f32) (harg10 : arg10.IsWhole) (arg11 : Memref sig .tc .vmem S8x5376 .f32) (harg11 : arg11.IsWhole) (v1 : FVec Ideal S8x5376 .f32) (v3 : FVec Ideal S8x5376 .f32) (v5 : FVec Ideal S8x5376 .f32) (v7 : FVec Ideal S8x5376 .f32) (v9 : FVec Ideal S8x5376 .f32) (v30 : FVec Ideal S8x5376 .f32) (v46 : IVec S8x5376 32) (v51 : IVec S8x128 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty)
   (G : BufTy.Contents (Elt Ideal) arg11.view.ty) (init : Acc) : ∀ k : ℕ, k ≤ k1_t1_loop.trips →
   (st_k1_t1 (F := Ideal) 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 G init k).1 = (runTrips ⟨k1_pay101 v9, v46, v51, ldWhole arg2 X2, ldWhole arg3 X3, ldWhole arg4 X4, ldWhole arg5 X5, ldWhole arg6 X6, ldWhole arg7 X7, ldWhole arg8 X8, ldWhole arg9 X9, ldWhole arg10 X10⟩ init (ldWhole arg11 G) k).1
   ∧ ldWhole arg11 (arg11.view.writes (Elt Ideal) G (st_k1_t1 (F := Ideal) 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 G init k).2)
      = (runTrips ⟨k1_pay101 v9, v46, v51, ldWhole arg2 X2, ldWhole arg3 X3, ldWhole arg4 X4, ldWhole arg5 X5, ldWhole arg6 X6, ldWhole arg7 X7, ldWhole arg8 X8, ldWhole arg9 X9, ldWhole arg10 X10⟩ init (ldWhole arg11 G) k).2
  | 0, _ => ⟨st_k1_t1_zero 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 G init, rfl⟩
  | k + 1, hk => by
    obtain ⟨h1, h2⟩ := st_eq 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 G init k (by omega)
    have hs := st_k1_t1_succ (F := Ideal) 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 G init ⟨k, by omega⟩
    rw [hs]
    constructor
    · rw [tripR_eq, h1, h2]; rfl
    · rw [tripL_eq, h1, h2]
      exact ld_writes arg11 G _ _

end Cert.KerRun

end
-- ==== Proof.KerSpec.lean ====
/- One step of the kernel's loop is one step of suppression, image by image, and the slots hold the reported rows after all steps. -/
module

public import proofs.«01_k».proof.Proof.KerTree
public import proofs.«01_k».proof.Proof.KerLoop

@[expose] public section

noncomputable section

namespace Cert.KerRun

open Cert.KernelIdeal Cert.KernelIdeal.Gen Cert.Spec
open Idealize.ShloMosaic Idealize.ShloMosaic.TcCoe Idealize.ShloMosaic.Pointwise

/-! ## Words -/

theorem ofBool_decide (p : Prop) [Decidable p] : (BitVec.ofBool (decide p) = 1) ↔ p := by
  by_cases h : p <;> simp [h]

theorem andi_one (x y : BitVec 1) : IntOp.andi x y = 1 ↔ x = 1 ∧ y = 1 := by
  revert x y; decide

theorem cmpi_eq_one (x y : BitVec 32) : IntOp.cmpi .eq x y = 1 ↔ x = y := by
  unfold IntOp.cmpi
  by_cases h : x = y
  · simp [h]
  · have e : (x == y) = false := by simpa using h
    simp only [e, h]
    decide

theorem sitofp_small (k : Fin 80) : FloatOps.sitofp (F := Ideal) .f32 (BitVec.ofNat 32 k.val) = num k := by
  have h : (BitVec.ofNat 32 k.val).toInt = (k.val : ℤ) := by
    rw [BitVec.toInt_eq_toNat_cond, BitVec.toNat_ofNat]
    have := k.isLt
    omega
  show (((BitVec.ofNat 32 k.val).toInt : ℝ) : EReal) = _
  rw [h]; simp [num]

theorem toInt_small (n : ℕ) (h : n ≤ 1073741824) : (BitVec.ofNat 32 n).toInt = (n : ℤ) := by
  rw [BitVec.toInt_eq_toNat_cond, BitVec.toNat_ofNat]
  omega

theorem minsi_left (x y : BitVec 32) (h : x.toInt ≤ y.toInt) : IntOp.minsi x y = x := by
  unfold IntOp.minsi
  simp only [BitVec.slt_eq_decide, decide_eq_true_eq]
  split
  · rfl
  · exact BitVec.eq_of_toInt_eq (by omega)

/-- The smallest of some words is the one no greater than the others. -/
theorem fold_minsi {n : ℕ} (h : Fin n → BitVec 32) (i : Fin n) (hi : ∀ j, (h i).toInt ≤ (h j).toInt) :
    (Finset.univ : Finset (Fin n)).fold IntOp.minsi 2147483647#32 h = h i := by
  have low : ∀ s : Finset (Fin n), (h i).toInt ≤ (s.fold IntOp.minsi 2147483647#32 h).toInt := fun s => by
    induction s using Finset.induction_on with
    | empty =>
      have := (h i).toInt_lt
      have e : (2147483647#32 : BitVec 32).toInt = 2147483647 := by decide
      rw [Finset.fold_empty, e]; omega
    | insert a s ha ih =>
      rw [Finset.fold_insert ha]
      unfold IntOp.minsi
      split
      · exact hi a
      · exact ih
  rw [← Finset.insert_erase (Finset.mem_univ i), Finset.fold_insert (Finset.notMem_erase i _)]
  exact minsi_left _ _ (low _)

/-! ## One step -/

/-- The arrays the loop reads are the boxes of every image. -/
structure Reads (E : Env) (B : Fin 8 → Boxes) : Prop where
  key : ∀ b j, E.key (ix2 b j) = BitVec.ofNat 32 (j.val * 128 + ((B b).kind j).val)
  ii : ∀ b j, E.ii (ix2 b j) = BitVec.ofNat 32 j.val
  ti : ∀ b l, E.ti (ix2 b l) = BitVec.ofNat 32 l.val
  o1 : ∀ b j, E.o1 (ix2 b j) = (B b).moved 0 j
  o2 : ∀ b j, E.o2 (ix2 b j) = (B b).moved 1 j
  o3 : ∀ b j, E.o3 (ix2 b j) = (B b).moved 2 j
  o4 : ∀ b j, E.o4 (ix2 b j) = (B b).moved 3 j
  ar : ∀ b j, E.ar (ix2 b j) = (B b).area j
  r1 : ∀ b j, E.r1 (ix2 b j) = (B b).at_ 0 j
  r2 : ∀ b j, E.r2 (ix2 b j) = (B b).at_ 1 j
  r3 : ∀ b j, E.r3 (ix2 b j) = (B b).at_ 2 j
  r4 : ∀ b j, E.r4 (ix2 b j) = (B b).at_ 3 j

/-- The carried scores and best scores are those of every image. -/
structure Carries (f : Fin 8 → Fin 5376 → EReal) (top : Col) (sc : Big) : Prop where
  sc : ∀ b j, sc (ix2 b j) = f b j
  top : ∀ b, top (ix2 b 0) = best (f b)

variable {E : Env} {B : Fin 8 → Boxes} (hE : Reads E B) {f : Fin 8 → Fin 5376 → EReal} {top : Col} {sc : Big} (h : Carries f top sc)

include hE h

theorem key_apply (b : Fin 8) : cKey E top sc (ix2 b 0) = BitVec.ofNat 32 ((first (f b)).val * 128 + ((B b).kind (first (f b))).val) := by
  have hl : ∀ j : Fin 5376, j.val * 128 + ((B b).kind j).val < 688128 := fun j => by
    have := j.isLt; have := ((B b).kind j).isLt; omega
  unfold cKey
  rw [kIdx_apply]
  simp only [hE.key, h.sc, h.top]
  refine (fold_minsi _ (first (f b)) fun j => ?_).trans ?_
  · rw [if_pos (best_eq (f b)).symm]
    have h1 := hl (first (f b))
    have h2 := hl j
    rw [toInt_small _ (by omega)]
    split
    · rename_i e
      rw [toInt_small _ (by omega)]
      have : ¬ j < first (f b) := fun hj => (first_spec (f b)).2 j hj (e.trans (best_eq (f b)))
      have := ((B b).kind (first (f b))).isLt
      rcases Nat.lt_or_ge (first (f b)).val j.val with hlt | hge
      · omega
      · have : j = first (f b) := Fin.ext (by have : (first (f b)).val ≤ j.val := not_lt.mp (by assumption); omega)
        subst this; omega
    · have e : (1073741824#32 : BitVec 32).toInt = 1073741824 := by decide
      rw [e]; omega
  · rw [if_pos (best_eq (f b)).symm]

theorem mask_apply (b : Fin 8) (j : Fin 5376) : cMask E top sc (ix2 b j) = 1 ↔ j = first (f b) := by
  have h1 := (first (f b)).isLt
  have h2 := ((B b).kind (first (f b))).isLt
  have h3 := j.isLt
  have e : IntOp.shrui .vector (cKey E top sc (ix2 b 0)) 7#32 = BitVec.ofNat 32 (first (f b)).val := by
    rw [key_apply hE h]
    unfold IntOp.shrui
    rw [if_pos (by decide)]
    apply BitVec.eq_of_toNat_eq
    rw [BitVec.ushiftRight_eq', BitVec.toNat_ushiftRight, BitVec.toNat_ofNat, BitVec.toNat_ofNat, Nat.shiftRight_eq_div_pow]
    simp
    omega
  unfold cMask
  pointwise [kMask]
  rw [cmpi_eq_one, hE.ii, e]
  constructor
  · intro hw
    have := congrArg BitVec.toNat hw
    rw [BitVec.toNat_ofNat, BitVec.toNat_ofNat] at this
    exact Fin.ext (by omega)
  · rintro rfl; rfl

theorem sel_apply (x : Big) (b : Fin 8) : kSel (cMask E top sc) x (ix2 b 0) = x (ix2 b (first (f b))) := by
  rw [kSel_apply]
  simp only [mask_apply hE h]
  simp

theorem kcls_apply (b : Fin 8) : kCls (cKey E top sc) (ix2 b 0) = num ((B b).kind (first (f b))) := by
  have e : IntOp.andi (cKey E top sc (ix2 b 0)) 127#32 = BitVec.ofNat 32 ((B b).kind (first (f b))).val := by
    rw [key_apply hE h]
    have h1 := (first (f b)).isLt
    have h2 := ((B b).kind (first (f b))).isLt
    apply BitVec.eq_of_toNat_eq
    unfold IntOp.andi
    rw [BitVec.toNat_and, BitVec.toNat_ofNat, BitVec.toNat_ofNat, BitVec.toNat_ofNat, show 127 % 2 ^ 32 = 2 ^ 7 - 1 from rfl,
      Nat.and_two_pow_sub_one_eq_mod]
    omega
  pointwise [kCls]
  rw [e]; exact sitofp_small _

theorem off_apply (b : Fin 8) : kOff (cKey E top sc) (ix2 b 0) = num ((B b).kind (first (f b))) * lit 0x45800000#32 := by
  rw [← kcls_apply hE h]; rfl

omit hE in
theorem valid_apply (b : Fin 8) : kValid top (ix2 b 0) = 1 ↔ 0 < best (f b) := by
  pointwise [kValid]
  rw [ofBool_decide, h.top]

/-- The scores after a step. -/
theorem new_apply (b : Fin 8) (j : Fin 5376) : cNew E top sc (ix2 b j) = (B b).next (f b) j := by
  have s1 : addf (kSel (cMask E top sc) E.r1) (kOff (cKey E top sc)) (ix2 b 0) = (B b).moved 0 (first (f b)) := by
    show kSel (cMask E top sc) E.r1 (ix2 b 0) + kOff (cKey E top sc) (ix2 b 0) = _
    rw [sel_apply hE h, off_apply hE h, hE.r1]; rfl
  have s2 : addf (kSel (cMask E top sc) E.r2) (kOff (cKey E top sc)) (ix2 b 0) = (B b).moved 1 (first (f b)) := by
    show kSel (cMask E top sc) E.r2 (ix2 b 0) + kOff (cKey E top sc) (ix2 b 0) = _
    rw [sel_apply hE h, off_apply hE h, hE.r2]; rfl
  have s3 : addf (kSel (cMask E top sc) E.r3) (kOff (cKey E top sc)) (ix2 b 0) = (B b).moved 2 (first (f b)) := by
    show kSel (cMask E top sc) E.r3 (ix2 b 0) + kOff (cKey E top sc) (ix2 b 0) = _
    rw [sel_apply hE h, off_apply hE h, hE.r3]; rfl
  have s4 : addf (kSel (cMask E top sc) E.r4) (kOff (cKey E top sc)) (ix2 b 0) = (B b).moved 3 (first (f b)) := by
    show kSel (cMask E top sc) E.r4 (ix2 b 0) + kOff (cKey E top sc) (ix2 b 0) = _
    rw [sel_apply hE h, off_apply hE h, hE.r4]; rfl
  unfold cNew
  generalize addf (kSel (cMask E top sc) E.r1) (kOff (cKey E top sc)) = b0 at s1 ⊢
  generalize addf (kSel (cMask E top sc) E.r2) (kOff (cKey E top sc)) = b1 at s2 ⊢
  generalize addf (kSel (cMask E top sc) E.r3) (kOff (cKey E top sc)) = b2 at s3 ⊢
  generalize addf (kSel (cMask E top sc) E.r4) (kOff (cKey E top sc)) = b3 at s4 ⊢
  pointwise [kNew, kRest, kInter]
  simp only [Scalar.select, mask_apply hE h, andi_one, valid_apply h, ofBool_decide, s1, s2, s3, s4, hE.o1, hE.o2, hE.o3, hE.o4, hE.ar, h.sc]
  rfl

theorem carries_next (t : BitVec 32) (a : Acc) (ha : a.2.2.2.2.2.2 = top) :
    Carries (fun b => (B b).next (f b)) (cAcc E t a sc).2.2.2.2.2.2 (cNew E a.2.2.2.2.2.2 sc) := by
  subst ha
  refine ⟨new_apply hE h, fun b => ?_⟩
  show kBest (cNew E a.2.2.2.2.2.2 sc) (ix2 b 0) = _
  rw [kBest_apply]
  exact congrArg best (funext fun j => new_apply hE h b j)

omit hE h

/-- One of the six output slots' arrays. -/
def lane (a : Acc) : Fin 6 → Lane
  | 0 => a.1
  | 1 => a.2.1
  | 2 => a.2.2.1
  | 3 => a.2.2.2.1
  | 4 => a.2.2.2.2.1
  | 5 => a.2.2.2.2.2.1

theorem put_apply (hti : ∀ b l, E.ti (ix2 b l) = BitVec.ofNat 32 l.val) (n : ℕ) (hn : n < 128) (valid : IVec S8x1 1) (v : Col) (d : BitVec 32) (acc : Lane) (b : Fin 8) (l : Fin 128) :
    kPut E.ti (BitVec.ofNat 32 n) valid v d acc (ix2 b l)
      = if l.val = n then (if valid (ix2 b 0) = 1 then v (ix2 b 0) else lit d) else acc (ix2 b l) := by
  pointwise [kPut]
  have e : IntOp.cmpi .eq (E.ti (ix2 b l)) (BitVec.ofNat 32 n) = 1 ↔ l.val = n := by
    rw [cmpi_eq_one, hti]
    constructor
    · intro hw
      have := congrArg BitVec.toNat hw
      rw [BitVec.toNat_ofNat, BitVec.toNat_ofNat] at this
      have := l.isLt
      omega
    · rintro rfl; rfl
  simp only [Scalar.select, e]

include hE h in
/-- The slots after step `n`: slot `n` holds the reported row. -/
theorem lane_apply (n : ℕ) (hn : n < 128) (a : Acc) (ha : a.2.2.2.2.2.2 = top) (r : Fin 6) (b : Fin 8) (l : Fin 128) :
    lane (cAcc E (BitVec.ofNat 32 n) a sc) r (ix2 b l) = if l.val = n then (B b).report (f b) r else lane a r (ix2 b l) := by
  subst ha
  fin_cases r
  all_goals
    refine (put_apply hE.ti n hn _ _ _ _ b l).trans ?_
    simp only [valid_apply h, sel_apply hE h, kcls_apply hE h, hE.r1, hE.r2, hE.r3, hE.r4, h.top]
    have z : lit 0x00000000#32 = 0 := by simp [lit, Ideal.ofBits, Ideal.ieee]
    try rw [z]
    rfl

/-! ## All steps -/

/-- What holds before step `n`. -/
structure Before (B : Fin 8 → Boxes) (f : Fin 8 → Fin 5376 → EReal) (n : ℕ) (a : Acc) (sc : Big) : Prop where
  carries : Carries (fun b => (B b).scores (f b) n) a.2.2.2.2.2.2 sc
  lanes : ∀ r b (l : Fin 128), l.val < n → lane a r (ix2 b l) = (B b).report ((B b).scores (f b) l.val) r

include hE in
theorem Before.step {n : ℕ} {a : Acc} {sc : Big} (hb : Before B f n a sc) (hn : n < 128) :
    Before B f (n + 1) (cAcc E (BitVec.ofNat 32 n) a sc) (cNew E a.2.2.2.2.2.2 sc) := by
  refine ⟨carries_next hE hb.carries _ a rfl, fun r b l hl => ?_⟩
  rw [lane_apply hE hb.carries n hn a rfl]
  split
  · rename_i e; rw [e]
  · exact hb.lanes r b l (by omega)

theorem word_even (k : ℕ) : Scalar.muli 2#32 (Scf.iv 0#32 1#32 k) = BitVec.ofNat 32 (2 * k) := by
  apply BitVec.eq_of_toNat_eq
  simp [Scalar.muli, Scf.iv, IntOp.muli]

theorem word_odd (k : ℕ) : Scalar.addi (Scalar.muli 2#32 (Scf.iv 0#32 1#32 k)) 1#32 = BitVec.ofNat 32 (2 * k + 1) := by
  rw [word_even]
  apply BitVec.eq_of_toNat_eq
  simp [Scalar.addi, IntOp.addi]

include hE in
theorem runTrips_before {a : Acc} {sc : Big} (hb : Before B f 0 a sc) : ∀ k : ℕ, k ≤ 60 →
    Before B f (2 * k) (runTrips E a sc k).1 (runTrips E a sc k).2
  | 0, _ => hb
  | k + 1, hk => by
    have h1 := (runTrips_before hb k (by omega)).step hE (by omega)
    have h2 := h1.step hE (by omega)
    show Before B f (2 * k + 1 + 1) (twoSteps E k _ _).1 (twoSteps E k _ _).2
    unfold twoSteps
    rw [word_odd, word_even]
    exact h2

end Cert.KerRun
-- ==== Proof.KerRows.lean ====
/- The value of the first kernel's block: the decoded boxes of one image. -/
module

public import proofs.«01_k».proof.Proof.KerSpec

@[expose] public section

noncomputable section

namespace Cert.KerRun

open Cert.KernelIdeal Cert.KernelIdeal.Gen Cert.Spec
open Idealize.ShloMosaic Idealize.ShloMosaic.TcCoe Idealize.ShloMosaic.Pointwise

/-! ## What is stored, at an index -/

/-- The smallest class number whose score is the largest, as a number. -/
theorem sitofp_cls (c : Fin 80 → EReal) :
    FloatOps.sitofp (F := Ideal) .f32 ((Finset.univ : Finset (Fin 80)).fold IntOp.minsi 2147483647#32 fun k =>
      if Ideal.logistic (c k) = best (probs c) then BitVec.ofNat 32 k.val else 128#32) = num (cls c) := by
  rw [← sitofp_small]
  have e0 : Ideal.logistic (c (cls c)) = best (probs c) := (best_eq (probs c)).symm
  refine congrArg (FloatOps.sitofp (F := Ideal) .f32) ?_
  refine (fold_minsi _ (cls c) fun k => ?_).trans ?_
  · rw [if_pos e0]
    have h1 := (cls c).isLt
    have h2 := k.isLt
    rw [toInt_small _ (by omega)]
    split
    · rename_i e
      rw [toInt_small _ (by omega)]
      have : ¬ k < cls c := fun hj => (first_spec (probs c)).2 k hj (e.trans (best_eq (probs c)))
      have : (cls c).val ≤ k.val := not_lt.mp this
      omega
    · have e : (128#32 : BitVec 32).toInt = 128 := by decide
      rw [e]; omega
  · rw [if_pos e0]

set_option maxRecDepth 8192

theorem rest_of_256 (u : Fin 2) (j : Fin 256) : k0_pay1 (F := Ideal) k0_pay92 (ix3 0 u j) = 0 := by
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay1]

theorem row5_of_256 (C : Vec Ideal S1x80x256 .f32) (j : Fin 256) :
    k0_pay91 (F := Ideal) (k0_pay83 C) (ix3 0 0 j) = (num (cls (fun k => C (ix3 0 k j))) : EReal) := by
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay1]
  exact sitofp_cls _

theorem row4_of_256 (O : Vec Ideal S1x1x256 .f32) (C : Vec Ideal S1x80x256 .f32) (j : Fin 256) :
    k0_pay90 (k0_pay84 C O) (k0_pay85 C O) (Scalar.ofBits .f32 0xBF800000#32) (ix3 0 0 j) = (score (O (ix3 0 0 j)) (fun k => C (ix3 0 k j)) : EReal) := by
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay1]
  rfl

theorem row3_of_256 (A : Vec Ideal S4x256 .f32) (P : Vec Ideal S1x4x256 .f32) (j : Fin 256) :
    k0_pay89 (k0_pay78 (k0_pay69 A) (k0_pay71 A) P) (k0_pay80 (k0_pay69 A) (k0_pay71 A) P) (ix3 0 0 j) = (corner (fun r => A (ix2 r j)) (fun r => P (ix3 0 r j)) 3 : EReal) := by
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay1]
  rfl

theorem row2_of_256 (A : Vec Ideal S4x256 .f32) (P : Vec Ideal S1x4x256 .f32) (j : Fin 256) :
    k0_pay88 (k0_pay77 (k0_pay68 A) (k0_pay70 A) P) (k0_pay79 (k0_pay68 A) (k0_pay70 A) P) (ix3 0 0 j) = (corner (fun r => A (ix2 r j)) (fun r => P (ix3 0 r j)) 2 : EReal) := by
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay1]
  rfl

theorem row1_of_256 (A : Vec Ideal S4x256 .f32) (P : Vec Ideal S1x4x256 .f32) (j : Fin 256) :
    k0_pay87 (k0_pay78 (k0_pay69 A) (k0_pay71 A) P) (k0_pay80 (k0_pay69 A) (k0_pay71 A) P) (ix3 0 0 j) = (corner (fun r => A (ix2 r j)) (fun r => P (ix3 0 r j)) 1 : EReal) := by
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay1]
  rfl

theorem row0_of_256 (A : Vec Ideal S4x256 .f32) (P : Vec Ideal S1x4x256 .f32) (j : Fin 256) :
    k0_pay86 (k0_pay77 (k0_pay68 A) (k0_pay70 A) P) (k0_pay79 (k0_pay68 A) (k0_pay70 A) P) (ix3 0 0 j) = (corner (fun r => A (ix2 r j)) (fun r => P (ix3 0 r j)) 0 : EReal) := by
  pointwise [k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay1]
  rfl

theorem rest_of_1024 (u : Fin 2) (j : Fin 1024) : k0_pay62 (F := Ideal) (ix3 0 u j) = 0 := by
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]

theorem row5_of_1024 (C : Vec Ideal S1x80x1024 .f32) (j : Fin 1024) :
    k0_pay61 (F := Ideal) (k0_pay53 C) (ix3 0 0 j) = (num (cls (fun k => C (ix3 0 k j))) : EReal) := by
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  exact sitofp_cls _

theorem row4_of_1024 (O : Vec Ideal S1x1x1024 .f32) (C : Vec Ideal S1x80x1024 .f32) (j : Fin 1024) :
    k0_pay60 (k0_pay54 C O) (ix3 0 0 j) = (score (O (ix3 0 0 j)) (fun k => C (ix3 0 k j)) : EReal) := by
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  rfl

theorem row3_of_1024 (A : Vec Ideal S4x1024 .f32) (P : Vec Ideal S1x4x1024 .f32) (j : Fin 1024) :
    k0_pay59 (k0_pay48 (k0_pay47 A P)) (k0_pay50 (k0_pay43 A P) (k0_pay45 A P)) (ix3 0 0 j) = (corner (fun r => A (ix2 r j)) (fun r => P (ix3 0 r j)) 3 : EReal) := by
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  rfl

theorem row2_of_1024 (A : Vec Ideal S4x1024 .f32) (P : Vec Ideal S1x4x1024 .f32) (j : Fin 1024) :
    k0_pay58 (k0_pay57 (k0_pay42 A P) (k0_pay44 A P) (k0_pay46 A P)) (ix3 0 0 j) = (corner (fun r => A (ix2 r j)) (fun r => P (ix3 0 r j)) 2 : EReal) := by
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  rfl

theorem row1_of_1024 (A : Vec Ideal S4x1024 .f32) (P : Vec Ideal S1x4x1024 .f32) (j : Fin 1024) :
    k0_pay56 (k0_pay43 A P) (k0_pay45 A P) (k0_pay47 A P) (ix3 0 0 j) = (corner (fun r => A (ix2 r j)) (fun r => P (ix3 0 r j)) 1 : EReal) := by
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  rfl

theorem row0_of_1024 (A : Vec Ideal S4x1024 .f32) (P : Vec Ideal S1x4x1024 .f32) (j : Fin 1024) :
    k0_pay55 (k0_pay42 A P) (k0_pay44 A P) (k0_pay46 A P) (ix3 0 0 j) = (corner (fun r => A (ix2 r j)) (fun r => P (ix3 0 r j)) 0 : EReal) := by
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  rfl

theorem rest_of_4096 (u : Fin 2) (j : Fin 4096) : k0_pay31 (F := Ideal) (ix3 0 u j) = 0 := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]

theorem row5_of_4096 (C : Vec Ideal S1x80x4096 .f32) (j : Fin 4096) :
    k0_pay30 (F := Ideal) (k0_pay23 (k0_pay20 C) (k0_pay21 C)) (ix3 0 0 j) = (num (cls (fun k => C (ix3 0 k j))) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  exact sitofp_cls _

theorem row4_of_4096 (O : Vec Ideal S1x1x4096 .f32) (C : Vec Ideal S1x80x4096 .f32) (j : Fin 4096) :
    k0_pay29 (k0_pay24 (k0_pay21 C) O) (ix3 0 0 j) = (score (O (ix3 0 0 j)) (fun k => C (ix3 0 k j)) : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl

theorem row3_of_4096 (A : Vec Ideal S4x4096 .f32) (P : Vec Ideal S1x4x4096 .f32) (j : Fin 4096) :
    k0_pay28 (k0_pay17 A P) (k0_pay19 A P) (ix3 0 0 j) = (corner (fun r => A (ix2 r j)) (fun r => P (ix3 0 r j)) 3 : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl

theorem row2_of_4096 (A : Vec Ideal S4x4096 .f32) (P : Vec Ideal S1x4x4096 .f32) (j : Fin 4096) :
    k0_pay27 (k0_pay16 A P) (k0_pay18 A P) (ix3 0 0 j) = (corner (fun r => A (ix2 r j)) (fun r => P (ix3 0 r j)) 2 : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl

theorem row1_of_4096 (A : Vec Ideal S4x4096 .f32) (P : Vec Ideal S1x4x4096 .f32) (j : Fin 4096) :
    k0_pay26 (k0_pay17 A P) (k0_pay19 A P) (ix3 0 0 j) = (corner (fun r => A (ix2 r j)) (fun r => P (ix3 0 r j)) 1 : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl

theorem row0_of_4096 (A : Vec Ideal S4x4096 .f32) (P : Vec Ideal S1x4x4096 .f32) (j : Fin 4096) :
    k0_pay25 (k0_pay16 A P) (k0_pay18 A P) (ix3 0 0 j) = (corner (fun r => A (ix2 r j)) (fun r => P (ix3 0 r j)) 0 : EReal) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl

end Cert.KerRun

end
-- ==== Proof.KerDecode.lean ====
/- The first kernel's stores, and the block they leave. -/
module

public import proofs.«01_k».proof.Proof.KerRows

@[expose] public section

noncomputable section

namespace Cert.KerRun

open Cert.KernelIdeal Cert.KernelIdeal.Gen Cert.Spec
open Idealize.ShloMosaic Idealize.ShloMosaic.TcCoe Idealize.ShloMosaic.Pointwise

/-- A load of a whole block reads the block. -/
theorem load_whole {s : Shape} (a : Memref sig .tc .vmem s .f32) (ha : a.IsWhole) (x : Vec Ideal s .f32) {off : Fin s.rank → ℕ}
    (h : off = fun _ => 0) (inb : ∀ i, off i + s.size i ≤ s.size i) :
    View.readAt (Elt Ideal) a.view (Rect.unit off s.size inb).toLoadRect (ha.unread x) = x := by
  rw [View.readAt_eq_ld, ha.read_unread]
  exact View.ld_unit_zero h inb x

theorem zero2 : (![0, 0] : Fin 2 → ℕ) = fun _ => 0 := by decide
theorem zero3 : (![0, 0, 0] : Fin 3 → ℕ) = fun _ => 0 := by decide

/-- A store of one row of a grid. -/
def tile (n base r : ℕ) (inb : ∀ i, (![0, r, base] : Fin 3 → ℕ) i + (![1, 1, n] : Fin 3 → ℕ) i ≤ S1x8x5376.size i)
    (v : FVec Ideal ⟨3, ![1, 1, n]⟩ .f32) : View.Piece (Elt Ideal) S1x8x5376 .f32 :=
  ⟨Rect.unit (s := S1x8x5376) ![0, r, base] ![1, 1, n] inb, v⟩

/-- A store of the two spare rows of a grid. -/
def pair (n base r : ℕ) (inb : ∀ i, (![0, r, base] : Fin 3 → ℕ) i + (![1, 2, n] : Fin 3 → ℕ) i ≤ S1x8x5376.size i)
    (v : FVec Ideal ⟨3, ![1, 2, n]⟩ .f32) : View.Piece (Elt Ideal) S1x8x5376 .f32 :=
  ⟨Rect.unit (s := S1x8x5376) ![0, r, base] ![1, 2, n] inb, v⟩

section
variable (x0 : Vec Ideal S1x4x4096 .f32) (x1 : Vec Ideal S1x1x4096 .f32) (x2 : Vec Ideal S1x80x4096 .f32) (x3 : Vec Ideal S1x4x1024 .f32) (x4 : Vec Ideal S1x1x1024 .f32) (x5 : Vec Ideal S1x80x1024 .f32) (x6 : Vec Ideal S1x4x256 .f32) (x7 : Vec Ideal S1x1x256 .f32) (x8 : Vec Ideal S1x80x256 .f32) (x9 : Vec Ideal S4x4096 .f32) (x10 : Vec Ideal S4x1024 .f32) (x11 : Vec Ideal S4x256 .f32)

/-- The first kernel's stores. -/
def stores0 : List (View.Piece (Elt Ideal) S1x8x5376 .f32) :=
  [pair 256 5120 6 inb_S1x8x5376_S1x2x256_0_6_5120 (k0_pay1 k0_pay92),
   tile 256 5120 5 inb_S1x8x5376_S1x1x256_0_5_5120 (k0_pay91 (k0_pay83 x8)),
   tile 256 5120 4 inb_S1x8x5376_S1x1x256_0_4_5120 (k0_pay90 (k0_pay84 x8 x7) (k0_pay85 x8 x7) (Scalar.ofBits .f32 0xBF800000#32)),
   tile 256 5120 3 inb_S1x8x5376_S1x1x256_0_3_5120 (k0_pay89 (k0_pay78 (k0_pay69 x11) (k0_pay71 x11) x6) (k0_pay80 (k0_pay69 x11) (k0_pay71 x11) x6)),
   tile 256 5120 2 inb_S1x8x5376_S1x1x256_0_2_5120 (k0_pay88 (k0_pay77 (k0_pay68 x11) (k0_pay70 x11) x6) (k0_pay79 (k0_pay68 x11) (k0_pay70 x11) x6)),
   tile 256 5120 1 inb_S1x8x5376_S1x1x256_0_1_5120 (k0_pay87 (k0_pay78 (k0_pay69 x11) (k0_pay71 x11) x6) (k0_pay80 (k0_pay69 x11) (k0_pay71 x11) x6)),
   tile 256 5120 0 inb_S1x8x5376_S1x1x256_0_0_5120 (k0_pay86 (k0_pay77 (k0_pay68 x11) (k0_pay70 x11) x6) (k0_pay79 (k0_pay68 x11) (k0_pay70 x11) x6)),
   pair 1024 4096 6 inb_S1x8x5376_S1x2x1024_0_6_4096 (k0_pay62),
   tile 1024 4096 5 inb_S1x8x5376_S1x1x1024_0_5_4096 (k0_pay61 (k0_pay53 x5)),
   tile 1024 4096 4 inb_S1x8x5376_S1x1x1024_0_4_4096 (k0_pay60 (k0_pay54 x5 x4)),
   tile 1024 4096 3 inb_S1x8x5376_S1x1x1024_0_3_4096 (k0_pay59 (k0_pay48 (k0_pay47 x10 x3)) (k0_pay50 (k0_pay43 x10 x3) (k0_pay45 x10 x3))),
   tile 1024 4096 2 inb_S1x8x5376_S1x1x1024_0_2_4096 (k0_pay58 (k0_pay57 (k0_pay42 x10 x3) (k0_pay44 x10 x3) (k0_pay46 x10 x3))),
   tile 1024 4096 1 inb_S1x8x5376_S1x1x1024_0_1_4096 (k0_pay56 (k0_pay43 x10 x3) (k0_pay45 x10 x3) (k0_pay47 x10 x3)),
   tile 1024 4096 0 inb_S1x8x5376_S1x1x1024_0_0_4096 (k0_pay55 (k0_pay42 x10 x3) (k0_pay44 x10 x3) (k0_pay46 x10 x3)),
   pair 4096 0 6 inb_S1x8x5376_S1x2x4096_0_6_0 (k0_pay31),
   tile 4096 0 5 inb_S1x8x5376_S1x1x4096_0_5_0 (k0_pay30 (k0_pay23 (k0_pay20 x2) (k0_pay21 x2))),
   tile 4096 0 4 inb_S1x8x5376_S1x1x4096_0_4_0 (k0_pay29 (k0_pay24 (k0_pay21 x2) x1)),
   tile 4096 0 3 inb_S1x8x5376_S1x1x4096_0_3_0 (k0_pay28 (k0_pay17 x9 x0) (k0_pay19 x9 x0)),
   tile 4096 0 2 inb_S1x8x5376_S1x1x4096_0_2_0 (k0_pay27 (k0_pay16 x9 x0) (k0_pay18 x9 x0)),
   tile 4096 0 1 inb_S1x8x5376_S1x1x4096_0_1_0 (k0_pay26 (k0_pay17 x9 x0) (k0_pay19 x9 x0)),
   tile 4096 0 0 inb_S1x8x5376_S1x1x4096_0_0_0 (k0_pay25 (k0_pay16 x9 x0) (k0_pay18 x9 x0))]

/-- The raw arrays of the image. -/
def rawOf : Raw where
  anc := glue (fun j r => x9 (ix2 r j)) (fun j r => x10 (ix2 r j)) (fun j r => x11 (ix2 r j))
  prd := glue (fun j r => x0 (ix3 0 r j)) (fun j r => x3 (ix3 0 r j)) (fun j r => x6 (ix3 0 r j))
  obj := glue (fun j => x1 (ix3 0 0 j)) (fun j => x4 (ix3 0 0 j)) (fun j => x7 (ix3 0 0 j))
  cla := glue (fun j k => x2 (ix3 0 k j)) (fun j k => x5 (ix3 0 k j)) (fun j k => x8 (ix3 0 k j))
end

/-- The raw values of one box. -/
structure Cell where
  anc : Fin 4 → EReal
  prd : Fin 4 → EReal
  obj : EReal
  cla : Fin 80 → EReal

/-- What the block holds of one box: corners, score, class, and zeros. -/
def Cell.rowVal (R : Cell) (r : ℕ) : EReal :=
  if h : r < 4 then corner R.anc R.prd ⟨r, h⟩ else if r = 4 then score R.obj R.cla else if r = 5 then num (cls R.cla) else 0

/-- One box of the image. -/
def cellAt (R : Raw) (j : Fin 5376) : Cell := ⟨R.anc j, R.prd j, R.obj j, R.cla j⟩

/-- What the block holds. -/
def block0 (R : Raw) (i : S1x8x5376.Idx) : EReal := (cellAt R (i 2)).rowVal (i 1).val

theorem tile_agrees (R : Raw) (n base r : ℕ) (inb) (v) (h : base + n ≤ 5376)
    (hv : ∀ j : Fin n, v (ix3 0 0 j) = (cellAt R ⟨base + j.val, by omega⟩).rowVal r) (x : (tile n base r inb v).1.shape.Idx) :
    (tile n base r inb v).2 x = block0 R ((tile n base r inb v).1.emb x) := by
  obtain ⟨b, u, l, rfl⟩ : ∃ (b : Fin 1) (u : Fin 1) (l : Fin n), x = (ix3 b u l : (⟨3, ![1, 1, n]⟩ : Shape).Idx) :=
    ⟨x 0, x 1, x 2, eq_ix3 (n0 := 1) (n1 := 1) (n2 := n) x⟩
  obtain rfl : u = 0 := Subsingleton.elim _ _
  obtain rfl : b = 0 := Subsingleton.elim _ _
  have h1 : r < 8 := by
    have := inb 1
    have : r + 1 ≤ 8 := this
    omega
  have e : (tile n base r inb v).1.emb (ix3 0 0 l : (⟨3, ![1, 1, n]⟩ : Shape).Idx) = (ix3 0 ⟨r, h1⟩ ⟨base + l.val, by omega⟩ : S1x8x5376.Idx) := by
    funext i
    apply Fin.ext
    unfold tile
    rw [Rect.emb_apply]
    fin_cases i
    · rfl
    · show r + 1 * 0 = r; omega
    · show base + 1 * l.val = base + l.val; omega
  rw [e]
  exact hv l

theorem pair_agrees (R : Raw) (n base : ℕ) (inb) (v) (h : base + n ≤ 5376)
    (hv : ∀ (u : Fin 2) (j : Fin n), v (ix3 0 u j) = 0) (x : (pair n base 6 inb v).1.shape.Idx) :
    (pair n base 6 inb v).2 x = block0 R ((pair n base 6 inb v).1.emb x) := by
  obtain ⟨b, u, l, rfl⟩ : ∃ (b : Fin 1) (u : Fin 2) (l : Fin n), x = (ix3 b u l : (⟨3, ![1, 2, n]⟩ : Shape).Idx) :=
    ⟨x 0, x 1, x 2, eq_ix3 (n0 := 1) (n1 := 2) (n2 := n) x⟩
  obtain rfl : b = 0 := Subsingleton.elim _ _
  have h1 : 6 + u.val < 8 := by omega
  have e : (pair n base 6 inb v).1.emb (ix3 0 u l : (⟨3, ![1, 2, n]⟩ : Shape).Idx) = (ix3 0 ⟨6 + u.val, h1⟩ ⟨base + l.val, by omega⟩ : S1x8x5376.Idx) := by
    funext i
    apply Fin.ext
    unfold pair
    rw [Rect.emb_apply]
    fin_cases i
    · rfl
    · show 6 + 1 * u.val = 6 + u.val; omega
    · show base + 1 * l.val = base + l.val; omega
  rw [e]
  refine (hv u l).trans ?_
  show _ = Cell.rowVal _ (6 + u.val)
  unfold Cell.rowVal
  rw [dif_neg (by omega), if_neg (by omega), if_neg (by omega)]

section
variable (x0 : Vec Ideal S1x4x4096 .f32) (x1 : Vec Ideal S1x1x4096 .f32) (x2 : Vec Ideal S1x80x4096 .f32) (x3 : Vec Ideal S1x4x1024 .f32) (x4 : Vec Ideal S1x1x1024 .f32) (x5 : Vec Ideal S1x80x1024 .f32) (x6 : Vec Ideal S1x4x256 .f32) (x7 : Vec Ideal S1x1x256 .f32) (x8 : Vec Ideal S1x80x256 .f32) (x9 : Vec Ideal S4x4096 .f32) (x10 : Vec Ideal S4x1024 .f32) (x11 : Vec Ideal S4x256 .f32)

theorem raw0 (j : Fin 4096) : cellAt (rawOf x0 x1 x2 x3 x4 x5 x6 x7 x8 x9 x10 x11) ⟨0 + j.val, by omega⟩
    = ⟨fun r => x9 (ix2 r j), fun r => x0 (ix3 0 r j), x1 (ix3 0 0 j), fun k => x2 (ix3 0 k j)⟩ := by
  have e : (⟨0 + j.val, by omega⟩ : Fin 5376) = ⟨j.val, by omega⟩ := Fin.ext (Nat.zero_add _)
  rw [e]
  simp only [cellAt, rawOf, glue_0]

theorem raw1 (j : Fin 1024) : cellAt (rawOf x0 x1 x2 x3 x4 x5 x6 x7 x8 x9 x10 x11) ⟨4096 + j.val, by omega⟩
    = ⟨fun r => x10 (ix2 r j), fun r => x3 (ix3 0 r j), x4 (ix3 0 0 j), fun k => x5 (ix3 0 k j)⟩ := by
  simp only [cellAt, rawOf, glue_1]

theorem raw2 (j : Fin 256) : cellAt (rawOf x0 x1 x2 x3 x4 x5 x6 x7 x8 x9 x10 x11) ⟨5120 + j.val, by omega⟩
    = ⟨fun r => x11 (ix2 r j), fun r => x6 (ix3 0 r j), x7 (ix3 0 0 j), fun k => x8 (ix3 0 k j)⟩ := by
  simp only [cellAt, rawOf, glue_2]

theorem stores0_agree : ∀ p ∈ stores0 x0 x1 x2 x3 x4 x5 x6 x7 x8 x9 x10 x11, ∀ x : p.1.shape.Idx,
    p.2 x = block0 (rawOf x0 x1 x2 x3 x4 x5 x6 x7 x8 x9 x10 x11) (p.1.emb x) := by
  intro p hp
  simp only [stores0, List.mem_cons, List.not_mem_nil, or_false] at hp
  rcases hp with rfl | rfl | rfl | rfl | rfl | rfl | rfl | rfl | rfl | rfl | rfl | rfl | rfl | rfl | rfl | rfl | rfl | rfl | rfl | rfl | rfl
  · exact pair_agrees _ 256 5120 _ _ (by omega) fun u j => rest_of_256 u j
  · refine tile_agrees _ 256 5120 5 _ _ (by omega) fun j => (row5_of_256 x8 j).trans ?_
    exact (congrArg (fun R => R.rowVal 5) (raw2 x0 x1 x2 x3 x4 x5 x6 x7 x8 x9 x10 x11 j)).symm
  · refine tile_agrees _ 256 5120 4 _ _ (by omega) fun j => (row4_of_256 x7 x8 j).trans ?_
    exact (congrArg (fun R => R.rowVal 4) (raw2 x0 x1 x2 x3 x4 x5 x6 x7 x8 x9 x10 x11 j)).symm
  · refine tile_agrees _ 256 5120 3 _ _ (by omega) fun j => (row3_of_256 x11 x6 j).trans ?_
    exact (congrArg (fun R => R.rowVal 3) (raw2 x0 x1 x2 x3 x4 x5 x6 x7 x8 x9 x10 x11 j)).symm
  · refine tile_agrees _ 256 5120 2 _ _ (by omega) fun j => (row2_of_256 x11 x6 j).trans ?_
    exact (congrArg (fun R => R.rowVal 2) (raw2 x0 x1 x2 x3 x4 x5 x6 x7 x8 x9 x10 x11 j)).symm
  · refine tile_agrees _ 256 5120 1 _ _ (by omega) fun j => (row1_of_256 x11 x6 j).trans ?_
    exact (congrArg (fun R => R.rowVal 1) (raw2 x0 x1 x2 x3 x4 x5 x6 x7 x8 x9 x10 x11 j)).symm
  · refine tile_agrees _ 256 5120 0 _ _ (by omega) fun j => (row0_of_256 x11 x6 j).trans ?_
    exact (congrArg (fun R => R.rowVal 0) (raw2 x0 x1 x2 x3 x4 x5 x6 x7 x8 x9 x10 x11 j)).symm
  · exact pair_agrees _ 1024 4096 _ _ (by omega) fun u j => rest_of_1024 u j
  · refine tile_agrees _ 1024 4096 5 _ _ (by omega) fun j => (row5_of_1024 x5 j).trans ?_
    exact (congrArg (fun R => R.rowVal 5) (raw1 x0 x1 x2 x3 x4 x5 x6 x7 x8 x9 x10 x11 j)).symm
  · refine tile_agrees _ 1024 4096 4 _ _ (by omega) fun j => (row4_of_1024 x4 x5 j).trans ?_
    exact (congrArg (fun R => R.rowVal 4) (raw1 x0 x1 x2 x3 x4 x5 x6 x7 x8 x9 x10 x11 j)).symm
  · refine tile_agrees _ 1024 4096 3 _ _ (by omega) fun j => (row3_of_1024 x10 x3 j).trans ?_
    exact (congrArg (fun R => R.rowVal 3) (raw1 x0 x1 x2 x3 x4 x5 x6 x7 x8 x9 x10 x11 j)).symm
  · refine tile_agrees _ 1024 4096 2 _ _ (by omega) fun j => (row2_of_1024 x10 x3 j).trans ?_
    exact (congrArg (fun R => R.rowVal 2) (raw1 x0 x1 x2 x3 x4 x5 x6 x7 x8 x9 x10 x11 j)).symm
  · refine tile_agrees _ 1024 4096 1 _ _ (by omega) fun j => (row1_of_1024 x10 x3 j).trans ?_
    exact (congrArg (fun R => R.rowVal 1) (raw1 x0 x1 x2 x3 x4 x5 x6 x7 x8 x9 x10 x11 j)).symm
  · refine tile_agrees _ 1024 4096 0 _ _ (by omega) fun j => (row0_of_1024 x10 x3 j).trans ?_
    exact (congrArg (fun R => R.rowVal 0) (raw1 x0 x1 x2 x3 x4 x5 x6 x7 x8 x9 x10 x11 j)).symm
  · exact pair_agrees _ 4096 0 _ _ (by omega) fun u j => rest_of_4096 u j
  · refine tile_agrees _ 4096 0 5 _ _ (by omega) fun j => (row5_of_4096 x2 j).trans ?_
    exact (congrArg (fun R => R.rowVal 5) (raw0 x0 x1 x2 x3 x4 x5 x6 x7 x8 x9 x10 x11 j)).symm
  · refine tile_agrees _ 4096 0 4 _ _ (by omega) fun j => (row4_of_4096 x1 x2 j).trans ?_
    exact (congrArg (fun R => R.rowVal 4) (raw0 x0 x1 x2 x3 x4 x5 x6 x7 x8 x9 x10 x11 j)).symm
  · refine tile_agrees _ 4096 0 3 _ _ (by omega) fun j => (row3_of_4096 x9 x0 j).trans ?_
    exact (congrArg (fun R => R.rowVal 3) (raw0 x0 x1 x2 x3 x4 x5 x6 x7 x8 x9 x10 x11 j)).symm
  · refine tile_agrees _ 4096 0 2 _ _ (by omega) fun j => (row2_of_4096 x9 x0 j).trans ?_
    exact (congrArg (fun R => R.rowVal 2) (raw0 x0 x1 x2 x3 x4 x5 x6 x7 x8 x9 x10 x11 j)).symm
  · refine tile_agrees _ 4096 0 1 _ _ (by omega) fun j => (row1_of_4096 x9 x0 j).trans ?_
    exact (congrArg (fun R => R.rowVal 1) (raw0 x0 x1 x2 x3 x4 x5 x6 x7 x8 x9 x10 x11 j)).symm
  · refine tile_agrees _ 4096 0 0 _ _ (by omega) fun j => (row0_of_4096 x9 x0 j).trans ?_
    exact (congrArg (fun R => R.rowVal 0) (raw0 x0 x1 x2 x3 x4 x5 x6 x7 x8 x9 x10 x11 j)).symm
end

set_option maxRecDepth 8192
set_option maxHeartbeats 4000000

theorem run0_eq  (c : Dev nD) (i : grid0.Coords) (arg1 : Memref sig .tc .vmem S1x4x4096 .f32) (harg1 : arg1.IsWhole) (arg2 : Memref sig .tc .vmem S1x1x4096 .f32) (harg2 : arg2.IsWhole) (arg3 : Memref sig .tc .vmem S1x80x4096 .f32) (harg3 : arg3.IsWhole) (arg4 : Memref sig .tc .vmem S1x4x1024 .f32) (harg4 : arg4.IsWhole) (arg5 : Memref sig .tc .vmem S1x1x1024 .f32) (harg5 : arg5.IsWhole) (arg6 : Memref sig .tc .vmem S1x80x1024 .f32) (harg6 : arg6.IsWhole) (arg7 : Memref sig .tc .vmem S1x4x256 .f32) (harg7 : arg7.IsWhole) (arg8 : Memref sig .tc .vmem S1x1x256 .f32) (harg8 : arg8.IsWhole) (arg9 : Memref sig .tc .vmem S1x80x256 .f32) (harg9 : arg9.IsWhole) (arg10 : Memref sig .tc .vmem S4x4096 .f32) (harg10 : arg10.IsWhole) (arg11 : Memref sig .tc .vmem S4x1024 .f32) (harg11 : arg11.IsWhole) (arg12 : Memref sig .tc .vmem S4x256 .f32) (harg12 : arg12.IsWhole) (arg13 : Memref sig .tc .vmem S1x8x5376 .f32) (harg13 : arg13.IsWhole)
    (x0 : Vec Ideal S1x4x4096 .f32) (x1 : Vec Ideal S1x1x4096 .f32) (x2 : Vec Ideal S1x80x4096 .f32) (x3 : Vec Ideal S1x4x1024 .f32) (x4 : Vec Ideal S1x1x1024 .f32) (x5 : Vec Ideal S1x80x1024 .f32) (x6 : Vec Ideal S1x4x256 .f32) (x7 : Vec Ideal S1x1x256 .f32) (x8 : Vec Ideal S1x80x256 .f32) (x9 : Vec Ideal S4x4096 .f32) (x10 : Vec Ideal S4x1024 .f32) (x11 : Vec Ideal S4x256 .f32) : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11).1 = stores0 x0 x1 x2 x3 x4 x5 x6 x7 x8 x9 x10 x11 := by
  have l0 : View.readAt (Elt Ideal) arg1.view (Rect.unit (s := S1x4x4096) ![0, 0, 0] S1x4x4096.size inb_S1x4x4096_S1x4x4096_0_0_0).toLoadRect (harg1.unread x0) = x0 :=
    load_whole arg1 harg1 x0 zero3 _
  have l1 : View.readAt (Elt Ideal) arg2.view (Rect.unit (s := S1x1x4096) ![0, 0, 0] S1x1x4096.size inb_S1x1x4096_S1x1x4096_0_0_0).toLoadRect (harg2.unread x1) = x1 :=
    load_whole arg2 harg2 x1 zero3 _
  have l2 : View.readAt (Elt Ideal) arg3.view (Rect.unit (s := S1x80x4096) ![0, 0, 0] S1x80x4096.size inb_S1x80x4096_S1x80x4096_0_0_0).toLoadRect (harg3.unread x2) = x2 :=
    load_whole arg3 harg3 x2 zero3 _
  have l3 : View.readAt (Elt Ideal) arg4.view (Rect.unit (s := S1x4x1024) ![0, 0, 0] S1x4x1024.size inb_S1x4x1024_S1x4x1024_0_0_0).toLoadRect (harg4.unread x3) = x3 :=
    load_whole arg4 harg4 x3 zero3 _
  have l4 : View.readAt (Elt Ideal) arg5.view (Rect.unit (s := S1x1x1024) ![0, 0, 0] S1x1x1024.size inb_S1x1x1024_S1x1x1024_0_0_0).toLoadRect (harg5.unread x4) = x4 :=
    load_whole arg5 harg5 x4 zero3 _
  have l5 : View.readAt (Elt Ideal) arg6.view (Rect.unit (s := S1x80x1024) ![0, 0, 0] S1x80x1024.size inb_S1x80x1024_S1x80x1024_0_0_0).toLoadRect (harg6.unread x5) = x5 :=
    load_whole arg6 harg6 x5 zero3 _
  have l6 : View.readAt (Elt Ideal) arg7.view (Rect.unit (s := S1x4x256) ![0, 0, 0] S1x4x256.size inb_S1x4x256_S1x4x256_0_0_0).toLoadRect (harg7.unread x6) = x6 :=
    load_whole arg7 harg7 x6 zero3 _
  have l7 : View.readAt (Elt Ideal) arg8.view (Rect.unit (s := S1x1x256) ![0, 0, 0] S1x1x256.size inb_S1x1x256_S1x1x256_0_0_0).toLoadRect (harg8.unread x7) = x7 :=
    load_whole arg8 harg8 x7 zero3 _
  have l8 : View.readAt (Elt Ideal) arg9.view (Rect.unit (s := S1x80x256) ![0, 0, 0] S1x80x256.size inb_S1x80x256_S1x80x256_0_0_0).toLoadRect (harg9.unread x8) = x8 :=
    load_whole arg9 harg9 x8 zero3 _
  have l9 : View.readAt (Elt Ideal) arg10.view (Rect.unit (s := S4x4096) ![0, 0] S4x4096.size inb_S4x4096_S4x4096_0_0).toLoadRect (harg10.unread x9) = x9 :=
    load_whole arg10 harg10 x9 zero2 _
  have l10 : View.readAt (Elt Ideal) arg11.view (Rect.unit (s := S4x1024) ![0, 0] S4x1024.size inb_S4x1024_S4x1024_0_0).toLoadRect (harg11.unread x10) = x10 :=
    load_whole arg11 harg11 x10 zero2 _
  have l11 : View.readAt (Elt Ideal) arg12.view (Rect.unit (s := S4x256) ![0, 0] S4x256.size inb_S4x256_S4x256_0_0).toLoadRect (harg12.unread x11) = x11 :=
    load_whole arg12 harg12 x11 zero2 _
  unfold kernelRun0_A
  dsimp only
  sl_unfold_words
  simp (config := { proj := false }) only [l0, l1, l2, l3, l4, l5, l6, l7, l8, l9, l10, l11, stores0, tile, pair]

/-- The first kernel's block. -/
theorem out0_eq  (c : Dev nD) (i : grid0.Coords) (arg1 : Memref sig .tc .vmem S1x4x4096 .f32) (harg1 : arg1.IsWhole) (arg2 : Memref sig .tc .vmem S1x1x4096 .f32) (harg2 : arg2.IsWhole) (arg3 : Memref sig .tc .vmem S1x80x4096 .f32) (harg3 : arg3.IsWhole) (arg4 : Memref sig .tc .vmem S1x4x1024 .f32) (harg4 : arg4.IsWhole) (arg5 : Memref sig .tc .vmem S1x1x1024 .f32) (harg5 : arg5.IsWhole) (arg6 : Memref sig .tc .vmem S1x80x1024 .f32) (harg6 : arg6.IsWhole) (arg7 : Memref sig .tc .vmem S1x4x256 .f32) (harg7 : arg7.IsWhole) (arg8 : Memref sig .tc .vmem S1x1x256 .f32) (harg8 : arg8.IsWhole) (arg9 : Memref sig .tc .vmem S1x80x256 .f32) (harg9 : arg9.IsWhole) (arg10 : Memref sig .tc .vmem S4x4096 .f32) (harg10 : arg10.IsWhole) (arg11 : Memref sig .tc .vmem S4x1024 .f32) (harg11 : arg11.IsWhole) (arg12 : Memref sig .tc .vmem S4x256 .f32) (harg12 : arg12.IsWhole) (arg13 : Memref sig .tc .vmem S1x8x5376 .f32) (harg13 : arg13.IsWhole)
    (x0 : Vec Ideal S1x4x4096 .f32) (x1 : Vec Ideal S1x1x4096 .f32) (x2 : Vec Ideal S1x80x4096 .f32) (x3 : Vec Ideal S1x4x1024 .f32) (x4 : Vec Ideal S1x1x1024 .f32) (x5 : Vec Ideal S1x80x1024 .f32) (x6 : Vec Ideal S1x4x256 .f32) (x7 : Vec Ideal S1x1x256 .f32) (x8 : Vec Ideal S1x80x256 .f32) (x9 : Vec Ideal S4x4096 .f32) (x10 : Vec Ideal S4x1024 .f32) (x11 : Vec Ideal S4x256 .f32) : out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 = block0 (rawOf x0 x1 x2 x3 x4 x5 x6 x7 x8 x9 x10 x11) := by
  funext y
  unfold out0_A_12
  rw [View.read_writes_apply_eq_canon _ _ _ _ (cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 _)]
  have hc := cover0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 y
  rw [run0_eq] at hc ⊢
  exact View.canon_apply_of_pieces (block0 _) _ (stores0_agree _ _ _ _ _ _ _ _ _ _ _ _) _ hc

end Cert.KerRun

end
-- ==== Proof.Args.lean ====
/- The raw values of one image, read off the thirteen argument arrays. -/
module

public import proofs.«01_k».proof.Proof.Spec
public import Idealize.ShloMosaic.Lib.Pointwise

@[expose] public section

noncomputable section

namespace Cert.Spec

open Idealize.ShloMosaic Idealize.ShloMosaic.Pointwise

/-- An array of rank 4 over the ideal numbers. -/
abbrev Arr4 (a b c d : ℕ) := Vec Ideal (⟨4, ![a, b, c, d]⟩ : Shape) .f32
/-- An array of rank 2 over the ideal numbers. -/
abbrev Arr2 (a b : ℕ) := Vec Ideal (⟨2, ![a, b]⟩ : Shape) .f32

/-- The arguments the result depends on: three levels of predictions and three tables of anchors. -/
structure Args where
  a0 : Arr4 8 4 64 64
  a1 : Arr4 8 1 64 64
  a2 : Arr4 8 80 64 64
  a3 : Arr4 8 4 32 32
  a4 : Arr4 8 1 32 32
  a5 : Arr4 8 80 32 32
  a6 : Arr4 8 4 16 16
  a7 : Arr4 8 1 16 16
  a8 : Arr4 8 80 16 16
  a9 : Arr2 4096 4
  a10 : Arr2 1024 4
  a11 : Arr2 256 4

/-- The entry of one image and channel at cell `j` of a 64 by 64 grid, row by row. -/
def at64 {n : ℕ} (x : Arr4 8 n 64 64) (b : Fin 8) (k : Fin n) (j : Fin 4096) : EReal :=
  x (ix4 b k ⟨j.val / 64, by omega⟩ ⟨j.val % 64, by omega⟩)
/-- The same over a 32 by 32 grid. -/
def at32 {n : ℕ} (x : Arr4 8 n 32 32) (b : Fin 8) (k : Fin n) (j : Fin 1024) : EReal :=
  x (ix4 b k ⟨j.val / 32, by omega⟩ ⟨j.val % 32, by omega⟩)
/-- The same over a 16 by 16 grid. -/
def at16 {n : ℕ} (x : Arr4 8 n 16 16) (b : Fin 8) (k : Fin n) (j : Fin 256) : EReal :=
  x (ix4 b k ⟨j.val / 16, by omega⟩ ⟨j.val % 16, by omega⟩)

/-- The raw values of image `b`. -/
def Args.raw (A : Args) (b : Fin 8) : Raw where
  anc := glue (fun j r => A.a9 (ix2 j r)) (fun j r => A.a10 (ix2 j r)) (fun j r => A.a11 (ix2 j r))
  prd := glue (fun j r => at64 A.a0 b r j) (fun j r => at32 A.a3 b r j) (fun j r => at16 A.a6 b r j)
  obj := glue (fun j => at64 A.a1 b 0 j) (fun j => at32 A.a4 b 0 j) (fun j => at16 A.a7 b 0 j)
  cla := glue (fun j k => at64 A.a2 b k j) (fun j k => at32 A.a5 b k j) (fun j k => at16 A.a8 b k j)

end Cert.Spec

end
-- ==== Proof.KerHost.lean ====
/- What the first kernel reads of the arguments, block by block. -/
module

public import proofs.«01_k».proof.Proof.KerDecode
public import proofs.«01_k».proof.Proof.Args
public import Idealize.ShloMosaic.Lib.Pipeline.ValueKit

@[expose] public section

noncomputable section

namespace Cert.KerRun

open Cert.KernelIdeal Cert.KernelIdeal.Gen Cert.Spec
open Idealize.ShloMosaic Idealize.ShloMosaic.TcCoe Idealize.ShloMosaic.Pointwise

variable (m : (ℓ : Loc nD τ sig) → Buf (Elt Ideal) ℓ) (ρ : Dev nD → PrngReg)

/-- A core's arguments. -/
def argsOf (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11)⟩

/-- A grid point's image. -/
def img (t : Fin cfg0.N) : Fin 8 := ⟨t.val, t.isLt⟩

theorem v0_eq (c : Dev nD) : V1 m ρ c main_v0 = shapeCast S8x4x4096 (m ((c : Thread nD τ).loc main_arg0)) shapeCasts_S8x4x64x64_S8x4x4096 := by
  show StableHlo.after hostOps0 _ _ = _
  after_results
  rfl
theorem idx_0 : ∀ t : Fin cfg0.N, win0_0.index t = ![t.val, 0, 0] :=
  (by decide +kernel : ∀ t : Fin grid0.N, win0_0.index t = ![t.val, 0, 0])
theorem blk_0 (c : Dev nD) (t : Fin cfg0.N) (k : Fin 4) (j : Fin 4096) :
    iblk0 (V1 m ρ) c 0 t (ix3 0 k j) = at64 (argsOf m c).a0 (img t) k j := by
  have h : iblk0 (V1 m ρ) c 0 t (ix3 0 k j) = V1 m ρ c main_v0 (ix3 (img t) k j) := by
    blk_simp [iblk0]
    blk_ext [idx_0 t, img]
  rw [h, v0_eq]
  pointwise []
  rfl

theorem v3_eq (c : Dev nD) : V1 m ρ c main_v3 = shapeCast S8x1x4096 (m ((c : Thread nD τ).loc main_arg1)) shapeCasts_S8x1x64x64_S8x1x4096 := by
  show StableHlo.after hostOps0 _ _ = _
  after_results
  rfl
theorem idx_1 : ∀ t : Fin cfg0.N, win0_1.index t = ![t.val, 0, 0] :=
  (by decide +kernel : ∀ t : Fin grid0.N, win0_1.index t = ![t.val, 0, 0])
theorem blk_1 (c : Dev nD) (t : Fin cfg0.N) (j : Fin 4096) :
    iblk0 (V1 m ρ) c 1 t (ix3 0 0 j) = at64 (argsOf m c).a1 (img t) 0 j := by
  have h : iblk0 (V1 m ρ) c 1 t (ix3 0 0 j) = V1 m ρ c main_v3 (ix3 (img t) 0 j) := by
    blk_simp [iblk0]
    blk_ext [idx_1 t, img]
  rw [h, v3_eq]
  pointwise []
  rfl

theorem v6_eq (c : Dev nD) : V1 m ρ c main_v6 = shapeCast S8x80x4096 (m ((c : Thread nD τ).loc main_arg2)) shapeCasts_S8x80x64x64_S8x80x4096 := by
  show StableHlo.after hostOps0 _ _ = _
  after_results
  rfl
theorem idx_2 : ∀ t : Fin cfg0.N, win0_2.index t = ![t.val, 0, 0] :=
  (by decide +kernel : ∀ t : Fin grid0.N, win0_2.index t = ![t.val, 0, 0])
theorem blk_2 (c : Dev nD) (t : Fin cfg0.N) (k : Fin 80) (j : Fin 4096) :
    iblk0 (V1 m ρ) c 2 t (ix3 0 k j) = at64 (argsOf m c).a2 (img t) k j := by
  have h : iblk0 (V1 m ρ) c 2 t (ix3 0 k j) = V1 m ρ c main_v6 (ix3 (img t) k j) := by
    blk_simp [iblk0]
    blk_ext [idx_2 t, img]
  rw [h, v6_eq]
  pointwise []
  rfl

theorem v1_eq (c : Dev nD) : V1 m ρ c main_v1 = shapeCast S8x4x1024 (m ((c : Thread nD τ).loc main_arg3)) shapeCasts_S8x4x32x32_S8x4x1024 := by
  show StableHlo.after hostOps0 _ _ = _
  after_results
  rfl
theorem idx_3 : ∀ t : Fin cfg0.N, win0_3.index t = ![t.val, 0, 0] :=
  (by decide +kernel : ∀ t : Fin grid0.N, win0_3.index t = ![t.val, 0, 0])
theorem blk_3 (c : Dev nD) (t : Fin cfg0.N) (k : Fin 4) (j : Fin 1024) :
    iblk0 (V1 m ρ) c 3 t (ix3 0 k j) = at32 (argsOf m c).a3 (img t) k j := by
  have h : iblk0 (V1 m ρ) c 3 t (ix3 0 k j) = V1 m ρ c main_v1 (ix3 (img t) k j) := by
    blk_simp [iblk0]
    blk_ext [idx_3 t, img]
  rw [h, v1_eq]
  pointwise []
  rfl

theorem v4_eq (c : Dev nD) : V1 m ρ c main_v4 = shapeCast S8x1x1024 (m ((c : Thread nD τ).loc main_arg4)) shapeCasts_S8x1x32x32_S8x1x1024 := by
  show StableHlo.after hostOps0 _ _ = _
  after_results
  rfl
theorem idx_4 : ∀ t : Fin cfg0.N, win0_4.index t = ![t.val, 0, 0] :=
  (by decide +kernel : ∀ t : Fin grid0.N, win0_4.index t = ![t.val, 0, 0])
theorem blk_4 (c : Dev nD) (t : Fin cfg0.N) (j : Fin 1024) :
    iblk0 (V1 m ρ) c 4 t (ix3 0 0 j) = at32 (argsOf m c).a4 (img t) 0 j := by
  have h : iblk0 (V1 m ρ) c 4 t (ix3 0 0 j) = V1 m ρ c main_v4 (ix3 (img t) 0 j) := by
    blk_simp [iblk0]
    blk_ext [idx_4 t, img]
  rw [h, v4_eq]
  pointwise []
  rfl

theorem v7_eq (c : Dev nD) : V1 m ρ c main_v7 = shapeCast S8x80x1024 (m ((c : Thread nD τ).loc main_arg5)) shapeCasts_S8x80x32x32_S8x80x1024 := by
  show StableHlo.after hostOps0 _ _ = _
  after_results
  rfl
theorem idx_5 : ∀ t : Fin cfg0.N, win0_5.index t = ![t.val, 0, 0] :=
  (by decide +kernel : ∀ t : Fin grid0.N, win0_5.index t = ![t.val, 0, 0])
theorem blk_5 (c : Dev nD) (t : Fin cfg0.N) (k : Fin 80) (j : Fin 1024) :
    iblk0 (V1 m ρ) c 5 t (ix3 0 k j) = at32 (argsOf m c).a5 (img t) k j := by
  have h : iblk0 (V1 m ρ) c 5 t (ix3 0 k j) = V1 m ρ c main_v7 (ix3 (img t) k j) := by
    blk_simp [iblk0]
    blk_ext [idx_5 t, img]
  rw [h, v7_eq]
  pointwise []
  rfl

theorem v2_eq (c : Dev nD) : V1 m ρ c main_v2 = shapeCast S8x4x256 (m ((c : Thread nD τ).loc main_arg6)) shapeCasts_S8x4x16x16_S8x4x256 := by
  show StableHlo.after hostOps0 _ _ = _
  after_results
  rfl
theorem idx_6 : ∀ t : Fin cfg0.N, win0_6.index t = ![t.val, 0, 0] :=
  (by decide +kernel : ∀ t : Fin grid0.N, win0_6.index t = ![t.val, 0, 0])
theorem blk_6 (c : Dev nD) (t : Fin cfg0.N) (k : Fin 4) (j : Fin 256) :
    iblk0 (V1 m ρ) c 6 t (ix3 0 k j) = at16 (argsOf m c).a6 (img t) k j := by
  have h : iblk0 (V1 m ρ) c 6 t (ix3 0 k j) = V1 m ρ c main_v2 (ix3 (img t) k j) := by
    blk_simp [iblk0]
    blk_ext [idx_6 t, img]
  rw [h, v2_eq]
  pointwise []
  rfl

theorem v5_eq (c : Dev nD) : V1 m ρ c main_v5 = shapeCast S8x1x256 (m ((c : Thread nD τ).loc main_arg7)) shapeCasts_S8x1x16x16_S8x1x256 := by
  show StableHlo.after hostOps0 _ _ = _
  after_results
  rfl
theorem idx_7 : ∀ t : Fin cfg0.N, win0_7.index t = ![t.val, 0, 0] :=
  (by decide +kernel : ∀ t : Fin grid0.N, win0_7.index t = ![t.val, 0, 0])
theorem blk_7 (c : Dev nD) (t : Fin cfg0.N) (j : Fin 256) :
    iblk0 (V1 m ρ) c 7 t (ix3 0 0 j) = at16 (argsOf m c).a7 (img t) 0 j := by
  have h : iblk0 (V1 m ρ) c 7 t (ix3 0 0 j) = V1 m ρ c main_v5 (ix3 (img t) 0 j) := by
    blk_simp [iblk0]
    blk_ext [idx_7 t, img]
  rw [h, v5_eq]
  pointwise []
  rfl

theorem v8_eq (c : Dev nD) : V1 m ρ c main_v8 = shapeCast S8x80x256 (m ((c : Thread nD τ).loc main_arg8)) shapeCasts_S8x80x16x16_S8x80x256 := by
  show StableHlo.after hostOps0 _ _ = _
  after_results
  rfl
theorem idx_8 : ∀ t : Fin cfg0.N, win0_8.index t = ![t.val, 0, 0] :=
  (by decide +kernel : ∀ t : Fin grid0.N, win0_8.index t = ![t.val, 0, 0])
theorem blk_8 (c : Dev nD) (t : Fin cfg0.N) (k : Fin 80) (j : Fin 256) :
    iblk0 (V1 m ρ) c 8 t (ix3 0 k j) = at16 (argsOf m c).a8 (img t) k j := by
  have h : iblk0 (V1 m ρ) c 8 t (ix3 0 k j) = V1 m ρ c main_v8 (ix3 (img t) k j) := by
    blk_simp [iblk0]
    blk_ext [idx_8 t, img]
  rw [h, v8_eq]
  pointwise []
  rfl

theorem v9_eq (c : Dev nD) : V1 m ρ c main_v9 = transpose S4x4096 [1, 0] (m ((c : Thread nD τ).loc main_arg9)) transposes_S4096x4_S4x4096_1_0 := by
  show StableHlo.after hostOps0 _ _ = _
  after_results
theorem idx_9 : ∀ t : Fin cfg0.N, win0_9.index t = ![0, 0] :=
  (by decide +kernel : ∀ t : Fin grid0.N, win0_9.index t = ![0, 0])
theorem blk_9 (c : Dev nD) (t : Fin cfg0.N) (k : Fin 4) (j : Fin 4096) :
    iblk0 (V1 m ρ) c 9 t (ix2 k j) = (argsOf m c).a9 (ix2 j k) := by
  have h : iblk0 (V1 m ρ) c 9 t (ix2 k j) = V1 m ρ c main_v9 (ix2 k j) := by
    blk_simp [iblk0]
    blk_ext [idx_9 t]
  rw [h, v9_eq]
  pointwise []
  rfl

theorem v10_eq (c : Dev nD) : V1 m ρ c main_v10 = transpose S4x1024 [1, 0] (m ((c : Thread nD τ).loc main_arg10)) transposes_S1024x4_S4x1024_1_0 := by
  show StableHlo.after hostOps0 _ _ = _
  after_results
theorem idx_10 : ∀ t : Fin cfg0.N, win0_10.index t = ![0, 0] :=
  (by decide +kernel : ∀ t : Fin grid0.N, win0_10.index t = ![0, 0])
theorem blk_10 (c : Dev nD) (t : Fin cfg0.N) (k : Fin 4) (j : Fin 1024) :
    iblk0 (V1 m ρ) c 10 t (ix2 k j) = (argsOf m c).a10 (ix2 j k) := by
  have h : iblk0 (V1 m ρ) c 10 t (ix2 k j) = V1 m ρ c main_v10 (ix2 k j) := by
    blk_simp [iblk0]
    blk_ext [idx_10 t]
  rw [h, v10_eq]
  pointwise []
  rfl

theorem v11_eq (c : Dev nD) : V1 m ρ c main_v11 = transpose S4x256 [1, 0] (m ((c : Thread nD τ).loc main_arg11)) transposes_S256x4_S4x256_1_0 := by
  show StableHlo.after hostOps0 _ _ = _
  after_results
theorem idx_11 : ∀ t : Fin cfg0.N, win0_11.index t = ![0, 0] :=
  (by decide +kernel : ∀ t : Fin grid0.N, win0_11.index t = ![0, 0])
theorem blk_11 (c : Dev nD) (t : Fin cfg0.N) (k : Fin 4) (j : Fin 256) :
    iblk0 (V1 m ρ) c 11 t (ix2 k j) = (argsOf m c).a11 (ix2 j k) := by
  have h : iblk0 (V1 m ρ) c 11 t (ix2 k j) = V1 m ρ c main_v11 (ix2 k j) := by
    blk_simp [iblk0]
    blk_ext [idx_11 t]
  rw [h, v11_eq]
  pointwise []
  rfl

/-- The blocks of a grid point are its image's raw values. -/
theorem rawOf_blocks (c : Dev nD) (t : Fin cfg0.N) :
    rawOf (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) = (argsOf m c).raw (img t) := by
  unfold rawOf Args.raw
  simp only [blk_0, blk_1, blk_2, blk_3, blk_4, blk_5, blk_6, blk_7, blk_8, blk_9, blk_10, blk_11]

end Cert.KerRun

end
-- ==== Proof.KerBody.lean ====
/- What the suppression kernel's block stores, over the block it reads. -/
module

public import proofs.«01_k».proof.Proof.KerLoop
public import Idealize.ShloMosaic.PureOps.Ideal

@[expose] public section

noncomputable section

namespace Cert.KerRun

open Cert.KernelIdeal Cert.KernelIdeal.Gen
open Idealize.ShloMosaic Idealize.ShloMosaic.TcCoe Idealize.ShloMosaic.Tactic

/-- A row of the block. -/
abbrev Row := Vec Ideal S8x1x5376 .f32

/-- The load of row `r` of the block. -/
abbrev rowOf (a : Memref sig .tc .vmem S8x8x5376 .f32) (ha : a.IsWhole) (x0 : Vec Ideal S8x8x5376 .f32) (r : ℕ)
    (inb : ∀ i, (![0, r, 0] : Fin 3 → ℕ) i + S8x1x5376.size i ≤ S8x8x5376.size i) : Row :=
  View.readAt (Elt Ideal) a.view (Rect.unit (s := S8x8x5376) ![0, r, 0] S8x1x5376.size inb).toLoadRect (ha.unread x0)

/-- What the loop reads and does not change, from the block's rows. -/
def env0 (R0 R1 R2 R3 R5 : Row) : Env where
  key := k1_pay101 (k1_pay85 R5)
  ii := iota Kind.tc S8x5376 32 [1] iota_S8x5376_d1_w32
  ti := iota Kind.tc S8x128 32 [1] iota_S8x128_d1_w32
  o1 := k1_pay91 R0 R5
  o2 := k1_pay92 R1 R5
  o3 := k1_pay93 R2 R5
  o4 := k1_pay94 R3 R5
  ar := k1_pay96 (k1_pay95 R0 R1 R2 R3 R5)
  r1 := k1_pay97 (k1_pay81 R0)
  r2 := k1_pay98 (k1_pay82 R1)
  r3 := k1_pay99 (k1_pay83 R2)
  r4 := k1_pay100 (k1_pay84 R3)

/-- The carried values at the loop's entry. -/
def init0 (R4 : Row) : Acc := (k1_pay102, k1_pay102, k1_pay102, k1_pay102, k1_pay102, k1_pay106, k1_pay105 R4)

/-- The carried values after the loop. -/
def fin (R0 R1 R2 R3 R4 R5 : Row) : Acc := (runTrips (env0 R0 R1 R2 R3 R5) (init0 R4) (k1_pay104 R4) 50).1

/-- A store of row `r` of the output block. -/
def slab (r : ℕ) (inb : ∀ i, (![0, r, 0] : Fin 3 → ℕ) i + S8x1x128.size i ≤ S8x8x128.size i) (v : FVec Ideal S8x1x128 .f32) : View.Piece (Elt Ideal) S8x8x128 .f32 :=
  ⟨Rect.unit (s := S8x8x128) ![0, r, 0] S8x1x128.size inb, v⟩

/-- The block's stores, from the carried values after the loop. -/
def stores (a : Acc) : List (View.Piece (Elt Ideal) S8x8x128 .f32) :=
  [slab 7 inb_S8x8x128_S8x1x128_0_7_0 (k1_pay8 k1_pay102),
   slab 6 inb_S8x8x128_S8x1x128_0_6_0 (k1_pay7 k1_pay102),
   slab 5 inb_S8x8x128_S8x1x128_0_5_0 (k1_pay6 a.2.2.2.2.2.1),
   slab 4 inb_S8x8x128_S8x1x128_0_4_0 (k1_pay5 a.2.2.2.2.1),
   slab 3 inb_S8x8x128_S8x1x128_0_3_0 (k1_pay4 a.2.2.2.1),
   slab 2 inb_S8x8x128_S8x1x128_0_2_0 (k1_pay3 a.2.2.1),
   slab 1 inb_S8x8x128_S8x1x128_0_1_0 (k1_pay2 a.2.1),
   slab 0 inb_S8x8x128_S8x1x128_0_0_0 (k1_pay1 a.1)]

theorem trips_eq : Scf.trips k1_t1_loop.lb k1_t1_loop.ub k1_t1_loop.st = 50 := by decide +kernel

set_option maxRecDepth 8192
set_option maxHeartbeats 4000000

theorem st_fin (𝒱 : Variants) (c : Dev nD) (bd : Option 𝒱.V) (arg0 : Memref sig .tc .vmem S8x8x5376 .f32) (harg0 : arg0.IsWhole) (arg1 : Memref sig .tc .vmem S8x8x128 .f32) (harg1 : arg1.IsWhole) (arg2 : Memref sig .tc .vmem S8x5376 .f32) (harg2 : arg2.IsWhole) (arg3 : Memref sig .tc .vmem S8x5376 .f32) (harg3 : arg3.IsWhole) (arg4 : Memref sig .tc .vmem S8x5376 .f32) (harg4 : arg4.IsWhole) (arg5 : Memref sig .tc .vmem S8x5376 .f32) (harg5 : arg5.IsWhole) (arg6 : Memref sig .tc .vmem S8x5376 .f32) (harg6 : arg6.IsWhole) (arg7 : Memref sig .tc .vmem S8x5376 .f32) (harg7 : arg7.IsWhole) (arg8 : Memref sig .tc .vmem S8x5376 .f32) (harg8 : arg8.IsWhole) (arg9 : Memref sig .tc .vmem S8x5376 .f32) (harg9 : arg9.IsWhole) (arg10 : Memref sig .tc .vmem S8x5376 .f32) (harg10 : arg10.IsWhole) (arg11 : Memref sig .tc .vmem S8x5376 .f32) (harg11 : arg11.IsWhole) (v1 : FVec Ideal S8x5376 .f32) (v3 : FVec Ideal S8x5376 .f32) (v5 : FVec Ideal S8x5376 .f32) (v7 : FVec Ideal S8x5376 .f32) (v9 : FVec Ideal S8x5376 .f32) (v30 : FVec Ideal S8x5376 .f32) (v46 : IVec S8x5376 32) (v51 : IVec S8x128 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty)
   (G : BufTy.Contents (Elt Ideal) arg11.view.ty) (init : Acc) :
   (st_k1_t1 (F := Ideal) 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 G init (Scf.trips k1_t1_loop.lb k1_t1_loop.ub k1_t1_loop.st)).1
     = (runTrips ⟨k1_pay101 v9, v46, v51, ldWhole arg2 X2, ldWhole arg3 X3, ldWhole arg4 X4, ldWhole arg5 X5, ldWhole arg6 X6, ldWhole arg7 X7, ldWhole arg8 X8, ldWhole arg9 X9, ldWhole arg10 X10⟩ init (ldWhole arg11 G) 50).1 :=
  ((st_eq 𝒱 c bd arg0 harg0 arg1 harg1 arg2 harg2 arg3 harg3 arg4 harg4 arg5 harg5 arg6 harg6 arg7 harg7 arg8 harg8 arg9 harg9 arg10 harg10 arg11 harg11 v1 v3 v5 v7 v9 v30 v46 v51 X2 X3 X4 X5 X6 X7 X8 X9 X10 G init _ le_rfl).1).trans (by rw [show k1_t1_loop.trips = 50 from trips_eq])

/-- The stores of the block. -/
theorem run1_eq (c : Dev nD) (arg0 : Memref sig .tc .vmem S8x8x5376 .f32) (harg0 : arg0.IsWhole) (arg1 : Memref sig .tc .vmem S8x8x128 .f32) (harg1 : arg1.IsWhole) (arg2 : Memref sig .tc .vmem S8x5376 .f32) (harg2 : arg2.IsWhole) (arg3 : Memref sig .tc .vmem S8x5376 .f32) (harg3 : arg3.IsWhole) (arg4 : Memref sig .tc .vmem S8x5376 .f32) (harg4 : arg4.IsWhole) (arg5 : Memref sig .tc .vmem S8x5376 .f32) (harg5 : arg5.IsWhole) (arg6 : Memref sig .tc .vmem S8x5376 .f32) (harg6 : arg6.IsWhole) (arg7 : Memref sig .tc .vmem S8x5376 .f32) (harg7 : arg7.IsWhole) (arg8 : Memref sig .tc .vmem S8x5376 .f32) (harg8 : arg8.IsWhole) (arg9 : Memref sig .tc .vmem S8x5376 .f32) (harg9 : arg9.IsWhole) (arg10 : Memref sig .tc .vmem S8x5376 .f32) (harg10 : arg10.IsWhole) (arg11 : Memref sig .tc .vmem S8x5376 .f32) (harg11 : arg11.IsWhole) (x0 : Vec Ideal S8x8x5376 .f32) :
    (kernelRun1_A c arg0 harg0 arg1 harg1 arg2 harg2 arg3 harg3 arg4 harg4 arg5 harg5 arg6 harg6 arg7 harg7 arg8 harg8 arg9 harg9 arg10 harg10 arg11 harg11 x0).1 = stores (fin (rowOf arg0 harg0 x0 0 inb_S8x8x5376_S8x1x5376_0_0_0) (rowOf arg0 harg0 x0 1 inb_S8x8x5376_S8x1x5376_0_1_0) (rowOf arg0 harg0 x0 2 inb_S8x8x5376_S8x1x5376_0_2_0) (rowOf arg0 harg0 x0 3 inb_S8x8x5376_S8x1x5376_0_3_0) (rowOf arg0 harg0 x0 4 inb_S8x8x5376_S8x1x5376_0_4_0) (rowOf arg0 harg0 x0 5 inb_S8x8x5376_S8x1x5376_0_5_0)) := by
  unfold kernelRun1_A
  dsimp only
  sl_unfold_words
  simp (config := { proj := false }) only [st_fin, ld_writes, stores, slab, fin, env0, init0, rowOf]

end Cert.KerRun

end
-- ==== Proof.KerBlock.lean ====
/- The value of the second kernel's block: the reported rows of every image, when the block it reads holds the boxes. -/
module

public import proofs.«01_k».proof.Proof.KerBody
public import proofs.«01_k».proof.Proof.KerSpec
public import Idealize.ShloMosaic.Lib.Pipeline.ValueKit.Tiles

@[expose] public section

noncomputable section

namespace Cert.KerRun

open Cert.KernelIdeal Cert.KernelIdeal.Gen Cert.Spec
open Idealize.ShloMosaic Idealize.ShloMosaic.TcCoe Idealize.ShloMosaic.Pointwise

/-- A loaded row, at an index. -/
theorem rowOf_apply (a : Memref sig .tc .vmem S8x8x5376 .f32) (ha : a.IsWhole) (x0 : Vec Ideal S8x8x5376 .f32) (r : Fin 8)
    (inb : ∀ i, (![0, r.val, 0] : Fin 3 → ℕ) i + S8x1x5376.size i ≤ S8x8x5376.size i) (b : Fin 8) (j : Fin 5376) :
    rowOf a ha x0 r.val inb (ix3 b 0 j) = x0 (ix3 b r j) := by
  unfold rowOf
  rw [View.readAt_eq_ld, ha.read_unread]
  refine View.ld_unit_apply_of x0 _ _ inb _ (ix3 b r j) fun i => ?_
  fin_cases i
  · show b.val = 0 + b.val; omega
  · show r.val = r.val + 0; omega
  · show j.val = 0 + j.val; omega

/-- Reading a small class number back as a word. -/
theorem fptosi_num (k : Fin 80) : FloatOps.fptosi (F := Ideal) (φ := .f32) 32 (num k) = BitVec.ofNat 32 k.val := by
  show Ideal.fptosi 32 (num k) = _
  have hk := k.isLt
  have e : Ideal.toIntClamped (-(2 ^ (32 - 1) : Nat)) ((2 ^ (32 - 1) : Nat) - 1) (((k.val : ℝ) : EReal)) = (k.val : ℤ) := by
    show max _ (min _ (if (0 : ℝ) ≤ (k.val : ℝ) then ⌊(k.val : ℝ)⌋ else ⌈(k.val : ℝ)⌉)) = _
    rw [if_pos (Nat.cast_nonneg _), Int.floor_natCast]
    omega
  unfold Ideal.fptosi num
  rw [e]
  exact BitVec.ofInt_natCast _ _

section
variable {R0 R1 R2 R3 R4 R5 : Row} {B : Fin 8 → Boxes} {f : Fin 8 → Fin 5376 → EReal}

set_option maxRecDepth 8192

theorem env0_reads (h0 : ∀ b j, R0 (ix3 b 0 j) = (B b).at_ 0 j) (h1 : ∀ b j, R1 (ix3 b 0 j) = (B b).at_ 1 j)
    (h2 : ∀ b j, R2 (ix3 b 0 j) = (B b).at_ 2 j) (h3 : ∀ b j, R3 (ix3 b 0 j) = (B b).at_ 3 j)
    (h5 : ∀ b j, R5 (ix3 b 0 j) = num ((B b).kind j)) : Reads (env0 R0 R1 R2 R3 R5) B where
  key b j := by
    show k1_pay101 (k1_pay85 R5) (ix2 b j) = _
    pointwise [k1_pay101, k1_pay85]
    rw [h5, fptosi_num]
    have := ((B b).kind j).isLt
    have := j.isLt
    apply BitVec.eq_of_toNat_eq
    simp [IntOp.addi, IntOp.muli]
  ii b j := by
    show iota Kind.tc S8x5376 32 [1] iota_S8x5376_d1_w32 (ix2 b j) = _
    pointwise
  ti b j := by
    show iota Kind.tc S8x128 32 [1] iota_S8x128_d1_w32 (ix2 b j) = _
    pointwise
  o1 b j := by
    show k1_pay91 R0 R5 (ix2 b j) = _
    pointwise [k1_pay91, k1_pay87, k1_pay86, k1_pay85, k1_pay81]
    rw [h0, h5]; rfl
  o2 b j := by
    show k1_pay92 R1 R5 (ix2 b j) = _
    pointwise [k1_pay92, k1_pay88, k1_pay86, k1_pay85, k1_pay82]
    rw [h1, h5]; rfl
  o3 b j := by
    show k1_pay93 R2 R5 (ix2 b j) = _
    pointwise [k1_pay93, k1_pay89, k1_pay86, k1_pay85, k1_pay83]
    rw [h2, h5]; rfl
  o4 b j := by
    show k1_pay94 R3 R5 (ix2 b j) = _
    pointwise [k1_pay94, k1_pay90, k1_pay86, k1_pay85, k1_pay84]
    rw [h3, h5]; rfl
  ar b j := by
    show k1_pay96 (k1_pay95 R0 R1 R2 R3 R5) (ix2 b j) = _
    pointwise [k1_pay96, k1_pay95, k1_pay87, k1_pay88, k1_pay89, k1_pay90, k1_pay86, k1_pay85, k1_pay81, k1_pay82, k1_pay83, k1_pay84]
    rw [h0, h1, h2, h3, h5]; rfl
  r1 b j := by
    show k1_pay97 (k1_pay81 R0) (ix2 b j) = _
    pointwise [k1_pay97, k1_pay81]
    exact h0 b j
  r2 b j := by
    show k1_pay98 (k1_pay82 R1) (ix2 b j) = _
    pointwise [k1_pay98, k1_pay82]
    exact h1 b j
  r3 b j := by
    show k1_pay99 (k1_pay83 R2) (ix2 b j) = _
    pointwise [k1_pay99, k1_pay83]
    exact h2 b j
  r4 b j := by
    show k1_pay100 (k1_pay84 R3) (ix2 b j) = _
    pointwise [k1_pay100, k1_pay84]
    exact h3 b j

/-- The largest entry of a row, as the kernel takes it. -/
theorem row_best {n : ℕ} (x : FVec Ideal ⟨2, ![8, n]⟩ .f32) (h : (⟨2, ![8, n]⟩ : Shape).Reduces [1] S8) (b : Fin 8) :
    shapeCast S8x1 (multiReduction .maximumf [1] S8 x 0xFF800000#32 h (.inl rfl) rfl) shapeCasts_S8_S8x1 (ix2 b 0)
      = best fun j : Fin n => x (ix2 b j) := by
  pointwise
  rfl

theorem init0_before (h4 : ∀ b j, R4 (ix3 b 0 j) = f b j) : Before B f 0 (init0 R4) (k1_pay104 R4) := by
  refine ⟨⟨fun b j => ?_, fun b => ?_⟩, fun r b l hl => absurd hl (Nat.not_lt_zero _)⟩
  · pointwise [k1_pay104, k1_pay103]
    exact h4 b j
  · have e0 : (init0 R4).2.2.2.2.2.2 = k1_pay105 R4 := by simp only [init0]
    rw [e0]
    simp only [Boxes.scores]
    unfold k1_pay105
    have e := row_best (n := 5376) (k1_pay103 R4) reduces_S8x5376_S8 b
    refine e.trans (congrArg best (funext fun j => ?_))
    pointwise [k1_pay103]
    exact h4 b j

/-- The slots after all the steps. -/
theorem fin_apply (h0 : ∀ b j, R0 (ix3 b 0 j) = (B b).at_ 0 j) (h1 : ∀ b j, R1 (ix3 b 0 j) = (B b).at_ 1 j)
    (h2 : ∀ b j, R2 (ix3 b 0 j) = (B b).at_ 2 j) (h3 : ∀ b j, R3 (ix3 b 0 j) = (B b).at_ 3 j)
    (h4 : ∀ b j, R4 (ix3 b 0 j) = f b j) (h5 : ∀ b j, R5 (ix3 b 0 j) = num ((B b).kind j)) (r : Fin 6) (b : Fin 8) (l : Fin 128) (hl : l.val < 100) :
    lane (fin R0 R1 R2 R3 R4 R5) r (ix2 b l) = (B b).report ((B b).scores (f b) l.val) r :=
  (runTrips_before (env0_reads h0 h1 h2 h3 h5) (init0_before h4) 50 (by omega)).lanes r b l (by omega)

end

/-! ## The block -/

/-- What row `r` of the output block holds. -/
def laneOr (a : Acc) (r : Fin 8) : Lane := if h : r.val < 6 then lane a ⟨r.val, h⟩ else k1_pay102

/-- What the output block holds. -/
def blockOf (a : Acc) (i : S8x8x128.Idx) : EReal := laneOr a (i 1) (ix2 (i 0) (i 2))

theorem blockOf_apply (a : Acc) (b : Fin 8) (r : Fin 6) (l : Fin 128) : blockOf a (ix3 b (Fin.castLE (show 6 ≤ 8 by omega) r) l) = lane a r (ix2 b l) := by
  show laneOr a (Fin.castLE (show 6 ≤ 8 by omega) r) (ix2 b l) = _
  unfold laneOr
  exact congrFun (dif_pos r.isLt) _

/-- A stored row agrees with the block it is part of. -/
theorem slab_agrees (a : Acc) (r : Fin 8) (inb : ∀ i, (![0, r.val, 0] : Fin 3 → ℕ) i + S8x1x128.size i ≤ S8x8x128.size i) (v : FVec Ideal S8x1x128 .f32)
    (hv : ∀ (b : Fin 8) (l : Fin 128), v (ix3 b 0 l) = laneOr a r (ix2 b l)) (x : (slab r.val inb v).1.shape.Idx) :
    (slab r.val inb v).2 x = blockOf a ((slab r.val inb v).1.emb x) := by
  obtain ⟨b, u, l, rfl⟩ : ∃ (b : Fin 8) (u : Fin 1) (l : Fin 128), x = (ix3 b u l : S8x1x128.Idx) := ⟨x 0, x 1, x 2, eq_ix3 (n0 := 8) (n1 := 1) (n2 := 128) x⟩
  obtain rfl : u = 0 := Subsingleton.elim _ _
  have e : (slab r.val inb v).1.emb (ix3 b 0 l : S8x1x128.Idx) = (ix3 b r l : S8x8x128.Idx) := by
    funext i
    apply Fin.ext
    unfold slab
    rw [Rect.emb_apply]
    fin_cases i
    · show 0 + 1 * b.val = b.val; omega
    · show r.val + 1 * 0 = r.val; omega
    · show 0 + 1 * l.val = l.val; omega
  rw [e]
  exact hv b l

theorem stores_agree (a : Acc) : ∀ p ∈ stores a, ∀ x : p.1.shape.Idx, p.2 x = blockOf a (p.1.emb x) := by
  intro p hp
  simp only [stores, List.mem_cons, List.not_mem_nil, or_false] at hp
  rcases hp with rfl | rfl | rfl | rfl | rfl | rfl | rfl | rfl
  · exact slab_agrees a 7 _ _ fun b l => by pointwise [k1_pay8]; rfl
  · exact slab_agrees a 6 _ _ fun b l => by pointwise [k1_pay7]; rfl
  · exact slab_agrees a 5 _ _ fun b l => by pointwise [k1_pay6]; rfl
  · exact slab_agrees a 4 _ _ fun b l => by pointwise [k1_pay5]; rfl
  · exact slab_agrees a 3 _ _ fun b l => by pointwise [k1_pay4]; rfl
  · exact slab_agrees a 2 _ _ fun b l => by pointwise [k1_pay3]; rfl
  · exact slab_agrees a 1 _ _ fun b l => by pointwise [k1_pay2]; rfl
  · exact slab_agrees a 0 _ _ fun b l => by pointwise [k1_pay1]; rfl

set_option maxHeartbeats 4000000

/-- The second kernel's block, at a reported entry. -/
theorem out1_apply (c : Dev nD) (arg0 : Memref sig .tc .vmem S8x8x5376 .f32) (harg0 : arg0.IsWhole) (arg1 : Memref sig .tc .vmem S8x8x128 .f32) (harg1 : arg1.IsWhole) (arg2 : Memref sig .tc .vmem S8x5376 .f32) (harg2 : arg2.IsWhole) (arg3 : Memref sig .tc .vmem S8x5376 .f32) (harg3 : arg3.IsWhole) (arg4 : Memref sig .tc .vmem S8x5376 .f32) (harg4 : arg4.IsWhole) (arg5 : Memref sig .tc .vmem S8x5376 .f32) (harg5 : arg5.IsWhole) (arg6 : Memref sig .tc .vmem S8x5376 .f32) (harg6 : arg6.IsWhole) (arg7 : Memref sig .tc .vmem S8x5376 .f32) (harg7 : arg7.IsWhole) (arg8 : Memref sig .tc .vmem S8x5376 .f32) (harg8 : arg8.IsWhole) (arg9 : Memref sig .tc .vmem S8x5376 .f32) (harg9 : arg9.IsWhole) (arg10 : Memref sig .tc .vmem S8x5376 .f32) (harg10 : arg10.IsWhole) (arg11 : Memref sig .tc .vmem S8x5376 .f32) (harg11 : arg11.IsWhole) (x0 : Vec Ideal S8x8x5376 .f32)
    (B : Fin 8 → Boxes) (f : Fin 8 → Fin 5376 → EReal) (hat : ∀ b (r : Fin 4) j, x0 (ix3 b (Fin.castLE (by omega) r) j) = (B b).at_ r j)
    (hsc : ∀ b j, x0 (ix3 b 4 j) = f b j) (hcl : ∀ b j, x0 (ix3 b 5 j) = num ((B b).kind j)) (b : Fin 8) (r : Fin 6) (l : Fin 100) :
    out1_A_1 c arg0 harg0 arg1 harg1 arg2 harg2 arg3 harg3 arg4 harg4 arg5 harg5 arg6 harg6 arg7 harg7 arg8 harg8 arg9 harg9 arg10 harg10 arg11 harg11 x0 (ix3 b (Fin.castLE (by omega) r) (Fin.castLE (by omega) l)) = (B b).report ((B b).scores (f b) l.val) r := by
  unfold out1_A_1
  rw [View.read_writes_apply_eq_canon _ _ _ _ (cover1_A_1 c arg0 harg0 arg1 harg1 arg2 harg2 arg3 harg3 arg4 harg4 arg5 harg5 arg6 harg6 arg7 harg7 arg8 harg8 arg9 harg9 arg10 harg10 arg11 harg11 x0 _)]
  have hc := cover1_A_1 c arg0 harg0 arg1 harg1 arg2 harg2 arg3 harg3 arg4 harg4 arg5 harg5 arg6 harg6 arg7 harg7 arg8 harg8 arg9 harg9 arg10 harg10 arg11 harg11 x0 (ix3 b (Fin.castLE (by omega) r) (Fin.castLE (by omega) l))
  rw [run1_eq] at hc ⊢
  rw [View.canon_apply_of_pieces (blockOf _) _ (stores_agree _) _ hc]
  refine (blockOf_apply _ b r (Fin.castLE (by omega) l)).trans ?_
  refine (fin_apply (B := B) (f := f) ?_ ?_ ?_ ?_ ?_ ?_ r b (Fin.castLE (by omega) l) l.isLt)
  · exact fun b j => (rowOf_apply arg0 harg0 x0 0 _ b j).trans (hat b 0 j)
  · exact fun b j => (rowOf_apply arg0 harg0 x0 1 _ b j).trans (hat b 1 j)
  · exact fun b j => (rowOf_apply arg0 harg0 x0 2 _ b j).trans (hat b 2 j)
  · exact fun b j => (rowOf_apply arg0 harg0 x0 3 _ b j).trans (hat b 3 j)
  · exact fun b j => (rowOf_apply arg0 harg0 x0 4 _ b j).trans (hsc b j)
  · exact fun b j => (rowOf_apply arg0 harg0 x0 5 _ b j).trans (hcl b j)

end Cert.KerRun

end
-- ==== Proof.KerArr.lean ====
/- The two kernels' arrays, and the result the program returns. -/
module

public import proofs.«01_k».proof.Proof.KerHost
public import proofs.«01_k».proof.Proof.KerBlock

@[expose] public section

noncomputable section

namespace Cert.KerRun

open Cert.KernelIdeal Cert.KernelIdeal.Gen Cert.Spec
open Idealize.ShloMosaic Idealize.ShloMosaic.TcCoe Idealize.ShloMosaic.Pointwise

variable (m : (ℓ : Loc nD τ sig) → Buf (Elt Ideal) ℓ) (ρ : Dev nD → PrngReg)

/-- What the first kernel leaves: every image's block. -/
def mid (A : Args) (i : S8x8x5376.Idx) : EReal := (cellAt (A.raw (i 0)) (i 2)).rowVal (i 1).val

theorem idx_12 : ∀ t : Fin cfg0.N, win0_12.index t = ![t.val, 0, 0] :=
  (by decide +kernel : ∀ t : Fin grid0.N, win0_12.index t = ![t.val, 0, 0])

theorem outs0_eq (c : Dev nD) (t : Fin cfg0.N) : outsAt0 (V1 m ρ) c t = block0 ((argsOf m c).raw (img t)) := by
  unfold outsAt0
  rw [out0_eq, rawOf_blocks]

theorem arr_12 (c : Dev nD) : (dat0 (V1 m ρ) c).arrAt 12 cfg0.N = mid (argsOf m c) := by
  refine (dat0 (V1 m ρ) c).arrAt_eq_of_covers 12 _ (by decide +kernel) fun t hf y => ?_
  blk_simp
  rw [after0_12, outs0_eq]
  have h0 : ((win0_12.blk t).view.emb y 0) = img t := by
    apply Fin.ext
    blk_simp [idx_12 t, img]
  have h1 : ((win0_12.blk t).view.emb y 1).val = (y 1).val := by
    blk_simp [idx_12 t]
  have h2 : ((win0_12.blk t).view.emb y 2) = y 2 := by
    apply Fin.ext
    blk_simp [idx_12 t]
  unfold mid block0
  rw [h0, h1, h2]

theorem mid_in (c : Dev nD) : V2 m ρ c main_v12 = mid (argsOf m c) :=
  (W2_arr m ρ c 12).trans (arr_12 m ρ c)

theorem idx1_0 : ∀ t : Fin cfg1.N, win1_0.index t = ![0, 0, 0] :=
  (by decide +kernel : ∀ t : Fin grid1.N, win1_0.index t = ![0, 0, 0])

theorem blk1_0 (c : Dev nD) (t : Fin cfg1.N) (b : Fin 8) (r : Fin 8) (j : Fin 5376) :
    iblk1 (V2 m ρ) c 0 t (ix3 b r j) = (cellAt ((argsOf m c).raw b) j).rowVal r.val := by
  have h : iblk1 (V2 m ρ) c 0 t (ix3 b r j) = V2 m ρ c main_v12 (ix3 b r j) := by
    blk_simp [iblk1]
    blk_ext [idx1_0 t]
  rw [h, mid_in]
  rfl

/-- The second kernel's block holds every image's rows. -/
theorem outs1_apply (c : Dev nD) (t : Fin cfg1.N) (b : Fin 8) (r : Fin 6) (l : Fin 100) :
    outsAt1 (V2 m ρ) c t (ix3 b (Fin.castLE (by omega) r) (Fin.castLE (by omega) l)) = ((argsOf m c).raw b).result l.val r := by
  unfold outsAt1
  refine out1_apply c _ _ _ _ _ _ _ _ _ _ _ _ _ _ _ _ _ _ _ _ _ _ _ _ _ (fun b => ((argsOf m c).raw b).boxes) (fun b => ((argsOf m c).raw b).start)
    (fun b r j => ?_) (fun b j => ?_) (fun b j => ?_) b r l
  · refine (blk1_0 m ρ c t b _ j).trans ?_
    have : r.val < 4 := r.isLt
    simp [Cell.rowVal, this, cellAt, Raw.boxes]
  · exact blk1_0 m ρ c t b 4 j
  · exact blk1_0 m ρ c t b 5 j

theorem idx1_1 : ∀ t : Fin cfg1.N, win1_1.index t = ![0, 0, 0] :=
  (by decide +kernel : ∀ t : Fin grid1.N, win1_1.index t = ![0, 0, 0])

theorem arr1_1 (c : Dev nD) : (dat1 (V2 m ρ) c).arrAt 1 cfg1.N = outsAt1 (V2 m ρ) c t1_0 := by
  refine (dat1 (V2 m ρ) c).arrAt_eq_of_covers 1 _ (by decide +kernel) fun t hf y => ?_
  blk_simp
  rw [after1_1, fin_N1 t]
  congr 1
  blk_ext [idx1_1 t1_0]

theorem v15_eq (c : Dev nD) : W4 m ρ c (Proc.devRef .tc main_v15)
    = transpose S8x100x6 [0, 2, 1] (extractStridedSlice S8x6x100 ![0, 0, 0] (outsAt1 (V2 m ρ) c t1_0) slices_S8x8x128_S8x6x100_0_0_0)
        transposes_S8x6x100_S8x100x6_0_2_1 := by
  have h := (W3_arr m ρ c 1).trans (arr1_1 m ρ c)
  rw [← h]
  show StableHlo.after hostOps2 _ _ = _
  after_results

/-- The returned array holds every image's result. -/
theorem v15_apply (c : Dev nD) (b : Fin 8) (l : Fin 100) (r : Fin 6) :
    W4 m ρ c (Proc.devRef .tc main_v15) (ix3 b l r) = ((argsOf m c).raw b).result l.val r := by
  rw [v15_eq, ← outs1_apply m ρ c t1_0 b r l]
  pointwise []
  rfl

end Cert.KerRun

end
-- ==== Proof.KerOut.lean ====
/- The kernel program's run: the returned array, the arguments as launched, the semaphores at zero. -/
module

public import proofs.«01_k».proof.Proof.KerArr

@[expose] public section

set_option maxRecDepth 16384

noncomputable section

namespace Cert.KerRun

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A core's buffers after the run: the result's contents, and every argument as launched. -/
def Kept (s : (ℓ : Loc nD τ sig) → Buf (Elt Ideal) ℓ) (c : Dev nD) : Prop :=
  ∀ a ∈ argRefs, s ((c.tc : Thread nD τ).loc a) = m ((c.tc : Thread nD τ).loc a)

theorem mem_of_arg : ∀ a ∈ argRefs, Proc.devRef .tc a ∈ Pipeline.ucRefs τ sig :=
  fun a ha => mem_uc a (ListAll.forall_mem_of_all_decide (p := fun a => ¬ (Proc.devRef (τ := τ) .tc a).isScoped = true) (by decide +kernel) a ha)

set_option backward.isDefEq.respectTransparency.types false in
/-- The run ends with the result at its computed contents, every argument kept and every semaphore at zero. -/
theorem run_result : θ_run defs (onTc (τ := τ) (main (F := Ideal))) ⟨m, fun _ => 0, ρ⟩ (fun r => (∀ c : Dev nD,
      r.2.mem ((c.tc : Thread nD τ).loc main_v15) = W4 m ρ c (Proc.devRef .tc main_v15) ∧ Kept m r.2.mem c)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c =>
      ⟨h c _ (mem_uc main_v15 (by decide)), fun a ha => (h c _ (mem_of_arg a ha)).trans (W4_args m ρ c a ha)⟩,
      funext fun g => hz g (.inr (no_unscoped g.2))⟩)

end Cert.KerRun

end
-- ==== Proof.RefOps.lean ====
/- The reference program as lists of its host operations: the stretches before the loop, those of one trip, the one after it. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4000

noncomputable section

namespace Cert.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo

variable {F : FTy → Type} [FloatOps F]

/-- The type of a stretch of host operations. -/
abbrev Ops (F : FTy → Type) [FloatOps F] := List (HloOp τ sig (Elt F))

/-- Every operation of the stretch touches TensorCore references only. -/
abbrev OnTc (l : Ops F) : Prop := l.Forall fun op => op.bufs ⊆ StableHlo.tcRefs τ sig

/-- 60 operations of the reference before its loop, a stretch of them in order. -/
abbrev pre0 : Ops F :=
  [ StableHlo.nary ![main_arg0, main_arg1, main_arg2] main_v0 (fun u => (concatenate S8x85x64x64 1 [⟨S8x4x64x64, (u 0 : (⟨S8x4x64x64, .f32⟩ : BufTy).Contents (Elt F))⟩, ⟨S8x1x64x64, (u 1 : (⟨S8x1x64x64, .f32⟩ : BufTy).Contents (Elt F))⟩, ⟨S8x80x64x64, (u 2 : (⟨S8x80x64x64, .f32⟩ : BufTy).Contents (Elt F))⟩] concatenates_S8x4x64x64_S8x1x64x64_S8x80x64x64_S8x85x64x64_d1 : (⟨S8x85x64x64, .f32⟩ : BufTy).Contents (Elt F))),
    StableHlo.unary main_v0 main_v1 ((transpose S8x64x64x85 [0, 2, 3, 1] · transposes_S8x85x64x64_S8x64x64x85_0_2_3_1) : (⟨S8x85x64x64, .f32⟩ : BufTy).Contents (Elt F) → (⟨S8x64x64x85, .f32⟩ : BufTy).Contents (Elt F)),
    StableHlo.reshape main_arg9 main_v2 (rfl : (.f32 : EltTy) = .f32) shapeCasts_S4096x4_S1x64x64x4,
    StableHlo.unary main_v2 main_v3 ((extractStridedSlice S1x64x64x2 ![0, 0, 0, 0] · slices_S1x64x64x4_S1x64x64x2_0_0_0_0) : (⟨S1x64x64x4, .f32⟩ : BufTy).Contents (Elt F) → (⟨S1x64x64x2, .f32⟩ : BufTy).Contents (Elt F)),
    StableHlo.unary main_v2 main_v4 ((extractStridedSlice S1x64x64x2 ![0, 0, 0, 2] · slices_S1x64x64x4_S1x64x64x2_0_0_0_2) : (⟨S1x64x64x4, .f32⟩ : BufTy).Contents (Elt F) → (⟨S1x64x64x2, .f32⟩ : BufTy).Contents (Elt F)),
    StableHlo.binary main_v3 main_v4 main_v5 (addf : (⟨S1x64x64x2, .f32⟩ : BufTy).Contents (Elt F) → (⟨S1x64x64x2, .f32⟩ : BufTy).Contents (Elt F) → (⟨S1x64x64x2, .f32⟩ : BufTy).Contents (Elt F)),
    StableHlo.nullary main_cst (constant S_ .f32 0x3F000000#32),
    StableHlo.unary main_cst main_v6 (broadcastInDim S1x64x64x2 ![] bcast_S_S1x64x64x2 : (⟨S_, .f32⟩ : BufTy).Contents (Elt F) → (⟨S1x64x64x2, .f32⟩ : BufTy).Contents (Elt F)),
    StableHlo.binary main_v6 main_v5 main_v7 (mulf : (⟨S1x64x64x2, .f32⟩ : BufTy).Contents (Elt F) → (⟨S1x64x64x2, .f32⟩ : BufTy).Contents (Elt F) → (⟨S1x64x64x2, .f32⟩ : BufTy).Contents (Elt F)),
    StableHlo.unary main_v2 main_v8 ((extractStridedSlice S1x64x64x2 ![0, 0, 0, 2] · slices_S1x64x64x4_S1x64x64x2_0_0_0_2) : (⟨S1x64x64x4, .f32⟩ : BufTy).Contents (Elt F) → (⟨S1x64x64x2, .f32⟩ : BufTy).Contents (Elt F)),
    StableHlo.unary main_v2 main_v9 ((extractStridedSlice S1x64x64x2 ![0, 0, 0, 0] · slices_S1x64x64x4_S1x64x64x2_0_0_0_0) : (⟨S1x64x64x4, .f32⟩ : BufTy).Contents (Elt F) → (⟨S1x64x64x2, .f32⟩ : BufTy).Contents (Elt F)),
    StableHlo.binary main_v8 main_v9 main_v10 (subf : (⟨S1x64x64x2, .f32⟩ : BufTy).Contents (Elt F) → (⟨S1x64x64x2, .f32⟩ : BufTy).Contents (Elt F) → (⟨S1x64x64x2, .f32⟩ : BufTy).Contents (Elt F)),
    StableHlo.unary main_v1 main_v11 ((extractStridedSlice S8x64x64x2 ![0, 0, 0, 0] · slices_S8x64x64x85_S8x64x64x2_0_0_0_0) : (⟨S8x64x64x85, .f32⟩ : BufTy).Contents (Elt F) → (⟨S8x64x64x2, .f32⟩ : BufTy).Contents (Elt F)),
    StableHlo.unary main_v10 main_v12 (broadcastInDim S8x64x64x2 ![0, 1, 2, 3] bcast_S1x64x64x2_S8x64x64x2_0_1_2_3 : (⟨S1x64x64x2, .f32⟩ : BufTy).Contents (Elt F) → (⟨S8x64x64x2, .f32⟩ : BufTy).Contents (Elt F)),
    StableHlo.binary main_v11 main_v12 main_v13 (mulf : (⟨S8x64x64x2, .f32⟩ : BufTy).Contents (Elt F) → (⟨S8x64x64x2, .f32⟩ : BufTy).Contents (Elt F) → (⟨S8x64x64x2, .f32⟩ : BufTy).Contents (Elt F)),
    StableHlo.unary main_v7 main_v14 (broadcastInDim S8x64x64x2 ![0, 1, 2, 3] bcast_S1x64x64x2_S8x64x64x2_0_1_2_3 : (⟨S1x64x64x2, .f32⟩ : BufTy).Contents (Elt F) → (⟨S8x64x64x2, .f32⟩ : BufTy).Contents (Elt F)),
    StableHlo.binary main_v14 main_v13 main_v15 (subf : (⟨S8x64x64x2, .f32⟩ : BufTy).Contents (Elt F) → (⟨S8x64x64x2, .f32⟩ : BufTy).Contents (Elt F) → (⟨S8x64x64x2, .f32⟩ : BufTy).Contents (Elt F)),
    StableHlo.unary main_v1 main_v16 ((extractStridedSlice S8x64x64x2 ![0, 0, 0, 2] · slices_S8x64x64x85_S8x64x64x2_0_0_0_2) : (⟨S8x64x64x85, .f32⟩ : BufTy).Contents (Elt F) → (⟨S8x64x64x2, .f32⟩ : BufTy).Contents (Elt F)),
    StableHlo.unary main_v10 main_v17 (broadcastInDim S8x64x64x2 ![0, 1, 2, 3] bcast_S1x64x64x2_S8x64x64x2_0_1_2_3 : (⟨S1x64x64x2, .f32⟩ : BufTy).Contents (Elt F) → (⟨S8x64x64x2, .f32⟩ : BufTy).Contents (Elt F)),
    StableHlo.binary main_v16 main_v17 main_v18 (mulf : (⟨S8x64x64x2, .f32⟩ : BufTy).Contents (Elt F) → (⟨S8x64x64x2, .f32⟩ : BufTy).Contents (Elt F) → (⟨S8x64x64x2, .f32⟩ : BufTy).Contents (Elt F)),
    StableHlo.unary main_v7 main_v19 (broadcastInDim S8x64x64x2 ![0, 1, 2, 3] bcast_S1x64x64x2_S8x64x64x2_0_1_2_3 : (⟨S1x64x64x2, .f32⟩ : BufTy).Contents (Elt F) → (⟨S8x64x64x2, .f32⟩ : BufTy).Contents (Elt F)),
    StableHlo.binary main_v19 main_v18 main_v20 (addf : (⟨S8x64x64x2, .f32⟩ : BufTy).Contents (Elt F) → (⟨S8x64x64x2, .f32⟩ : BufTy).Contents (Elt F) → (⟨S8x64x64x2, .f32⟩ : BufTy).Contents (Elt F)),
    StableHlo.binary main_v15 main_v20 main_v21 (addf : (⟨S8x64x64x2, .f32⟩ : BufTy).Contents (Elt F) → (⟨S8x64x64x2, .f32⟩ : BufTy).Contents (Elt F) → (⟨S8x64x64x2, .f32⟩ : BufTy).Contents (Elt F)),
    StableHlo.nullary main_cst_0 (constant S_ .f32 0x3F000000#32),
    StableHlo.unary main_cst_0 main_v22 (broadcastInDim S8x64x64x2 ![] bcast_S_S8x64x64x2 : (⟨S_, .f32⟩ : BufTy).Contents (Elt F) → (⟨S8x64x64x2, .f32⟩ : BufTy).Contents (Elt F)),
    StableHlo.binary main_v22 main_v21 main_v23 (mulf : (⟨S8x64x64x2, .f32⟩ : BufTy).Contents (Elt F) → (⟨S8x64x64x2, .f32⟩ : BufTy).Contents (Elt F) → (⟨S8x64x64x2, .f32⟩ : BufTy).Contents (Elt F)),
    StableHlo.binary main_v20 main_v15 main_v24 (subf : (⟨S8x64x64x2, .f32⟩ : BufTy).Contents (Elt F) → (⟨S8x64x64x2, .f32⟩ : BufTy).Contents (Elt F) → (⟨S8x64x64x2, .f32⟩ : BufTy).Contents (Elt F)),
    StableHlo.unary main_v1 main_v25 ((extractStridedSlice S8x64x64x81 ![0, 0, 0, 4] · slices_S8x64x64x85_S8x64x64x81_0_0_0_4) : (⟨S8x64x64x85, .f32⟩ : BufTy).Contents (Elt F) → (⟨S8x64x64x81, .f32⟩ : BufTy).Contents (Elt F)),
    StableHlo.unary main_v25 main_v26 (Host.negf : (⟨S8x64x64x81, .f32⟩ : BufTy).Contents (Elt F) → (⟨S8x64x64x81, .f32⟩ : BufTy).Contents (Elt F)),
    StableHlo.unary main_v26 main_v27 (Host.exp : (⟨S8x64x64x81, .f32⟩ : BufTy).Contents (Elt F) → (⟨S8x64x64x81, .f32⟩ : BufTy).Contents (Elt F)),
    StableHlo.nullary main_cst_1 (constant S_ .f32 0x3F800000#32),
    StableHlo.unary main_cst_1 main_v28 (broadcastInDim S8x64x64x81 ![] bcast_S_S8x64x64x81 : (⟨S_, .f32⟩ : BufTy).Contents (Elt F) → (⟨S8x64x64x81, .f32⟩ : BufTy).Contents (Elt F)),
    StableHlo.binary main_v28 main_v27 main_v29 (addf : (⟨S8x64x64x81, .f32⟩ : BufTy).Contents (Elt F) → (⟨S8x64x64x81, .f32⟩ : BufTy).Contents (Elt F) → (⟨S8x64x64x81, .f32⟩ : BufTy).Contents (Elt F)),
    StableHlo.nullary main_cst_2 (constant S_ .f32 0x3F800000#32),
    StableHlo.unary main_cst_2 main_v30 (broadcastInDim S8x64x64x81 ![] bcast_S_S8x64x64x81 : (⟨S_, .f32⟩ : BufTy).Contents (Elt F) → (⟨S8x64x64x81, .f32⟩ : BufTy).Contents (Elt F)),
    StableHlo.binary main_v30 main_v29 main_v31 (Host.divf : (⟨S8x64x64x81, .f32⟩ : BufTy).Contents (Elt F) → (⟨S8x64x64x81, .f32⟩ : BufTy).Contents (Elt F) → (⟨S8x64x64x81, .f32⟩ : BufTy).Contents (Elt F)),
    StableHlo.unary main_v31 main_v32 ((extractStridedSlice S8x64x64x1 ![0, 0, 0, 0] · slices_S8x64x64x81_S8x64x64x1_0_0_0_0) : (⟨S8x64x64x81, .f32⟩ : BufTy).Contents (Elt F) → (⟨S8x64x64x1, .f32⟩ : BufTy).Contents (Elt F)),
    StableHlo.reshape main_v32 main_v33 (rfl : (.f32 : EltTy) = .f32) shapeCasts_S8x64x64x1_S8x64x64,
    StableHlo.unary main_v31 main_v34 ((extractStridedSlice S8x64x64x80 ![0, 0, 0, 1] · slices_S8x64x64x81_S8x64x64x80_0_0_0_1) : (⟨S8x64x64x81, .f32⟩ : BufTy).Contents (Elt F) → (⟨S8x64x64x80, .f32⟩ : BufTy).Contents (Elt F)),
    StableHlo.nullary main_cst_3 (constant S_ .f32 0xFF800000#32),
    StableHlo.binary main_v34 main_cst_3 main_v35 ((fun x v => Host.reduce FloatOps.maximumf x v reducesTo_S8x64x64x80_S8x64x64_d3 h_S_) : (⟨S8x64x64x80, .f32⟩ : BufTy).Contents (Elt F) → (⟨S_, .f32⟩ : BufTy).Contents (Elt F) → (⟨S8x64x64, .f32⟩ : BufTy).Contents (Elt F)),
    StableHlo.binary main_v33 main_v35 main_v36 (mulf : (⟨S8x64x64, .f32⟩ : BufTy).Contents (Elt F) → (⟨S8x64x64, .f32⟩ : BufTy).Contents (Elt F) → (⟨S8x64x64, .f32⟩ : BufTy).Contents (Elt F)),
    StableHlo.unary main_v36 main_v37 (Host.sqrt : (⟨S8x64x64, .f32⟩ : BufTy).Contents (Elt F) → (⟨S8x64x64, .f32⟩ : BufTy).Contents (Elt F)),
    StableHlo.unary main_v37 main_v38 (broadcastInDim S8x64x64x1 ![0, 1, 2] bcast_S8x64x64_S8x64x64x1_0_1_2 : (⟨S8x64x64, .f32⟩ : BufTy).Contents (Elt F) → (⟨S8x64x64x1, .f32⟩ : BufTy).Contents (Elt F)),
    StableHlo.nary ![main_v23, main_v24, main_v38, main_v34] main_v39 (fun u => (concatenate S8x64x64x85 3 [⟨S8x64x64x2, (u 0 : (⟨S8x64x64x2, .f32⟩ : BufTy).Contents (Elt F))⟩, ⟨S8x64x64x2, (u 1 : (⟨S8x64x64x2, .f32⟩ : BufTy).Contents (Elt F))⟩, ⟨S8x64x64x1, (u 2 : (⟨S8x64x64x1, .f32⟩ : BufTy).Contents (Elt F))⟩, ⟨S8x64x64x80, (u 3 : (⟨S8x64x64x80, .f32⟩ : BufTy).Contents (Elt F))⟩] concatenates_S8x64x64x2_S8x64x64x2_S8x64x64x1_S8x64x64x80_S8x64x64x85_d3 : (⟨S8x64x64x85, .f32⟩ : BufTy).Contents (Elt F))),
    StableHlo.reshape main_v39 main_v40 (rfl : (.f32 : EltTy) = .f32) shapeCasts_S8x64x64x85_S8x4096x85,
    StableHlo.nary ![main_arg3, main_arg4, main_arg5] main_v41 (fun u => (concatenate S8x85x32x32 1 [⟨S8x4x32x32, (u 0 : (⟨S8x4x32x32, .f32⟩ : BufTy).Contents (Elt F))⟩, ⟨S8x1x32x32, (u 1 : (⟨S8x1x32x32, .f32⟩ : BufTy).Contents (Elt F))⟩, ⟨S8x80x32x32, (u 2 : (⟨S8x80x32x32, .f32⟩ : BufTy).Contents (Elt F))⟩] concatenates_S8x4x32x32_S8x1x32x32_S8x80x32x32_S8x85x32x32_d1 : (⟨S8x85x32x32, .f32⟩ : BufTy).Contents (Elt F))),
    StableHlo.unary main_v41 main_v42 ((transpose S8x32x32x85 [0, 2, 3, 1] · transposes_S8x85x32x32_S8x32x32x85_0_2_3_1) : (⟨S8x85x32x32, .f32⟩ : BufTy).Contents (Elt F) → (⟨S8x32x32x85, .f32⟩ : BufTy).Contents (Elt F)),
    StableHlo.reshape main_arg10 main_v43 (rfl : (.f32 : EltTy) = .f32) shapeCasts_S1024x4_S1x32x32x4,
    StableHlo.unary main_v43 main_v44 ((extractStridedSlice S1x32x32x2 ![0, 0, 0, 0] · slices_S1x32x32x4_S1x32x32x2_0_0_0_0) : (⟨S1x32x32x4, .f32⟩ : BufTy).Contents (Elt F) → (⟨S1x32x32x2, .f32⟩ : BufTy).Contents (Elt F)),
    StableHlo.unary main_v43 main_v45 ((extractStridedSlice S1x32x32x2 ![0, 0, 0, 2] · slices_S1x32x32x4_S1x32x32x2_0_0_0_2) : (⟨S1x32x32x4, .f32⟩ : BufTy).Contents (Elt F) → (⟨S1x32x32x2, .f32⟩ : BufTy).Contents (Elt F)),
    StableHlo.binary main_v44 main_v45 main_v46 (addf : (⟨S1x32x32x2, .f32⟩ : BufTy).Contents (Elt F) → (⟨S1x32x32x2, .f32⟩ : BufTy).Contents (Elt F) → (⟨S1x32x32x2, .f32⟩ : BufTy).Contents (Elt F)),
    StableHlo.nullary main_cst_4 (constant S_ .f32 0x3F000000#32),
    StableHlo.unary main_cst_4 main_v47 (broadcastInDim S1x32x32x2 ![] bcast_S_S1x32x32x2 : (⟨S_, .f32⟩ : BufTy).Contents (Elt F) → (⟨S1x32x32x2, .f32⟩ : BufTy).Contents (Elt F)),
    StableHlo.binary main_v47 main_v46 main_v48 (mulf : (⟨S1x32x32x2, .f32⟩ : BufTy).Contents (Elt F) → (⟨S1x32x32x2, .f32⟩ : BufTy).Contents (Elt F) → (⟨S1x32x32x2, .f32⟩ : BufTy).Contents (Elt F)),
    StableHlo.unary main_v43 main_v49 ((extractStridedSlice S1x32x32x2 ![0, 0, 0, 2] · slices_S1x32x32x4_S1x32x32x2_0_0_0_2) : (⟨S1x32x32x4, .f32⟩ : BufTy).Contents (Elt F) → (⟨S1x32x32x2, .f32⟩ : BufTy).Contents (Elt F)),
    StableHlo.unary main_v43 main_v50 ((extractStridedSlice S1x32x32x2 ![0, 0, 0, 0] · slices_S1x32x32x4_S1x32x32x2_0_0_0_0) : (⟨S1x32x32x4, .f32⟩ : BufTy).Contents (Elt F) → (⟨S1x32x32x2, .f32⟩ : BufTy).Contents (Elt F)),
    StableHlo.binary main_v49 main_v50 main_v51 (subf : (⟨S1x32x32x2, .f32⟩ : BufTy).Contents (Elt F) → (⟨S1x32x32x2, .f32⟩ : BufTy).Contents (Elt F) → (⟨S1x32x32x2, .f32⟩ : BufTy).Contents (Elt F)),
    StableHlo.unary main_v42 main_v52 ((extractStridedSlice S8x32x32x2 ![0, 0, 0, 0] · slices_S8x32x32x85_S8x32x32x2_0_0_0_0) : (⟨S8x32x32x85, .f32⟩ : BufTy).Contents (Elt F) → (⟨S8x32x32x2, .f32⟩ : BufTy).Contents (Elt F)),
    StableHlo.unary main_v51 main_v53 (broadcastInDim S8x32x32x2 ![0, 1, 2, 3] bcast_S1x32x32x2_S8x32x32x2_0_1_2_3 : (⟨S1x32x32x2, .f32⟩ : BufTy).Contents (Elt F) → (⟨S8x32x32x2, .f32⟩ : BufTy).Contents (Elt F)) ]
theorem pre0_onTc : OnTc (pre0 : Ops F) :=
  ⟨StableHlo.nary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.nullary_bufs_sub .., StableHlo.binary_bufs_sub .., StableHlo.binary_bufs_sub .., StableHlo.unary_bufs_sub .., StableHlo.unary_bufs_sub .., StableHlo.nary_bufs_sub .., StableHlo.reshape_bufs_sub .., StableHlo.nary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩

/-- 60 operations of the reference before its loop, a stretch of them in order. -/
abbrev pre1 : Ops F :=
  [ StableHlo.binary main_v52 main_v53 main_v54 (mulf : (⟨S8x32x32x2, .f32⟩ : BufTy).Contents (Elt F) → (⟨S8x32x32x2, .f32⟩ : BufTy).Contents (Elt F) → (⟨S8x32x32x2, .f32⟩ : BufTy).Contents (Elt F)),
    StableHlo.unary main_v48 main_v55 (broadcastInDim S8x32x32x2 ![0, 1, 2, 3] bcast_S1x32x32x2_S8x32x32x2_0_1_2_3 : (⟨S1x32x32x2, .f32⟩ : BufTy).Contents (Elt F) → (⟨S8x32x32x2, .f32⟩ : BufTy).Contents (Elt F)),
    StableHlo.binary main_v55 main_v54 main_v56 (subf : (⟨S8x32x32x2, .f32⟩ : BufTy).Contents (Elt F) → (⟨S8x32x32x2, .f32⟩ : BufTy).Contents (Elt F) → (⟨S8x32x32x2, .f32⟩ : BufTy).Contents (Elt F)),
    StableHlo.unary main_v42 main_v57 ((extractStridedSlice S8x32x32x2 ![0, 0, 0, 2] · slices_S8x32x32x85_S8x32x32x2_0_0_0_2) : (⟨S8x32x32x85, .f32⟩ : BufTy).Contents (Elt F) → (⟨S8x32x32x2, .f32⟩ : BufTy).Contents (Elt F)),
    StableHlo.unary main_v51 main_v58 (broadcastInDim S8x32x32x2 ![0, 1, 2, 3] bcast_S1x32x32x2_S8x32x32x2_0_1_2_3 : (⟨S1x32x32x2, .f32⟩ : BufTy).Contents (Elt F) → (⟨S8x32x32x2, .f32⟩ : BufTy).Contents (Elt F)),
    StableHlo.binary main_v57 main_v58 main_v59 (mulf : (⟨S8x32x32x2, .f32⟩ : BufTy).Contents (Elt F) → (⟨S8x32x32x2, .f32⟩ : BufTy).Contents (Elt F) → (⟨S8x32x32x2, .f32⟩ : BufTy).Contents (Elt F)),
    StableHlo.unary main_v48 main_v60 (broadcastInDim S8x32x32x2 ![0, 1, 2, 3] bcast_S1x32x32x2_S8x32x32x2_0_1_2_3 : (⟨S1x32x32x2, .f32⟩ : BufTy).Contents (Elt F) → (⟨S8x32x32x2, .f32⟩ : BufTy).Contents (Elt F)),
    StableHlo.binary main_v60 main_v59 main_v61 (addf : (⟨S8x32x32x2, .f32⟩ : BufTy).Contents (Elt F) → (⟨S8x32x32x2, .f32⟩ : BufTy).Contents (Elt F) → (⟨S8x32x32x2, .f32⟩ : BufTy).Contents (Elt F)),
    StableHlo.binary main_v56 main_v61 main_v62 (addf : (⟨S8x32x32x2, .f32⟩ : BufTy).Contents (Elt F) → (⟨S8x32x32x2, .f32⟩ : BufTy).Contents (Elt F) → (⟨S8x32x32x2, .f32⟩ : BufTy).Contents (Elt F)),
    StableHlo.nullary main_cst_5 (constant S_ .f32 0x3F000000#32),
    StableHlo.unary main_cst_5 main_v63 (broadcastInDim S8x32x32x2 ![] bcast_S_S8x32x32x2 : (⟨S_, .f32⟩ : BufTy).Contents (Elt F) → (⟨S8x32x32x2, .f32⟩ : BufTy).Contents (Elt F)),
    StableHlo.binary main_v63 main_v62 main_v64 (mulf : (⟨S8x32x32x2, .f32⟩ : BufTy).Contents (Elt F) → (⟨S8x32x32x2, .f32⟩ : BufTy).Contents (Elt F) → (⟨S8x32x32x2, .f32⟩ : BufTy).Contents (Elt F)),
    StableHlo.binary main_v61 main_v56 main_v65 (subf : (⟨S8x32x32x2, .f32⟩ : BufTy).Contents (Elt F) → (⟨S8x32x32x2, .f32⟩ : BufTy).Contents (Elt F) → (⟨S8x32x32x2, .f32⟩ : BufTy).Contents (Elt F)),
    StableHlo.unary main_v42 main_v66 ((extractStridedSlice S8x32x32x81 ![0, 0, 0, 4] · slices_S8x32x32x85_S8x32x32x81_0_0_0_4) : (⟨S8x32x32x85, .f32⟩ : BufTy).Contents (Elt F) → (⟨S8x32x32x81, .f32⟩ : BufTy).Contents (Elt F)),
    StableHlo.unary main_v66 main_v67 (Host.negf : (⟨S8x32x32x81, .f32⟩ : BufTy).Contents (Elt F) → (⟨S8x32x32x81, .f32⟩ : BufTy).Contents (Elt F)),
    StableHlo.unary main_v67 main_v68 (Host.exp : (⟨S8x32x32x81, .f32⟩ : BufTy).Contents (Elt F) → (⟨S8x32x32x81, .f32⟩ : BufTy).Contents (Elt F)),
    StableHlo.nullary main_cst_6 (constant S_ .f32 0x3F800000#32),
    StableHlo.unary main_cst_6 main_v69 (broadcastInDim S8x32x32x81 ![] bcast_S_S8x32x32x81 : (⟨S_, .f32⟩ : BufTy).Contents (Elt F) → (⟨S8x32x32x81, .f32⟩ : BufTy).Contents (Elt F)),
    StableHlo.binary main_v69 main_v68 main_v70 (addf : (⟨S8x32x32x81, .f32⟩ : BufTy).Contents (Elt F) → (⟨S8x32x32x81, .f32⟩ : BufTy).Contents (Elt F) → (⟨S8x32x32x81, .f32⟩ : BufTy).Contents (Elt F)),
    StableHlo.nullary main_cst_7 (constant S_ .f32 0x3F800000#32),
    StableHlo.unary main_cst_7 main_v71 (broadcastInDim S8x32x32x81 ![] bcast_S_S8x32x32x81 : (⟨S_, .f32⟩ : BufTy).Contents (Elt F) → (⟨S8x32x32x81, .f32⟩ : BufTy).Contents (Elt F)),
    StableHlo.binary main_v71 main_v70 main_v72 (Host.divf : (⟨S8x32x32x81, .f32⟩ : BufTy).Contents (Elt F) → (⟨S8x32x32x81, .f32⟩ : BufTy).Contents (Elt F) → (⟨S8x32x32x81, .f32⟩ : BufTy).Contents (Elt F)),
    StableHlo.unary main_v72 main_v73 ((extractStridedSlice S8x32x32x1 ![0, 0, 0, 0] · slices_S8x32x32x81_S8x32x32x1_0_0_0_0) : (⟨S8x32x32x81, .f32⟩ : BufTy).Contents (Elt F) → (⟨S8x32x32x1, .f32⟩ : BufTy).Contents (Elt F)),
    StableHlo.reshape main_v73 main_v74 (rfl : (.f32 : EltTy) = .f32) shapeCasts_S8x32x32x1_S8x32x32,
    StableHlo.unary main_v72 main_v75 ((extractStridedSlice S8x32x32x80 ![0, 0, 0, 1] · slices_S8x32x32x81_S8x32x32x80_0_0_0_1) : (⟨S8x32x32x81, .f32⟩ : BufTy).Contents (Elt F) → (⟨S8x32x32x80, .f32⟩ : BufTy).Contents (Elt F)),
    StableHlo.nullary main_cst_8 (constant S_ .f32 0xFF800000#32),
    StableHlo.binary main_v75 main_cst_8 main_v76 ((fun x v => Host.reduce FloatOps.maximumf x v reducesTo_S8x32x32x80_S8x32x32_d3 h_S_) : (⟨S8x32x32x80, .f32⟩ : BufTy).Contents (Elt F) → (⟨S_, .f32⟩ : BufTy).Contents (Elt F) → (⟨S8x32x32, .f32⟩ : BufTy).Contents (Elt F)),
    StableHlo.binary main_v74 main_v76 main_v77 (mulf : (⟨S8x32x32, .f32⟩ : BufTy).Contents (Elt F) → (⟨S8x32x32, .f32⟩ : BufTy).Contents (Elt F) → (⟨S8x32x32, .f32⟩ : BufTy).Contents (Elt F)),
    StableHlo.unary main_v77 main_v78 (Host.sqrt : (⟨S8x32x32, .f32⟩ : BufTy).Contents (Elt F) → (⟨S8x32x32, .f32⟩ : BufTy).Contents (Elt F)),
    StableHlo.unary main_v78 main_v79 (broadcastInDim S8x32x32x1 ![0, 1, 2] bcast_S8x32x32_S8x32x32x1_0_1_2 : (⟨S8x32x32, .f32⟩ : BufTy).Contents (Elt F) → (⟨S8x32x32x1, .f32⟩ : BufTy).Contents (Elt F)),
    StableHlo.nary ![main_v64, main_v65, main_v79, main_v75] main_v80 (fun u => (concatenate S8x32x32x85 3 [⟨S8x32x32x2, (u 0 : (⟨S8x32x32x2, .f32⟩ : BufTy).Contents (Elt F))⟩, ⟨S8x32x32x2, (u 1 : (⟨S8x32x32x2, .f32⟩ : BufTy).Contents (Elt F))⟩, ⟨S8x32x32x1, (u 2 : (⟨S8x32x32x1, .f32⟩ : BufTy).Contents (Elt F))⟩, ⟨S8x32x32x80, (u 3 : (⟨S8x32x32x80, .f32⟩ : BufTy).Contents (Elt F))⟩] concatenates_S8x32x32x2_S8x32x32x2_S8x32x32x1_S8x32x32x80_S8x32x32x85_d3 : (⟨S8x32x32x85, .f32⟩ : BufTy).Contents (Elt F))),
    StableHlo.reshape main_v80 main_v81 (rfl : (.f32 : EltTy) = .f32) shapeCasts_S8x32x32x85_S8x1024x85,
    StableHlo.nary ![main_arg6, main_arg7, main_arg8] main_v82 (fun u => (concatenate S8x85x16x16 1 [⟨S8x4x16x16, (u 0 : (⟨S8x4x16x16, .f32⟩ : BufTy).Contents (Elt F))⟩, ⟨S8x1x16x16, (u 1 : (⟨S8x1x16x16, .f32⟩ : BufTy).Contents (Elt F))⟩, ⟨S8x80x16x16, (u 2 : (⟨S8x80x16x16, .f32⟩ : BufTy).Contents (Elt F))⟩] concatenates_S8x4x16x16_S8x1x16x16_S8x80x16x16_S8x85x16x16_d1 : (⟨S8x85x16x16, .f32⟩ : BufTy).Contents (Elt F))),
    StableHlo.unary main_v82 main_v83 ((transpose S8x16x16x85 [0, 2, 3, 1] · transposes_S8x85x16x16_S8x16x16x85_0_2_3_1) : (⟨S8x85x16x16, .f32⟩ : BufTy).Contents (Elt F) → (⟨S8x16x16x85, .f32⟩ : BufTy).Contents (Elt F)),
    StableHlo.reshape main_arg11 main_v84 (rfl : (.f32 : EltTy) = .f32) shapeCasts_S256x4_S1x16x16x4,
    StableHlo.unary main_v84 main_v85 ((extractStridedSlice S1x16x16x2 ![0, 0, 0, 0] · slices_S1x16x16x4_S1x16x16x2_0_0_0_0) : (⟨S1x16x16x4, .f32⟩ : BufTy).Contents (Elt F) → (⟨S1x16x16x2, .f32⟩ : BufTy).Contents (Elt F)),
    StableHlo.unary main_v84 main_v86 ((extractStridedSlice S1x16x16x2 ![0, 0, 0, 2] · slices_S1x16x16x4_S1x16x16x2_0_0_0_2) : (⟨S1x16x16x4, .f32⟩ : BufTy).Contents (Elt F) → (⟨S1x16x16x2, .f32⟩ : BufTy).Contents (Elt F)),
    StableHlo.binary main_v85 main_v86 main_v87 (addf : (⟨S1x16x16x2, .f32⟩ : BufTy).Contents (Elt F) → (⟨S1x16x16x2, .f32⟩ : BufTy).Contents (Elt F) → (⟨S1x16x16x2, .f32⟩ : BufTy).Contents (Elt F)),
    StableHlo.nullary main_cst_9 (constant S_ .f32 0x3F000000#32),
    StableHlo.unary main_cst_9 main_v88 (broadcastInDim S1x16x16x2 ![] bcast_S_S1x16x16x2 : (⟨S_, .f32⟩ : BufTy).Contents (Elt F) → (⟨S1x16x16x2, .f32⟩ : BufTy).Contents (Elt F)),
    StableHlo.binary main_v88 main_v87 main_v89 (mulf : (⟨S1x16x16x2, .f32⟩ : BufTy).Contents (Elt F) → (⟨S1x16x16x2, .f32⟩ : BufTy).Contents (Elt F) → (⟨S1x16x16x2, .f32⟩ : BufTy).Contents (Elt F)),
    StableHlo.unary main_v84 main_v90 ((extractStridedSlice S1x16x16x2 ![0, 0, 0, 2] · slices_S1x16x16x4_S1x16x16x2_0_0_0_2) : (⟨S1x16x16x4, .f32⟩ : BufTy).Contents (Elt F) → (⟨S1x16x16x2, .f32⟩ : BufTy).Contents (Elt F)),
    StableHlo.unary main_v84 main_v91 ((extractStridedSlice S1x16x16x2 ![0, 0, 0, 0] · slices_S1x16x16x4_S1x16x16x2_0_0_0_0) : (⟨S1x16x16x4, .f32⟩ : BufTy).Contents (Elt F) → (⟨S1x16x16x2, .f32⟩ : BufTy).Contents (Elt F)),
    StableHlo.binary main_v90 main_v91 main_v92 (subf : (⟨S1x16x16x2, .f32⟩ : BufTy).Contents (Elt F) → (⟨S1x16x16x2, .f32⟩ : BufTy).Contents (Elt F) → (⟨S1x16x16x2, .f32⟩ : BufTy).Contents (Elt F)),
    StableHlo.unary main_v83 main_v93 ((extractStridedSlice S8x16x16x2 ![0, 0, 0, 0] · slices_S8x16x16x85_S8x16x16x2_0_0_0_0) : (⟨S8x16x16x85, .f32⟩ : BufTy).Contents (Elt F) → (⟨S8x16x16x2, .f32⟩ : BufTy).Contents (Elt F)),
    StableHlo.unary main_v92 main_v94 (broadcastInDim S8x16x16x2 ![0, 1, 2, 3] bcast_S1x16x16x2_S8x16x16x2_0_1_2_3 : (⟨S1x16x16x2, .f32⟩ : BufTy).Contents (Elt F) → (⟨S8x16x16x2, .f32⟩ : BufTy).Contents (Elt F)),
    StableHlo.binary main_v93 main_v94 main_v95 (mulf : (⟨S8x16x16x2, .f32⟩ : BufTy).Contents (Elt F) → (⟨S8x16x16x2, .f32⟩ : BufTy).Contents (Elt F) → (⟨S8x16x16x2, .f32⟩ : BufTy).Contents (Elt F)),
    StableHlo.unary main_v89 main_v96 (broadcastInDim S8x16x16x2 ![0, 1, 2, 3] bcast_S1x16x16x2_S8x16x16x2_0_1_2_3 : (⟨S1x16x16x2, .f32⟩ : BufTy).Contents (Elt F) → (⟨S8x16x16x2, .f32⟩ : BufTy).Contents (Elt F)),
    StableHlo.binary main_v96 main_v95 main_v97 (subf : (⟨S8x16x16x2, .f32⟩ : BufTy).Contents (Elt F) → (⟨S8x16x16x2, .f32⟩ : BufTy).Contents (Elt F) → (⟨S8x16x16x2, .f32⟩ : BufTy).Contents (Elt F)),
    StableHlo.unary main_v83 main_v98 ((extractStridedSlice S8x16x16x2 ![0, 0, 0, 2] · slices_S8x16x16x85_S8x16x16x2_0_0_0_2) : (⟨S8x16x16x85, .f32⟩ : BufTy).Contents (Elt F) → (⟨S8x16x16x2, .f32⟩ : BufTy).Contents (Elt F)),
    StableHlo.unary main_v92 main_v99 (broadcastInDim S8x16x16x2 ![0, 1, 2, 3] bcast_S1x16x16x2_S8x16x16x2_0_1_2_3 : (⟨S1x16x16x2, .f32⟩ : BufTy).Contents (Elt F) → (⟨S8x16x16x2, .f32⟩ : BufTy).Contents (Elt F)),
    StableHlo.binary main_v98 main_v99 main_v100 (mulf : (⟨S8x16x16x2, .f32⟩ : BufTy).Contents (Elt F) → (⟨S8x16x16x2, .f32⟩ : BufTy).Contents (Elt F) → (⟨S8x16x16x2, .f32⟩ : BufTy).Contents (Elt F)),
    StableHlo.unary main_v89 main_v101 (broadcastInDim S8x16x16x2 ![0, 1, 2, 3] bcast_S1x16x16x2_S8x16x16x2_0_1_2_3 : (⟨S1x16x16x2, .f32⟩ : BufTy).Contents (Elt F) → (⟨S8x16x16x2, .f32⟩ : BufTy).Contents (Elt F)),
    StableHlo.binary main_v101 main_v100 main_v102 (addf : (⟨S8x16x16x2, .f32⟩ : BufTy).Contents (Elt F) → (⟨S8x16x16x2, .f32⟩ : BufTy).Contents (Elt F) → (⟨S8x16x16x2, .f32⟩ : BufTy).Contents (Elt F)),
    StableHlo.binary main_v97 main_v102 main_v103 (addf : (⟨S8x16x16x2, .f32⟩ : BufTy).Contents (Elt F) → (⟨S8x16x16x2, .f32⟩ : BufTy).Contents (Elt F) → (⟨S8x16x16x2, .f32⟩ : BufTy).Contents (Elt F)),
    StableHlo.nullary main_cst_10 (constant S_ .f32 0x3F000000#32),
    StableHlo.unary main_cst_10 main_v104 (broadcastInDim S8x16x16x2 ![] bcast_S_S8x16x16x2 : (⟨S_, .f32⟩ : BufTy).Contents (Elt F) → (⟨S8x16x16x2, .f32⟩ : BufTy).Contents (Elt F)),
    StableHlo.binary main_v104 main_v103 main_v105 (mulf : (⟨S8x16x16x2, .f32⟩ : BufTy).Contents (Elt F) → (⟨S8x16x16x2, .f32⟩ : BufTy).Contents (Elt F) → (⟨S8x16x16x2, .f32⟩ : BufTy).Contents (Elt F)),
    StableHlo.binary main_v102 main_v97 main_v106 (subf : (⟨S8x16x16x2, .f32⟩ : BufTy).Contents (Elt F) → (⟨S8x16x16x2, .f32⟩ : BufTy).Contents (Elt F) → (⟨S8x16x16x2, .f32⟩ : BufTy).Contents (Elt F)),
    StableHlo.unary main_v83 main_v107 ((extractStridedSlice S8x16x16x81 ![0, 0, 0, 4] · slices_S8x16x16x85_S8x16x16x81_0_0_0_4) : (⟨S8x16x16x85, .f32⟩ : BufTy).Contents (Elt F) → (⟨S8x16x16x81, .f32⟩ : BufTy).Contents (Elt F)) ]
theorem pre1_onTc : OnTc (pre1 : Ops F) :=
  ⟨StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.nullary_bufs_sub .., StableHlo.binary_bufs_sub .., StableHlo.binary_bufs_sub .., StableHlo.unary_bufs_sub .., StableHlo.unary_bufs_sub .., StableHlo.nary_bufs_sub .., StableHlo.reshape_bufs_sub .., StableHlo.nary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩

/-- 32 operations of the reference before its loop, a stretch of them in order. -/
abbrev pre2 : Ops F :=
  [ StableHlo.unary main_v107 main_v108 (Host.negf : (⟨S8x16x16x81, .f32⟩ : BufTy).Contents (Elt F) → (⟨S8x16x16x81, .f32⟩ : BufTy).Contents (Elt F)),
    StableHlo.unary main_v108 main_v109 (Host.exp : (⟨S8x16x16x81, .f32⟩ : BufTy).Contents (Elt F) → (⟨S8x16x16x81, .f32⟩ : BufTy).Contents (Elt F)),
    StableHlo.nullary main_cst_11 (constant S_ .f32 0x3F800000#32),
    StableHlo.unary main_cst_11 main_v110 (broadcastInDim S8x16x16x81 ![] bcast_S_S8x16x16x81 : (⟨S_, .f32⟩ : BufTy).Contents (Elt F) → (⟨S8x16x16x81, .f32⟩ : BufTy).Contents (Elt F)),
    StableHlo.binary main_v110 main_v109 main_v111 (addf : (⟨S8x16x16x81, .f32⟩ : BufTy).Contents (Elt F) → (⟨S8x16x16x81, .f32⟩ : BufTy).Contents (Elt F) → (⟨S8x16x16x81, .f32⟩ : BufTy).Contents (Elt F)),
    StableHlo.nullary main_cst_12 (constant S_ .f32 0x3F800000#32),
    StableHlo.unary main_cst_12 main_v112 (broadcastInDim S8x16x16x81 ![] bcast_S_S8x16x16x81 : (⟨S_, .f32⟩ : BufTy).Contents (Elt F) → (⟨S8x16x16x81, .f32⟩ : BufTy).Contents (Elt F)),
    StableHlo.binary main_v112 main_v111 main_v113 (Host.divf : (⟨S8x16x16x81, .f32⟩ : BufTy).Contents (Elt F) → (⟨S8x16x16x81, .f32⟩ : BufTy).Contents (Elt F) → (⟨S8x16x16x81, .f32⟩ : BufTy).Contents (Elt F)),
    StableHlo.unary main_v113 main_v114 ((extractStridedSlice S8x16x16x1 ![0, 0, 0, 0] · slices_S8x16x16x81_S8x16x16x1_0_0_0_0) : (⟨S8x16x16x81, .f32⟩ : BufTy).Contents (Elt F) → (⟨S8x16x16x1, .f32⟩ : BufTy).Contents (Elt F)),
    StableHlo.reshape main_v114 main_v115 (rfl : (.f32 : EltTy) = .f32) shapeCasts_S8x16x16x1_S8x16x16,
    StableHlo.unary main_v113 main_v116 ((extractStridedSlice S8x16x16x80 ![0, 0, 0, 1] · slices_S8x16x16x81_S8x16x16x80_0_0_0_1) : (⟨S8x16x16x81, .f32⟩ : BufTy).Contents (Elt F) → (⟨S8x16x16x80, .f32⟩ : BufTy).Contents (Elt F)),
    StableHlo.nullary main_cst_13 (constant S_ .f32 0xFF800000#32),
    StableHlo.binary main_v116 main_cst_13 main_v117 ((fun x v => Host.reduce FloatOps.maximumf x v reducesTo_S8x16x16x80_S8x16x16_d3 h_S_) : (⟨S8x16x16x80, .f32⟩ : BufTy).Contents (Elt F) → (⟨S_, .f32⟩ : BufTy).Contents (Elt F) → (⟨S8x16x16, .f32⟩ : BufTy).Contents (Elt F)),
    StableHlo.binary main_v115 main_v117 main_v118 (mulf : (⟨S8x16x16, .f32⟩ : BufTy).Contents (Elt F) → (⟨S8x16x16, .f32⟩ : BufTy).Contents (Elt F) → (⟨S8x16x16, .f32⟩ : BufTy).Contents (Elt F)),
    StableHlo.unary main_v118 main_v119 (Host.sqrt : (⟨S8x16x16, .f32⟩ : BufTy).Contents (Elt F) → (⟨S8x16x16, .f32⟩ : BufTy).Contents (Elt F)),
    StableHlo.unary main_v119 main_v120 (broadcastInDim S8x16x16x1 ![0, 1, 2] bcast_S8x16x16_S8x16x16x1_0_1_2 : (⟨S8x16x16, .f32⟩ : BufTy).Contents (Elt F) → (⟨S8x16x16x1, .f32⟩ : BufTy).Contents (Elt F)),
    StableHlo.nary ![main_v105, main_v106, main_v120, main_v116] main_v121 (fun u => (concatenate S8x16x16x85 3 [⟨S8x16x16x2, (u 0 : (⟨S8x16x16x2, .f32⟩ : BufTy).Contents (Elt F))⟩, ⟨S8x16x16x2, (u 1 : (⟨S8x16x16x2, .f32⟩ : BufTy).Contents (Elt F))⟩, ⟨S8x16x16x1, (u 2 : (⟨S8x16x16x1, .f32⟩ : BufTy).Contents (Elt F))⟩, ⟨S8x16x16x80, (u 3 : (⟨S8x16x16x80, .f32⟩ : BufTy).Contents (Elt F))⟩] concatenates_S8x16x16x2_S8x16x16x2_S8x16x16x1_S8x16x16x80_S8x16x16x85_d3 : (⟨S8x16x16x85, .f32⟩ : BufTy).Contents (Elt F))),
    StableHlo.reshape main_v121 main_v122 (rfl : (.f32 : EltTy) = .f32) shapeCasts_S8x16x16x85_S8x256x85,
    StableHlo.nary ![main_v40, main_v81, main_v122] main_v123 (fun u => (concatenate S8x5376x85 1 [⟨S8x4096x85, (u 0 : (⟨S8x4096x85, .f32⟩ : BufTy).Contents (Elt F))⟩, ⟨S8x1024x85, (u 1 : (⟨S8x1024x85, .f32⟩ : BufTy).Contents (Elt F))⟩, ⟨S8x256x85, (u 2 : (⟨S8x256x85, .f32⟩ : BufTy).Contents (Elt F))⟩] concatenates_S8x4096x85_S8x1024x85_S8x256x85_S8x5376x85_d1 : (⟨S8x5376x85, .f32⟩ : BufTy).Contents (Elt F))),
    StableHlo.unary main_v123 main_v124 ((extractStridedSlice S8x5376x4 ![0, 0, 0] · slices_S8x5376x85_S8x5376x4_0_0_0) : (⟨S8x5376x85, .f32⟩ : BufTy).Contents (Elt F) → (⟨S8x5376x4, .f32⟩ : BufTy).Contents (Elt F)),
    StableHlo.unary main_v124 main_v125 ((extractStridedSlice S8x5376x2 ![0, 0, 2] · slices_S8x5376x4_S8x5376x2_0_0_2) : (⟨S8x5376x4, .f32⟩ : BufTy).Contents (Elt F) → (⟨S8x5376x2, .f32⟩ : BufTy).Contents (Elt F)),
    StableHlo.nullary main_cst_14 (constant S_ .f32 0x3F000000#32),
    StableHlo.unary main_cst_14 main_v126 (broadcastInDim S8x5376x2 ![] bcast_S_S8x5376x2 : (⟨S_, .f32⟩ : BufTy).Contents (Elt F) → (⟨S8x5376x2, .f32⟩ : BufTy).Contents (Elt F)),
    StableHlo.binary main_v126 main_v125 main_v127 (mulf : (⟨S8x5376x2, .f32⟩ : BufTy).Contents (Elt F) → (⟨S8x5376x2, .f32⟩ : BufTy).Contents (Elt F) → (⟨S8x5376x2, .f32⟩ : BufTy).Contents (Elt F)),
    StableHlo.unary main_v124 main_v128 ((extractStridedSlice S8x5376x2 ![0, 0, 0] · slices_S8x5376x4_S8x5376x2_0_0_0) : (⟨S8x5376x4, .f32⟩ : BufTy).Contents (Elt F) → (⟨S8x5376x2, .f32⟩ : BufTy).Contents (Elt F)),
    StableHlo.binary main_v128 main_v127 main_v129 (subf : (⟨S8x5376x2, .f32⟩ : BufTy).Contents (Elt F) → (⟨S8x5376x2, .f32⟩ : BufTy).Contents (Elt F) → (⟨S8x5376x2, .f32⟩ : BufTy).Contents (Elt F)),
    StableHlo.unary main_v124 main_v130 ((extractStridedSlice S8x5376x2 ![0, 0, 0] · slices_S8x5376x4_S8x5376x2_0_0_0) : (⟨S8x5376x4, .f32⟩ : BufTy).Contents (Elt F) → (⟨S8x5376x2, .f32⟩ : BufTy).Contents (Elt F)),
    StableHlo.binary main_v130 main_v127 main_v131 (addf : (⟨S8x5376x2, .f32⟩ : BufTy).Contents (Elt F) → (⟨S8x5376x2, .f32⟩ : BufTy).Contents (Elt F) → (⟨S8x5376x2, .f32⟩ : BufTy).Contents (Elt F)),
    StableHlo.binary main_v129 main_v131 main_v132 ((fun a b => concatenate S8x5376x4 2 [⟨S8x5376x2, a⟩, ⟨S8x5376x2, b⟩] concatenates_S8x5376x2_S8x5376x2_S8x5376x4_d2) : (⟨S8x5376x2, .f32⟩ : BufTy).Contents (Elt F) → (⟨S8x5376x2, .f32⟩ : BufTy).Contents (Elt F) → (⟨S8x5376x4, .f32⟩ : BufTy).Contents (Elt F)),
    StableHlo.unary main_v123 main_v133 ((extractStridedSlice S8x5376x1 ![0, 0, 4] · slices_S8x5376x85_S8x5376x1_0_0_4) : (⟨S8x5376x85, .f32⟩ : BufTy).Contents (Elt F) → (⟨S8x5376x1, .f32⟩ : BufTy).Contents (Elt F)),
    StableHlo.reshape main_v133 main_v134 (rfl : (.f32 : EltTy) = .f32) shapeCasts_S8x5376x1_S8x5376,
    StableHlo.unary main_v123 main_v135 ((extractStridedSlice S8x5376x80 ![0, 0, 5] · slices_S8x5376x85_S8x5376x80_0_0_5) : (⟨S8x5376x85, .f32⟩ : BufTy).Contents (Elt F) → (⟨S8x5376x80, .f32⟩ : BufTy).Contents (Elt F)) ]
theorem pre2_onTc : OnTc (pre2 : Ops F) :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.nullary_bufs_sub .., StableHlo.binary_bufs_sub .., StableHlo.binary_bufs_sub .., StableHlo.unary_bufs_sub .., StableHlo.unary_bufs_sub .., StableHlo.nary_bufs_sub .., StableHlo.reshape_bufs_sub .., StableHlo.nary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.unary_bufs_sub ..⟩

/-- 5 operations of the reference before its loop, a stretch of them in order. -/
abbrev pre3 : Ops F :=
  [ StableHlo.TRef.nullary (.of main_call0_v0 : StableHlo.TRef sig ⟨S8x5376x80, .i32⟩) (iotaInDim S8x5376x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v135 : StableHlo.TRef sig ⟨S8x5376x80, .f32⟩) (.of main_call0_v0 : StableHlo.TRef sig ⟨S8x5376x80, .i32⟩) (.of main_call0_cst : StableHlo.TRef sig ⟨S_, .f32⟩) (.of main_call0_c : StableHlo.TRef sig ⟨S_, .i32⟩) (.of main_call0_v1_0 : StableHlo.TRef sig ⟨S8x5376, .f32⟩) (fun x y u v j => (Host.argReduce reducer_argmax_f32_i32 x y u v reducesTo_S8x5376x80_S8x5376_d2 h_S_ j).1),
    StableHlo.TRef.quaternary (.of main_v135 : StableHlo.TRef sig ⟨S8x5376x80, .f32⟩) (.of main_call0_v0 : StableHlo.TRef sig ⟨S8x5376x80, .i32⟩) (.of main_call0_cst : StableHlo.TRef sig ⟨S_, .f32⟩) (.of main_call0_c : StableHlo.TRef sig ⟨S_, .i32⟩) (.of main_v136 : StableHlo.TRef sig ⟨S8x5376, .i32⟩) (fun x y u v j => (Host.argReduce reducer_argmax_f32_i32 x y u v reducesTo_S8x5376x80_S8x5376_d2 h_S_ j).2) ]
theorem pre3_onTc : OnTc (pre3 : Ops F) :=
  ⟨StableHlo.nullary_bufs_sub .., StableHlo.nullary_bufs_sub .., StableHlo.nullary_bufs_sub .., StableHlo.quaternary_bufs_sub .., StableHlo.quaternary_bufs_sub ..⟩

/-- 4 operations of the reference before its loop, a stretch of them in order. -/
abbrev pre4 : Ops F :=
  [ StableHlo.nullary main_cst_15 (constant S_ .f32 0x3E4CCCCD#32),
    StableHlo.unary main_cst_15 main_v137 (broadcastInDim S8x5376 ![] bcast_S_S8x5376 : (⟨S_, .f32⟩ : BufTy).Contents (Elt F) → (⟨S8x5376, .f32⟩ : BufTy).Contents (Elt F)),
    StableHlo.binary main_v134 main_v137 main_v138 (cmpf .ogt : (⟨S8x5376, .f32⟩ : BufTy).Contents (Elt F) → (⟨S8x5376, .f32⟩ : BufTy).Contents (Elt F) → (⟨S8x5376, .i1⟩ : BufTy).Contents (Elt F)),
    StableHlo.nullary main_cst_16 (constant S_ .f32 0xBF800000#32) ]
theorem pre4_onTc : OnTc (pre4 : Ops F) :=
  ⟨StableHlo.nullary_bufs_sub .., StableHlo.unary_bufs_sub .., StableHlo.binary_bufs_sub .., StableHlo.nullary_bufs_sub ..⟩

/-- 4 operations of the reference before its loop, a stretch of them in order. -/
abbrev pre5 : Ops F :=
  [ StableHlo.TRef.unary (.of main_cst_16 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S5376, .f32⟩) (broadcastInDim S5376 ![] bcast_S_S5376),
    StableHlo.TRef.unary (.of main_call1_v1 : StableHlo.TRef sig ⟨S5376, .f32⟩) (.of main_call1_v2 : StableHlo.TRef sig ⟨S8x5376, .f32⟩) (broadcastInDim S8x5376 ![1] bcast_S5376_S8x5376_1),
    StableHlo.TRef.ternary (.of main_v138 : StableHlo.TRef sig ⟨S8x5376, .i1⟩) (.of main_v134 : StableHlo.TRef sig ⟨S8x5376, .f32⟩) (.of main_call1_v2 : StableHlo.TRef sig ⟨S8x5376, .f32⟩) (.of main_v139 : StableHlo.TRef sig ⟨S8x5376, .f32⟩) select ]
theorem pre5_onTc : OnTc (pre5 : Ops F) :=
  ⟨StableHlo.unary_bufs_sub .., StableHlo.unary_bufs_sub .., StableHlo.unary_bufs_sub .., StableHlo.ternary_bufs_sub ..⟩

/-- 22 operations of the reference before its loop, a stretch of them in order. -/
abbrev pre6 : Ops F :=
  [ StableHlo.unary main_v136 main_v140 (sitofp .f32 : (⟨S8x5376, .i32⟩ : BufTy).Contents (Elt F) → (⟨S8x5376, .f32⟩ : BufTy).Contents (Elt F)),
    StableHlo.unary main_v140 main_v141 (broadcastInDim S8x5376x1 ![0, 1] bcast_S8x5376_S8x5376x1_0_1 : (⟨S8x5376, .f32⟩ : BufTy).Contents (Elt F) → (⟨S8x5376x1, .f32⟩ : BufTy).Contents (Elt F)),
    StableHlo.nullary main_cst_17 (constant S_ .f32 0x45800000#32),
    StableHlo.unary main_cst_17 main_v142 (broadcastInDim S8x5376x1 ![] bcast_S_S8x5376x1 : (⟨S_, .f32⟩ : BufTy).Contents (Elt F) → (⟨S8x5376x1, .f32⟩ : BufTy).Contents (Elt F)),
    StableHlo.binary main_v141 main_v142 main_v143 (mulf : (⟨S8x5376x1, .f32⟩ : BufTy).Contents (Elt F) → (⟨S8x5376x1, .f32⟩ : BufTy).Contents (Elt F) → (⟨S8x5376x1, .f32⟩ : BufTy).Contents (Elt F)),
    StableHlo.unary main_v143 main_v144 (broadcastInDim S8x5376x4 ![0, 1, 2] bcast_S8x5376x1_S8x5376x4_0_1_2 : (⟨S8x5376x1, .f32⟩ : BufTy).Contents (Elt F) → (⟨S8x5376x4, .f32⟩ : BufTy).Contents (Elt F)),
    StableHlo.binary main_v132 main_v144 main_v145 (addf : (⟨S8x5376x4, .f32⟩ : BufTy).Contents (Elt F) → (⟨S8x5376x4, .f32⟩ : BufTy).Contents (Elt F) → (⟨S8x5376x4, .f32⟩ : BufTy).Contents (Elt F)),
    StableHlo.unary main_v145 main_v146 ((extractStridedSlice S8x5376x1 ![0, 0, 2] · slices_S8x5376x4_S8x5376x1_0_0_2) : (⟨S8x5376x4, .f32⟩ : BufTy).Contents (Elt F) → (⟨S8x5376x1, .f32⟩ : BufTy).Contents (Elt F)),
    StableHlo.reshape main_v146 main_v147 (rfl : (.f32 : EltTy) = .f32) shapeCasts_S8x5376x1_S8x5376,
    StableHlo.unary main_v145 main_v148 ((extractStridedSlice S8x5376x1 ![0, 0, 0] · slices_S8x5376x4_S8x5376x1_0_0_0) : (⟨S8x5376x4, .f32⟩ : BufTy).Contents (Elt F) → (⟨S8x5376x1, .f32⟩ : BufTy).Contents (Elt F)),
    StableHlo.reshape main_v148 main_v149 (rfl : (.f32 : EltTy) = .f32) shapeCasts_S8x5376x1_S8x5376,
    StableHlo.binary main_v147 main_v149 main_v150 (subf : (⟨S8x5376, .f32⟩ : BufTy).Contents (Elt F) → (⟨S8x5376, .f32⟩ : BufTy).Contents (Elt F) → (⟨S8x5376, .f32⟩ : BufTy).Contents (Elt F)),
    StableHlo.unary main_v145 main_v151 ((extractStridedSlice S8x5376x1 ![0, 0, 3] · slices_S8x5376x4_S8x5376x1_0_0_3) : (⟨S8x5376x4, .f32⟩ : BufTy).Contents (Elt F) → (⟨S8x5376x1, .f32⟩ : BufTy).Contents (Elt F)),
    StableHlo.reshape main_v151 main_v152 (rfl : (.f32 : EltTy) = .f32) shapeCasts_S8x5376x1_S8x5376,
    StableHlo.unary main_v145 main_v153 ((extractStridedSlice S8x5376x1 ![0, 0, 1] · slices_S8x5376x4_S8x5376x1_0_0_1) : (⟨S8x5376x4, .f32⟩ : BufTy).Contents (Elt F) → (⟨S8x5376x1, .f32⟩ : BufTy).Contents (Elt F)),
    StableHlo.reshape main_v153 main_v154 (rfl : (.f32 : EltTy) = .f32) shapeCasts_S8x5376x1_S8x5376,
    StableHlo.binary main_v152 main_v154 main_v155 (subf : (⟨S8x5376, .f32⟩ : BufTy).Contents (Elt F) → (⟨S8x5376, .f32⟩ : BufTy).Contents (Elt F) → (⟨S8x5376, .f32⟩ : BufTy).Contents (Elt F)),
    StableHlo.binary main_v150 main_v155 main_v156 (mulf : (⟨S8x5376, .f32⟩ : BufTy).Contents (Elt F) → (⟨S8x5376, .f32⟩ : BufTy).Contents (Elt F) → (⟨S8x5376, .f32⟩ : BufTy).Contents (Elt F)),
    StableHlo.nullary main_cst_18 (constant S_ .f32 0x00000000#32),
    StableHlo.unary main_cst_18 main_v157 (broadcastInDim S100x8x6 ![] bcast_S_S100x8x6 : (⟨S_, .f32⟩ : BufTy).Contents (Elt F) → (⟨S100x8x6, .f32⟩ : BufTy).Contents (Elt F)),
    StableHlo.nullary main_c (constantI S_ 32 0#32),
    StableHlo.unary main_v145 main_v158_0 id ]
theorem pre6_onTc : OnTc (pre6 : Ops F) :=
  ⟨StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.nullary_bufs_sub .., StableHlo.unary_bufs_sub .., StableHlo.nullary_bufs_sub .., StableHlo.unary_bufs_sub ..⟩

/-- 6 operations of the reference before its loop, a stretch of them in order. -/
abbrev pre7 : Ops F :=
  [ StableHlo.unary main_v156 main_v158_1 id,
    StableHlo.unary main_v132 main_v158_2 id,
    StableHlo.unary main_v136 main_v158_3 id,
    StableHlo.unary main_c main_v158_4 id,
    StableHlo.unary main_v139 main_v158_5 id,
    StableHlo.unary main_v157 main_v158_6 id ]
theorem pre7_onTc : OnTc (pre7 : Ops F) :=
  ⟨StableHlo.unary_bufs_sub .., StableHlo.unary_bufs_sub .., StableHlo.unary_bufs_sub .., StableHlo.unary_bufs_sub .., StableHlo.unary_bufs_sub .., StableHlo.unary_bufs_sub ..⟩

/-- 1 the operation after the loop. -/
abbrev post0 : Ops F :=
  [ StableHlo.unary main_v158_6 main_v159 ((transpose S8x100x6 [1, 0, 2] · transposes_S100x8x6_S8x100x6_1_0_2) : (⟨S100x8x6, .f32⟩ : BufTy).Contents (Elt F) → (⟨S8x100x6, .f32⟩ : BufTy).Contents (Elt F)) ]
theorem post0_onTc : OnTc (post0 : Ops F) :=
  StableHlo.unary_bufs_sub ..

/-- 5 operations of one trip, a stretch of them in order. -/
abbrev body0 : Ops F :=
  [ StableHlo.TRef.nullary (.of main_while0b_call2_v0 : StableHlo.TRef sig ⟨S8x5376, .i32⟩) (iotaInDim S8x5376 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v158_5 : StableHlo.TRef sig ⟨S8x5376, .f32⟩) (.of main_while0b_call2_v0 : StableHlo.TRef sig ⟨S8x5376, .i32⟩) (.of main_while0b_call2_cst : StableHlo.TRef sig ⟨S_, .f32⟩) (.of main_while0b_call2_c : StableHlo.TRef sig ⟨S_, .i32⟩) (.of main_while0b_call2_v1_0 : StableHlo.TRef sig ⟨S8, .f32⟩) (fun x y u v j => (Host.argReduce reducer_argmax_f32_i32 x y u v reducesTo_S8x5376_S8_d1 h_S_ j).1),
    StableHlo.TRef.quaternary (.of main_v158_5 : StableHlo.TRef sig ⟨S8x5376, .f32⟩) (.of main_while0b_call2_v0 : StableHlo.TRef sig ⟨S8x5376, .i32⟩) (.of main_while0b_call2_cst : StableHlo.TRef sig ⟨S_, .f32⟩) (.of main_while0b_call2_c : StableHlo.TRef sig ⟨S_, .i32⟩) (.of main_while0b_v160 : StableHlo.TRef sig ⟨S8, .i32⟩) (fun x y u v j => (Host.argReduce reducer_argmax_f32_i32 x y u v reducesTo_S8x5376_S8_d1 h_S_ j).2) ]
theorem body0_onTc : OnTc (body0 : Ops F) :=
  ⟨StableHlo.nullary_bufs_sub .., StableHlo.nullary_bufs_sub .., StableHlo.nullary_bufs_sub .., StableHlo.quaternary_bufs_sub .., StableHlo.quaternary_bufs_sub ..⟩

/-- 6 operations of one trip, a stretch of them in order. -/
abbrev body1 : Ops F :=
  [ StableHlo.nullary main_while0b_cst_25 (constant S_ .f32 0xFF800000#32),
    StableHlo.binary main_v158_5 main_while0b_cst_25 main_while0b_v161 ((fun x v => Host.reduce FloatOps.maximumf x v reducesTo_S8x5376_S8_d1 h_S_) : (⟨S8x5376, .f32⟩ : BufTy).Contents (Elt F) → (⟨S_, .f32⟩ : BufTy).Contents (Elt F) → (⟨S8, .f32⟩ : BufTy).Contents (Elt F)),
    StableHlo.nullary main_while0b_cst_26 (constant S_ .f32 0x00000000#32),
    StableHlo.unary main_while0b_cst_26 main_while0b_v162 (broadcastInDim S8 ![] bcast_S_S8 : (⟨S_, .f32⟩ : BufTy).Contents (Elt F) → (⟨S8, .f32⟩ : BufTy).Contents (Elt F)),
    StableHlo.binary main_while0b_v161 main_while0b_v162 main_while0b_v163 (cmpf .ogt : (⟨S8, .f32⟩ : BufTy).Contents (Elt F) → (⟨S8, .f32⟩ : BufTy).Contents (Elt F) → (⟨S8, .i1⟩ : BufTy).Contents (Elt F)),
    StableHlo.unary main_while0b_v160 main_while0b_v164 (broadcastInDim S8x1 ![0] bcast_S8_S8x1_0 : (⟨S8, .i32⟩ : BufTy).Contents (Elt F) → (⟨S8x1, .i32⟩ : BufTy).Contents (Elt F)) ]
theorem body1_onTc : OnTc (body1 : Ops F) :=
  ⟨StableHlo.nullary_bufs_sub .., StableHlo.binary_bufs_sub .., StableHlo.nullary_bufs_sub .., StableHlo.unary_bufs_sub .., StableHlo.binary_bufs_sub .., StableHlo.unary_bufs_sub ..⟩

/-- 2 operations of one trip, a stretch of them in order. -/
abbrev body2 : Ops F :=
  [ StableHlo.TRef.unary (.of main_while0b_v164 : StableHlo.TRef sig ⟨S8x1, .i32⟩) (.of main_while0b_call3_v0 : StableHlo.TRef sig ⟨S8x1x1, .i32⟩) (broadcastInDim S8x1x1 ![0, 1] bcast_S8x1_S8x1x1_0_1),
    StableHlo.TRef.binary (.of main_v158_0 : StableHlo.TRef sig ⟨S8x5376x4, .f32⟩) (.of main_while0b_call3_v0 : StableHlo.TRef sig ⟨S8x1x1, .i32⟩) (.of main_while0b_v165 : StableHlo.TRef sig ⟨S8x1x4, .f32⟩) (fun x i => Host.gather gather_S8x5376x4_S8x1x1_S8x1x4_2_1_0_0_1_2_114 x i) ]
theorem body2_onTc : OnTc (body2 : Ops F) :=
  ⟨StableHlo.unary_bufs_sub .., StableHlo.binary_bufs_sub ..⟩

/-- 64 operations of one trip, a stretch of them in order. -/
abbrev body3 : Ops F :=
  [ StableHlo.reshape main_while0b_v165 main_while0b_v166 (rfl : (.f32 : EltTy) = .f32) shapeCasts_S8x1x4_S8x4,
    StableHlo.unary main_while0b_v166 main_while0b_v167 ((extractStridedSlice S8x1 ![0, 0] · slices_S8x4_S8x1_0_0) : (⟨S8x4, .f32⟩ : BufTy).Contents (Elt F) → (⟨S8x1, .f32⟩ : BufTy).Contents (Elt F)),
    StableHlo.reshape main_while0b_v167 main_while0b_v168 (rfl : (.f32 : EltTy) = .f32) shapeCasts_S8x1_S8,
    StableHlo.unary main_v158_0 main_while0b_v169 ((extractStridedSlice S8x5376x1 ![0, 0, 0] · slices_S8x5376x4_S8x5376x1_0_0_0) : (⟨S8x5376x4, .f32⟩ : BufTy).Contents (Elt F) → (⟨S8x5376x1, .f32⟩ : BufTy).Contents (Elt F)),
    StableHlo.reshape main_while0b_v169 main_while0b_v170 (rfl : (.f32 : EltTy) = .f32) shapeCasts_S8x5376x1_S8x5376,
    StableHlo.unary main_while0b_v168 main_while0b_v171 (broadcastInDim S8x1 ![0] bcast_S8_S8x1_0 : (⟨S8, .f32⟩ : BufTy).Contents (Elt F) → (⟨S8x1, .f32⟩ : BufTy).Contents (Elt F)),
    StableHlo.unary main_while0b_v171 main_while0b_v172 (broadcastInDim S8x5376 ![0, 1] bcast_S8x1_S8x5376_0_1 : (⟨S8x1, .f32⟩ : BufTy).Contents (Elt F) → (⟨S8x5376, .f32⟩ : BufTy).Contents (Elt F)),
    StableHlo.binary main_while0b_v172 main_while0b_v170 main_while0b_v173 (maximumf : (⟨S8x5376, .f32⟩ : BufTy).Contents (Elt F) → (⟨S8x5376, .f32⟩ : BufTy).Contents (Elt F) → (⟨S8x5376, .f32⟩ : BufTy).Contents (Elt F)),
    StableHlo.unary main_while0b_v166 main_while0b_v174 ((extractStridedSlice S8x1 ![0, 1] · slices_S8x4_S8x1_0_1) : (⟨S8x4, .f32⟩ : BufTy).Contents (Elt F) → (⟨S8x1, .f32⟩ : BufTy).Contents (Elt F)),
    StableHlo.reshape main_while0b_v174 main_while0b_v175 (rfl : (.f32 : EltTy) = .f32) shapeCasts_S8x1_S8,
    StableHlo.unary main_v158_0 main_while0b_v176 ((extractStridedSlice S8x5376x1 ![0, 0, 1] · slices_S8x5376x4_S8x5376x1_0_0_1) : (⟨S8x5376x4, .f32⟩ : BufTy).Contents (Elt F) → (⟨S8x5376x1, .f32⟩ : BufTy).Contents (Elt F)),
    StableHlo.reshape main_while0b_v176 main_while0b_v177 (rfl : (.f32 : EltTy) = .f32) shapeCasts_S8x5376x1_S8x5376,
    StableHlo.unary main_while0b_v175 main_while0b_v178 (broadcastInDim S8x1 ![0] bcast_S8_S8x1_0 : (⟨S8, .f32⟩ : BufTy).Contents (Elt F) → (⟨S8x1, .f32⟩ : BufTy).Contents (Elt F)),
    StableHlo.unary main_while0b_v178 main_while0b_v179 (broadcastInDim S8x5376 ![0, 1] bcast_S8x1_S8x5376_0_1 : (⟨S8x1, .f32⟩ : BufTy).Contents (Elt F) → (⟨S8x5376, .f32⟩ : BufTy).Contents (Elt F)),
    StableHlo.binary main_while0b_v179 main_while0b_v177 main_while0b_v180 (maximumf : (⟨S8x5376, .f32⟩ : BufTy).Contents (Elt F) → (⟨S8x5376, .f32⟩ : BufTy).Contents (Elt F) → (⟨S8x5376, .f32⟩ : BufTy).Contents (Elt F)),
    StableHlo.unary main_while0b_v166 main_while0b_v181 ((extractStridedSlice S8x1 ![0, 2] · slices_S8x4_S8x1_0_2) : (⟨S8x4, .f32⟩ : BufTy).Contents (Elt F) → (⟨S8x1, .f32⟩ : BufTy).Contents (Elt F)),
    StableHlo.reshape main_while0b_v181 main_while0b_v182 (rfl : (.f32 : EltTy) = .f32) shapeCasts_S8x1_S8,
    StableHlo.unary main_v158_0 main_while0b_v183 ((extractStridedSlice S8x5376x1 ![0, 0, 2] · slices_S8x5376x4_S8x5376x1_0_0_2) : (⟨S8x5376x4, .f32⟩ : BufTy).Contents (Elt F) → (⟨S8x5376x1, .f32⟩ : BufTy).Contents (Elt F)),
    StableHlo.reshape main_while0b_v183 main_while0b_v184 (rfl : (.f32 : EltTy) = .f32) shapeCasts_S8x5376x1_S8x5376,
    StableHlo.unary main_while0b_v182 main_while0b_v185 (broadcastInDim S8x1 ![0] bcast_S8_S8x1_0 : (⟨S8, .f32⟩ : BufTy).Contents (Elt F) → (⟨S8x1, .f32⟩ : BufTy).Contents (Elt F)),
    StableHlo.unary main_while0b_v185 main_while0b_v186 (broadcastInDim S8x5376 ![0, 1] bcast_S8x1_S8x5376_0_1 : (⟨S8x1, .f32⟩ : BufTy).Contents (Elt F) → (⟨S8x5376, .f32⟩ : BufTy).Contents (Elt F)),
    StableHlo.binary main_while0b_v186 main_while0b_v184 main_while0b_v187 (minimumf : (⟨S8x5376, .f32⟩ : BufTy).Contents (Elt F) → (⟨S8x5376, .f32⟩ : BufTy).Contents (Elt F) → (⟨S8x5376, .f32⟩ : BufTy).Contents (Elt F)),
    StableHlo.unary main_while0b_v166 main_while0b_v188 ((extractStridedSlice S8x1 ![0, 3] · slices_S8x4_S8x1_0_3) : (⟨S8x4, .f32⟩ : BufTy).Contents (Elt F) → (⟨S8x1, .f32⟩ : BufTy).Contents (Elt F)),
    StableHlo.reshape main_while0b_v188 main_while0b_v189 (rfl : (.f32 : EltTy) = .f32) shapeCasts_S8x1_S8,
    StableHlo.unary main_v158_0 main_while0b_v190 ((extractStridedSlice S8x5376x1 ![0, 0, 3] · slices_S8x5376x4_S8x5376x1_0_0_3) : (⟨S8x5376x4, .f32⟩ : BufTy).Contents (Elt F) → (⟨S8x5376x1, .f32⟩ : BufTy).Contents (Elt F)),
    StableHlo.reshape main_while0b_v190 main_while0b_v191 (rfl : (.f32 : EltTy) = .f32) shapeCasts_S8x5376x1_S8x5376,
    StableHlo.unary main_while0b_v189 main_while0b_v192 (broadcastInDim S8x1 ![0] bcast_S8_S8x1_0 : (⟨S8, .f32⟩ : BufTy).Contents (Elt F) → (⟨S8x1, .f32⟩ : BufTy).Contents (Elt F)),
    StableHlo.unary main_while0b_v192 main_while0b_v193 (broadcastInDim S8x5376 ![0, 1] bcast_S8x1_S8x5376_0_1 : (⟨S8x1, .f32⟩ : BufTy).Contents (Elt F) → (⟨S8x5376, .f32⟩ : BufTy).Contents (Elt F)),
    StableHlo.binary main_while0b_v193 main_while0b_v191 main_while0b_v194 (minimumf : (⟨S8x5376, .f32⟩ : BufTy).Contents (Elt F) → (⟨S8x5376, .f32⟩ : BufTy).Contents (Elt F) → (⟨S8x5376, .f32⟩ : BufTy).Contents (Elt F)),
    StableHlo.binary main_while0b_v187 main_while0b_v173 main_while0b_v195 (subf : (⟨S8x5376, .f32⟩ : BufTy).Contents (Elt F) → (⟨S8x5376, .f32⟩ : BufTy).Contents (Elt F) → (⟨S8x5376, .f32⟩ : BufTy).Contents (Elt F)),
    StableHlo.nullary main_while0b_cst_27 (constant S_ .f32 0x00000000#32),
    StableHlo.unary main_while0b_cst_27 main_while0b_v196 (broadcastInDim S8x5376 ![] bcast_S_S8x5376 : (⟨S_, .f32⟩ : BufTy).Contents (Elt F) → (⟨S8x5376, .f32⟩ : BufTy).Contents (Elt F)),
    StableHlo.binary main_while0b_v195 main_while0b_v196 main_while0b_v197 (maximumf : (⟨S8x5376, .f32⟩ : BufTy).Contents (Elt F) → (⟨S8x5376, .f32⟩ : BufTy).Contents (Elt F) → (⟨S8x5376, .f32⟩ : BufTy).Contents (Elt F)),
    StableHlo.binary main_while0b_v194 main_while0b_v180 main_while0b_v198 (subf : (⟨S8x5376, .f32⟩ : BufTy).Contents (Elt F) → (⟨S8x5376, .f32⟩ : BufTy).Contents (Elt F) → (⟨S8x5376, .f32⟩ : BufTy).Contents (Elt F)),
    StableHlo.nullary main_while0b_cst_28 (constant S_ .f32 0x00000000#32),
    StableHlo.unary main_while0b_cst_28 main_while0b_v199 (broadcastInDim S8x5376 ![] bcast_S_S8x5376 : (⟨S_, .f32⟩ : BufTy).Contents (Elt F) → (⟨S8x5376, .f32⟩ : BufTy).Contents (Elt F)),
    StableHlo.binary main_while0b_v198 main_while0b_v199 main_while0b_v200 (maximumf : (⟨S8x5376, .f32⟩ : BufTy).Contents (Elt F) → (⟨S8x5376, .f32⟩ : BufTy).Contents (Elt F) → (⟨S8x5376, .f32⟩ : BufTy).Contents (Elt F)),
    StableHlo.binary main_while0b_v197 main_while0b_v200 main_while0b_v201 (mulf : (⟨S8x5376, .f32⟩ : BufTy).Contents (Elt F) → (⟨S8x5376, .f32⟩ : BufTy).Contents (Elt F) → (⟨S8x5376, .f32⟩ : BufTy).Contents (Elt F)),
    StableHlo.unary main_while0b_v166 main_while0b_v202 ((extractStridedSlice S8x1 ![0, 2] · slices_S8x4_S8x1_0_2) : (⟨S8x4, .f32⟩ : BufTy).Contents (Elt F) → (⟨S8x1, .f32⟩ : BufTy).Contents (Elt F)),
    StableHlo.reshape main_while0b_v202 main_while0b_v203 (rfl : (.f32 : EltTy) = .f32) shapeCasts_S8x1_S8,
    StableHlo.unary main_while0b_v166 main_while0b_v204 ((extractStridedSlice S8x1 ![0, 0] · slices_S8x4_S8x1_0_0) : (⟨S8x4, .f32⟩ : BufTy).Contents (Elt F) → (⟨S8x1, .f32⟩ : BufTy).Contents (Elt F)),
    StableHlo.reshape main_while0b_v204 main_while0b_v205 (rfl : (.f32 : EltTy) = .f32) shapeCasts_S8x1_S8,
    StableHlo.binary main_while0b_v203 main_while0b_v205 main_while0b_v206 (subf : (⟨S8, .f32⟩ : BufTy).Contents (Elt F) → (⟨S8, .f32⟩ : BufTy).Contents (Elt F) → (⟨S8, .f32⟩ : BufTy).Contents (Elt F)),
    StableHlo.unary main_while0b_v166 main_while0b_v207 ((extractStridedSlice S8x1 ![0, 3] · slices_S8x4_S8x1_0_3) : (⟨S8x4, .f32⟩ : BufTy).Contents (Elt F) → (⟨S8x1, .f32⟩ : BufTy).Contents (Elt F)),
    StableHlo.reshape main_while0b_v207 main_while0b_v208 (rfl : (.f32 : EltTy) = .f32) shapeCasts_S8x1_S8,
    StableHlo.unary main_while0b_v166 main_while0b_v209 ((extractStridedSlice S8x1 ![0, 1] · slices_S8x4_S8x1_0_1) : (⟨S8x4, .f32⟩ : BufTy).Contents (Elt F) → (⟨S8x1, .f32⟩ : BufTy).Contents (Elt F)),
    StableHlo.reshape main_while0b_v209 main_while0b_v210 (rfl : (.f32 : EltTy) = .f32) shapeCasts_S8x1_S8,
    StableHlo.binary main_while0b_v208 main_while0b_v210 main_while0b_v211 (subf : (⟨S8, .f32⟩ : BufTy).Contents (Elt F) → (⟨S8, .f32⟩ : BufTy).Contents (Elt F) → (⟨S8, .f32⟩ : BufTy).Contents (Elt F)),
    StableHlo.binary main_while0b_v206 main_while0b_v211 main_while0b_v212 (mulf : (⟨S8, .f32⟩ : BufTy).Contents (Elt F) → (⟨S8, .f32⟩ : BufTy).Contents (Elt F) → (⟨S8, .f32⟩ : BufTy).Contents (Elt F)),
    StableHlo.unary main_while0b_v212 main_while0b_v213 (broadcastInDim S8x1 ![0] bcast_S8_S8x1_0 : (⟨S8, .f32⟩ : BufTy).Contents (Elt F) → (⟨S8x1, .f32⟩ : BufTy).Contents (Elt F)),
    StableHlo.unary main_while0b_v213 main_while0b_v214 (broadcastInDim S8x5376 ![0, 1] bcast_S8x1_S8x5376_0_1 : (⟨S8x1, .f32⟩ : BufTy).Contents (Elt F) → (⟨S8x5376, .f32⟩ : BufTy).Contents (Elt F)),
    StableHlo.binary main_while0b_v214 main_v158_1 main_while0b_v215 (addf : (⟨S8x5376, .f32⟩ : BufTy).Contents (Elt F) → (⟨S8x5376, .f32⟩ : BufTy).Contents (Elt F) → (⟨S8x5376, .f32⟩ : BufTy).Contents (Elt F)),
    StableHlo.binary main_while0b_v215 main_while0b_v201 main_while0b_v216 (subf : (⟨S8x5376, .f32⟩ : BufTy).Contents (Elt F) → (⟨S8x5376, .f32⟩ : BufTy).Contents (Elt F) → (⟨S8x5376, .f32⟩ : BufTy).Contents (Elt F)),
    StableHlo.nullary main_while0b_cst_29 (constant S_ .f32 0x3089705F#32),
    StableHlo.unary main_while0b_cst_29 main_while0b_v217 (broadcastInDim S8x5376 ![] bcast_S_S8x5376 : (⟨S_, .f32⟩ : BufTy).Contents (Elt F) → (⟨S8x5376, .f32⟩ : BufTy).Contents (Elt F)),
    StableHlo.binary main_while0b_v216 main_while0b_v217 main_while0b_v218 (addf : (⟨S8x5376, .f32⟩ : BufTy).Contents (Elt F) → (⟨S8x5376, .f32⟩ : BufTy).Contents (Elt F) → (⟨S8x5376, .f32⟩ : BufTy).Contents (Elt F)),
    StableHlo.binary main_while0b_v201 main_while0b_v218 main_while0b_v219 (Host.divf : (⟨S8x5376, .f32⟩ : BufTy).Contents (Elt F) → (⟨S8x5376, .f32⟩ : BufTy).Contents (Elt F) → (⟨S8x5376, .f32⟩ : BufTy).Contents (Elt F)),
    StableHlo.nullary main_while0b_cst_30 (constant S_ .f32 0x3F19999A#32),
    StableHlo.unary main_while0b_cst_30 main_while0b_v220 (broadcastInDim S8x5376 ![] bcast_S_S8x5376 : (⟨S_, .f32⟩ : BufTy).Contents (Elt F) → (⟨S8x5376, .f32⟩ : BufTy).Contents (Elt F)),
    StableHlo.binary main_while0b_v219 main_while0b_v220 main_while0b_v221 (cmpf .oge : (⟨S8x5376, .f32⟩ : BufTy).Contents (Elt F) → (⟨S8x5376, .f32⟩ : BufTy).Contents (Elt F) → (⟨S8x5376, .i1⟩ : BufTy).Contents (Elt F)),
    StableHlo.unary main_while0b_v163 main_while0b_v222 (broadcastInDim S8x1 ![0] bcast_S8_S8x1_0 : (⟨S8, .i1⟩ : BufTy).Contents (Elt F) → (⟨S8x1, .i1⟩ : BufTy).Contents (Elt F)),
    StableHlo.unary main_while0b_v222 main_while0b_v223 (broadcastInDim S8x5376 ![0, 1] bcast_S8x1_S8x5376_0_1 : (⟨S8x1, .i1⟩ : BufTy).Contents (Elt F) → (⟨S8x5376, .i1⟩ : BufTy).Contents (Elt F)),
    StableHlo.binary main_while0b_v221 main_while0b_v223 main_while0b_v224 (andi : (⟨S8x5376, .i1⟩ : BufTy).Contents (Elt F) → (⟨S8x5376, .i1⟩ : BufTy).Contents (Elt F) → (⟨S8x5376, .i1⟩ : BufTy).Contents (Elt F)),
    StableHlo.nullary main_while0b_cst_31 (constant S_ .f32 0xBF800000#32) ]
theorem body3_onTc : OnTc (body3 : Ops F) :=
  ⟨StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub ..⟩

/-- 4 operations of one trip, a stretch of them in order. -/
abbrev body4 : Ops F :=
  [ StableHlo.TRef.unary (.of main_while0b_cst_31 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S5376, .f32⟩) (broadcastInDim S5376 ![] bcast_S_S5376),
    StableHlo.TRef.unary (.of main_while0b_call4_v1 : StableHlo.TRef sig ⟨S5376, .f32⟩) (.of main_while0b_call4_v2 : StableHlo.TRef sig ⟨S8x5376, .f32⟩) (broadcastInDim S8x5376 ![1] bcast_S5376_S8x5376_1),
    StableHlo.TRef.ternary (.of main_while0b_v224 : StableHlo.TRef sig ⟨S8x5376, .i1⟩) (.of main_while0b_call4_v2 : StableHlo.TRef sig ⟨S8x5376, .f32⟩) (.of main_v158_5 : StableHlo.TRef sig ⟨S8x5376, .f32⟩) (.of main_while0b_v225 : StableHlo.TRef sig ⟨S8x5376, .f32⟩) select ]
theorem body4_onTc : OnTc (body4 : Ops F) :=
  ⟨StableHlo.unary_bufs_sub .., StableHlo.unary_bufs_sub .., StableHlo.unary_bufs_sub .., StableHlo.ternary_bufs_sub ..⟩

/-- 7 operations of one trip, a stretch of them in order. -/
abbrev body5 : Ops F :=
  [ StableHlo.nullary main_while0b_v226 (iotaInDim S5376 32 0),
    StableHlo.unary main_while0b_v226 main_while0b_v227 (broadcastInDim S1x5376 ![1] bcast_S5376_S1x5376_1 : (⟨S5376, .i32⟩ : BufTy).Contents (Elt F) → (⟨S1x5376, .i32⟩ : BufTy).Contents (Elt F)),
    StableHlo.unary main_while0b_v160 main_while0b_v228 (broadcastInDim S8x1 ![0] bcast_S8_S8x1_0 : (⟨S8, .i32⟩ : BufTy).Contents (Elt F) → (⟨S8x1, .i32⟩ : BufTy).Contents (Elt F)),
    StableHlo.unary main_while0b_v227 main_while0b_v229 (broadcastInDim S8x5376 ![0, 1] bcast_S1x5376_S8x5376_0_1 : (⟨S1x5376, .i32⟩ : BufTy).Contents (Elt F) → (⟨S8x5376, .i32⟩ : BufTy).Contents (Elt F)),
    StableHlo.unary main_while0b_v228 main_while0b_v230 (broadcastInDim S8x5376 ![0, 1] bcast_S8x1_S8x5376_0_1 : (⟨S8x1, .i32⟩ : BufTy).Contents (Elt F) → (⟨S8x5376, .i32⟩ : BufTy).Contents (Elt F)),
    StableHlo.binary main_while0b_v229 main_while0b_v230 main_while0b_v231 (cmpi .eq : (⟨S8x5376, .i32⟩ : BufTy).Contents (Elt F) → (⟨S8x5376, .i32⟩ : BufTy).Contents (Elt F) → (⟨S8x5376, .i1⟩ : BufTy).Contents (Elt F)),
    StableHlo.nullary main_while0b_cst_32 (constant S_ .f32 0xBF800000#32) ]
theorem body5_onTc : OnTc (body5 : Ops F) :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub ..⟩

/-- 4 operations of one trip, a stretch of them in order. -/
abbrev body6 : Ops F :=
  [ StableHlo.TRef.unary (.of main_while0b_cst_32 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S5376, .f32⟩) (broadcastInDim S5376 ![] bcast_S_S5376),
    StableHlo.TRef.unary (.of main_while0b_call5_v1 : StableHlo.TRef sig ⟨S5376, .f32⟩) (.of main_while0b_call5_v2 : StableHlo.TRef sig ⟨S8x5376, .f32⟩) (broadcastInDim S8x5376 ![1] bcast_S5376_S8x5376_1),
    StableHlo.TRef.ternary (.of main_while0b_v231 : StableHlo.TRef sig ⟨S8x5376, .i1⟩) (.of main_while0b_call5_v2 : StableHlo.TRef sig ⟨S8x5376, .f32⟩) (.of main_while0b_v225 : StableHlo.TRef sig ⟨S8x5376, .f32⟩) (.of main_while0b_v232 : StableHlo.TRef sig ⟨S8x5376, .f32⟩) select ]
theorem body6_onTc : OnTc (body6 : Ops F) :=
  ⟨StableHlo.unary_bufs_sub .., StableHlo.unary_bufs_sub .., StableHlo.unary_bufs_sub .., StableHlo.ternary_bufs_sub ..⟩

/-- 1 operations of one trip, a stretch of them in order. -/
abbrev body7 : Ops F :=
  [ StableHlo.unary main_while0b_v160 main_while0b_v233 (broadcastInDim S8x1 ![0] bcast_S8_S8x1_0 : (⟨S8, .i32⟩ : BufTy).Contents (Elt F) → (⟨S8x1, .i32⟩ : BufTy).Contents (Elt F)) ]
theorem body7_onTc : OnTc (body7 : Ops F) :=
  StableHlo.unary_bufs_sub ..

/-- 2 operations of one trip, a stretch of them in order. -/
abbrev body8 : Ops F :=
  [ StableHlo.TRef.unary (.of main_while0b_v233 : StableHlo.TRef sig ⟨S8x1, .i32⟩) (.of main_while0b_call6_v0 : StableHlo.TRef sig ⟨S8x1x1, .i32⟩) (broadcastInDim S8x1x1 ![0, 1] bcast_S8x1_S8x1x1_0_1),
    StableHlo.TRef.binary (.of main_v158_2 : StableHlo.TRef sig ⟨S8x5376x4, .f32⟩) (.of main_while0b_call6_v0 : StableHlo.TRef sig ⟨S8x1x1, .i32⟩) (.of main_while0b_v234 : StableHlo.TRef sig ⟨S8x1x4, .f32⟩) (fun x i => Host.gather gather_S8x5376x4_S8x1x1_S8x1x4_2_1_0_0_1_2_114 x i) ]
theorem body8_onTc : OnTc (body8 : Ops F) :=
  ⟨StableHlo.unary_bufs_sub .., StableHlo.binary_bufs_sub ..⟩

/-- 3 operations of one trip, a stretch of them in order. -/
abbrev body9 : Ops F :=
  [ StableHlo.reshape main_while0b_v234 main_while0b_v235 (rfl : (.f32 : EltTy) = .f32) shapeCasts_S8x1x4_S8x4,
    StableHlo.nullary main_while0b_cst_33 (constant S_ .f32 0x00000000#32),
    StableHlo.unary main_while0b_cst_33 main_while0b_v236 (broadcastInDim S4 ![] bcast_S_S4 : (⟨S_, .f32⟩ : BufTy).Contents (Elt F) → (⟨S4, .f32⟩ : BufTy).Contents (Elt F)) ]
theorem body9_onTc : OnTc (body9 : Ops F) :=
  ⟨StableHlo.reshape_bufs_sub .., StableHlo.nullary_bufs_sub .., StableHlo.unary_bufs_sub ..⟩

/-- 3 operations of one trip, a stretch of them in order. -/
abbrev body10 : Ops F :=
  [ StableHlo.TRef.unary (.of main_while0b_v236 : StableHlo.TRef sig ⟨S4, .f32⟩) (.of main_while0b_call7_v0 : StableHlo.TRef sig ⟨S8x4, .f32⟩) (broadcastInDim S8x4 ![1] bcast_S4_S8x4_1),
    StableHlo.TRef.unary (.of main_while0b_v163 : StableHlo.TRef sig ⟨S8, .i1⟩) (.of main_while0b_call7_v1 : StableHlo.TRef sig ⟨S8x4, .i1⟩) (broadcastInDim S8x4 ![0] bcast_S8_S8x4_0),
    StableHlo.TRef.ternary (.of main_while0b_call7_v1 : StableHlo.TRef sig ⟨S8x4, .i1⟩) (.of main_while0b_v235 : StableHlo.TRef sig ⟨S8x4, .f32⟩) (.of main_while0b_call7_v0 : StableHlo.TRef sig ⟨S8x4, .f32⟩) (.of main_while0b_v237 : StableHlo.TRef sig ⟨S8x4, .f32⟩) select ]
theorem body10_onTc : OnTc (body10 : Ops F) :=
  ⟨StableHlo.unary_bufs_sub .., StableHlo.unary_bufs_sub .., StableHlo.ternary_bufs_sub ..⟩

/-- 1 operations of one trip, a stretch of them in order. -/
abbrev body11 : Ops F :=
  [ StableHlo.nullary main_while0b_cst_34 (constant S_ .f32 0x00000000#32) ]
theorem body11_onTc : OnTc (body11 : Ops F) :=
  StableHlo.nullary_bufs_sub ..

/-- 3 operations of one trip, a stretch of them in order. -/
abbrev body12 : Ops F :=
  [ StableHlo.TRef.unary (.of main_while0b_cst_34 : StableHlo.TRef sig ⟨S_, .f32⟩) (.of main_while0b_call8_v0 : StableHlo.TRef sig ⟨S_, .f32⟩) id,
    StableHlo.TRef.unary (.of main_while0b_call8_v0 : StableHlo.TRef sig ⟨S_, .f32⟩) (.of main_while0b_call8_v1 : StableHlo.TRef sig ⟨S8, .f32⟩) (broadcastInDim S8 ![] bcast_S_S8),
    StableHlo.TRef.ternary (.of main_while0b_v163 : StableHlo.TRef sig ⟨S8, .i1⟩) (.of main_while0b_v161 : StableHlo.TRef sig ⟨S8, .f32⟩) (.of main_while0b_call8_v1 : StableHlo.TRef sig ⟨S8, .f32⟩) (.of main_while0b_v238 : StableHlo.TRef sig ⟨S8, .f32⟩) select ]
theorem body12_onTc : OnTc (body12 : Ops F) :=
  ⟨StableHlo.unary_bufs_sub .., StableHlo.unary_bufs_sub .., StableHlo.ternary_bufs_sub ..⟩

/-- 2 operations of one trip, a stretch of them in order. -/
abbrev body13 : Ops F :=
  [ StableHlo.unary main_while0b_v238 main_while0b_v239 (broadcastInDim S8x1 ![0] bcast_S8_S8x1_0 : (⟨S8, .f32⟩ : BufTy).Contents (Elt F) → (⟨S8x1, .f32⟩ : BufTy).Contents (Elt F)),
    StableHlo.unary main_while0b_v160 main_while0b_v240 (broadcastInDim S8x1 ![0] bcast_S8_S8x1_0 : (⟨S8, .i32⟩ : BufTy).Contents (Elt F) → (⟨S8x1, .i32⟩ : BufTy).Contents (Elt F)) ]
theorem body13_onTc : OnTc (body13 : Ops F) :=
  ⟨StableHlo.unary_bufs_sub .., StableHlo.unary_bufs_sub ..⟩

/-- 2 operations of one trip, a stretch of them in order. -/
abbrev body14 : Ops F :=
  [ StableHlo.TRef.unary (.of main_while0b_v240 : StableHlo.TRef sig ⟨S8x1, .i32⟩) (.of main_while0b_call9_v0 : StableHlo.TRef sig ⟨S8x1x1, .i32⟩) (broadcastInDim S8x1x1 ![0, 1] bcast_S8x1_S8x1x1_0_1),
    StableHlo.TRef.binary (.of main_v158_3 : StableHlo.TRef sig ⟨S8x5376, .i32⟩) (.of main_while0b_call9_v0 : StableHlo.TRef sig ⟨S8x1x1, .i32⟩) (.of main_while0b_v241 : StableHlo.TRef sig ⟨S8x1, .i32⟩) (fun x i => Host.gather gather_S8x5376_S8x1x1_S8x1_n_1_0_0_1_2_11 x i) ]
theorem body14_onTc : OnTc (body14 : Ops F) :=
  ⟨StableHlo.unary_bufs_sub .., StableHlo.binary_bufs_sub ..⟩

/-- 3 operations of one trip, a stretch of them in order. -/
abbrev body15 : Ops F :=
  [ StableHlo.reshape main_while0b_v241 main_while0b_v242 (rfl : (.i32 : EltTy) = .i32) shapeCasts_S8x1_S8,
    StableHlo.unary main_while0b_v242 main_while0b_v243 (sitofp .f32 : (⟨S8, .i32⟩ : BufTy).Contents (Elt F) → (⟨S8, .f32⟩ : BufTy).Contents (Elt F)),
    StableHlo.nullary main_while0b_cst_35 (constant S_ .f32 0xBF800000#32) ]
theorem body15_onTc : OnTc (body15 : Ops F) :=
  ⟨StableHlo.reshape_bufs_sub .., StableHlo.unary_bufs_sub .., StableHlo.nullary_bufs_sub ..⟩

/-- 3 operations of one trip, a stretch of them in order. -/
abbrev body16 : Ops F :=
  [ StableHlo.TRef.unary (.of main_while0b_cst_35 : StableHlo.TRef sig ⟨S_, .f32⟩) (.of main_while0b_call10_v0 : StableHlo.TRef sig ⟨S_, .f32⟩) id,
    StableHlo.TRef.unary (.of main_while0b_call10_v0 : StableHlo.TRef sig ⟨S_, .f32⟩) (.of main_while0b_call10_v1 : StableHlo.TRef sig ⟨S8, .f32⟩) (broadcastInDim S8 ![] bcast_S_S8),
    StableHlo.TRef.ternary (.of main_while0b_v163 : StableHlo.TRef sig ⟨S8, .i1⟩) (.of main_while0b_v243 : StableHlo.TRef sig ⟨S8, .f32⟩) (.of main_while0b_call10_v1 : StableHlo.TRef sig ⟨S8, .f32⟩) (.of main_while0b_v244 : StableHlo.TRef sig ⟨S8, .f32⟩) select ]
theorem body16_onTc : OnTc (body16 : Ops F) :=
  ⟨StableHlo.unary_bufs_sub .., StableHlo.unary_bufs_sub .., StableHlo.ternary_bufs_sub ..⟩

/-- 2 operations of one trip, a stretch of them in order. -/
abbrev body17 : Ops F :=
  [ StableHlo.unary main_while0b_v244 main_while0b_v245 (broadcastInDim S8x1 ![0] bcast_S8_S8x1_0 : (⟨S8, .f32⟩ : BufTy).Contents (Elt F) → (⟨S8x1, .f32⟩ : BufTy).Contents (Elt F)),
    StableHlo.nary ![main_while0b_v237, main_while0b_v239, main_while0b_v245] main_while0b_v246 (fun u => (concatenate S8x6 1 [⟨S8x4, (u 0 : (⟨S8x4, .f32⟩ : BufTy).Contents (Elt F))⟩, ⟨S8x1, (u 1 : (⟨S8x1, .f32⟩ : BufTy).Contents (Elt F))⟩, ⟨S8x1, (u 2 : (⟨S8x1, .f32⟩ : BufTy).Contents (Elt F))⟩] concatenates_S8x4_S8x1_S8x1_S8x6_d1 : (⟨S8x6, .f32⟩ : BufTy).Contents (Elt F))) ]
theorem body17_onTc : OnTc (body17 : Ops F) :=
  ⟨StableHlo.unary_bufs_sub .., StableHlo.nary_bufs_sub ..⟩

/-- 4 operations of one trip, a stretch of them in order. -/
abbrev body18 : Ops F :=
  [ StableHlo.TRef.unary (.of main_while0b_v246 : StableHlo.TRef sig ⟨S8x6, .f32⟩) (.of main_while0b_call11_v0 : StableHlo.TRef sig ⟨S1x8x6, .f32⟩) (broadcastInDim S1x8x6 ![1, 2] bcast_S8x6_S1x8x6_1_2),
    StableHlo.TRef.nullary (.of main_while0b_call11_c : StableHlo.TRef sig ⟨S_, .i32⟩) (constantI S_ 32 0#32),
    StableHlo.TRef.nullary (.of main_while0b_call11_c_0 : StableHlo.TRef sig ⟨S_, .i32⟩) (constantI S_ 32 0#32),
    StableHlo.TRef.binaryIndexed (.of main_v158_6 : StableHlo.TRef sig ⟨S100x8x6, .f32⟩) (.of main_while0b_call11_v0 : StableHlo.TRef sig ⟨S1x8x6, .f32⟩) ![(.of main_v158_4 : StableHlo.TRef sig ⟨S_, .i32⟩), (.of main_while0b_call11_c : StableHlo.TRef sig ⟨S_, .i32⟩), (.of main_while0b_call11_c_0 : StableHlo.TRef sig ⟨S_, .i32⟩)] (.of main_while0b_v247 : StableHlo.TRef sig ⟨S100x8x6, .f32⟩) (fun x u i => Host.dynamicUpdateSlice x u (fun k => (i k (Shape.Idx.first h_S_)).toInt) updateFits_S100x8x6_S1x8x6) ]
theorem body18_onTc : OnTc (body18 : Ops F) :=
  ⟨StableHlo.unary_bufs_sub .., StableHlo.nullary_bufs_sub .., StableHlo.nullary_bufs_sub .., StableHlo.binaryIndexed_bufs_sub ..⟩

/-- 5 operations of one trip, a stretch of them in order. -/
abbrev body19 : Ops F :=
  [ StableHlo.nullary main_while0b_c_36 (constantI S_ 32 1#32),
    StableHlo.binary main_v158_4 main_while0b_c_36 main_while0b_v248 (addi : (⟨S_, .i32⟩ : BufTy).Contents (Elt F) → (⟨S_, .i32⟩ : BufTy).Contents (Elt F) → (⟨S_, .i32⟩ : BufTy).Contents (Elt F)),
    StableHlo.unary main_while0b_v248 main_v158_4 id,
    StableHlo.unary main_while0b_v232 main_v158_5 id,
    StableHlo.unary main_while0b_v247 main_v158_6 id ]
theorem body19_onTc : OnTc (body19 : Ops F) :=
  ⟨StableHlo.nullary_bufs_sub .., StableHlo.binary_bufs_sub .., StableHlo.unary_bufs_sub .., StableHlo.unary_bufs_sub .., StableHlo.unary_bufs_sub ..⟩

/-- What the chains below are chains of. -/
abbrev Pr (F : FTy → Type) [FloatOps F] := Prog (TpuEff nD τ sig (Elt F) (HostLoop.Sig (Pipeline.Sig Λ₀ (Fin 0) fun p => (pcfgs (F := F) p).Adm) 1) .tc) PUnit

/-- The first window of the program is the stretch `pre0`, whatever follows it. -/
theorem part0_eq (c : Dev nD) : main_part0 (F := F) c = (Pipeline.chainK [] (StableHlo.seq pre0) : Pr F) := by
  chain_rfl

/-- The second is `pre1`. -/
theorem part1_eq (c : Dev nD) : main_part1 (F := F) c = (Pipeline.chainK [] (StableHlo.seq pre1) : Pr F) := by
  chain_rfl

/-- The third is `pre2` … `pre6`. -/
theorem part2_eq (c : Dev nD) : main_part2 (F := F) c
    = (Pipeline.chainK [StableHlo.seq pre2, StableHlo.seq pre3, StableHlo.seq pre4, StableHlo.seq pre5] (StableHlo.seq pre6) : Pr F) := by
  rewrite [StableHlo.chainK_seq_cons, Pipeline.chainK_cons, StableHlo.chainK_seq_cons, Pipeline.chainK_cons]
  chain_rfl

/-- The last is `pre7`, the loop, and `post0`. -/
theorem part3_eq (c : Dev nD) : main_part3 (F := F) c
    = (Pipeline.chain [StableHlo.seq pre7, HostLoop.enter 0, StableHlo.seq post0] : Pr F) := by
  rewrite [StableHlo.chain_seq_cons, Pipeline.chain_cons, StableHlo.chain_seq_cons]
  chain_rfl

/-- The program is its stretches before the loop, the loop, and the stretch after it. -/
theorem main_eq (c : Dev nD) : main (F := F) c = (Pipeline.chain
    [StableHlo.seq pre0, StableHlo.seq pre1, StableHlo.seq pre2, StableHlo.seq pre3, StableHlo.seq pre4, StableHlo.seq pre5,
     StableHlo.seq pre6, StableHlo.seq pre7, HostLoop.enter 0, StableHlo.seq post0] : Pr F) := by
  show (main_part0 (F := F) c >>= fun _ => main_part1 (F := F) c >>= fun _ => main_part2 (F := F) c >>= fun _ => main_part3 (F := F) c) = _
  rewrite [part3_eq, part2_eq, Pipeline.chainK_bind_chain, part1_eq, Pipeline.chainK_bind_chain, part0_eq, Pipeline.chainK_bind_chain]
  chain_rfl

/-- One trip of the loop is its stretches. -/
theorem body_eq : main_while0_body (F := F) = (Pipeline.chain
    [StableHlo.seq body0, StableHlo.seq body1, StableHlo.seq body2, StableHlo.seq body3, StableHlo.seq body4, StableHlo.seq body5, StableHlo.seq body6, StableHlo.seq body7, StableHlo.seq body8, StableHlo.seq body9, StableHlo.seq body10, StableHlo.seq body11, StableHlo.seq body12, StableHlo.seq body13, StableHlo.seq body14, StableHlo.seq body15, StableHlo.seq body16, StableHlo.seq body17, StableHlo.seq body18, StableHlo.seq body19] : Pr F) := by
  rewrite [Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.RefRun

end
-- ==== Proof.RefRun.lean ====
/- The reference's run: from any memory it ends with every buffer at the fold of its operations, the loop's body folded a hundred times. -/
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4000

noncomputable section

namespace Cert.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (ucRefs sub_ucRefs)
open Idealize.ShloMosaic.StableHlo

variable {F : FTy → Type} [FloatOps F]

/-- No operation of `pre0` allocates. -/
theorem pre0_noAlloc : (pre0 : Ops F).Forall fun op => op.fresh = ∅ := StableHlo.forall_fresh_of_map rfl
/-- No operation of `pre1` allocates. -/
theorem pre1_noAlloc : (pre1 : Ops F).Forall fun op => op.fresh = ∅ := StableHlo.forall_fresh_of_map rfl
/-- No operation of `pre2` allocates. -/
theorem pre2_noAlloc : (pre2 : Ops F).Forall fun op => op.fresh = ∅ := StableHlo.forall_fresh_of_map rfl
/-- No operation of `pre3` allocates. -/
theorem pre3_noAlloc : (pre3 : Ops F).Forall fun op => op.fresh = ∅ := StableHlo.forall_fresh_of_map rfl
/-- No operation of `pre4` allocates. -/
theorem pre4_noAlloc : (pre4 : Ops F).Forall fun op => op.fresh = ∅ := StableHlo.forall_fresh_of_map rfl
/-- No operation of `pre5` allocates. -/
theorem pre5_noAlloc : (pre5 : Ops F).Forall fun op => op.fresh = ∅ := StableHlo.forall_fresh_of_map rfl
/-- No operation of `pre6` allocates. -/
theorem pre6_noAlloc : (pre6 : Ops F).Forall fun op => op.fresh = ∅ := StableHlo.forall_fresh_of_map rfl
/-- No operation of `pre7` allocates. -/
theorem pre7_noAlloc : (pre7 : Ops F).Forall fun op => op.fresh = ∅ := StableHlo.forall_fresh_of_map rfl
/-- No operation of `post0` allocates. -/
theorem post0_noAlloc : (post0 : Ops F).Forall fun op => op.fresh = ∅ := StableHlo.forall_fresh_of_map rfl
/-- No operation of `body0` allocates. -/
theorem body0_noAlloc : (body0 : Ops F).Forall fun op => op.fresh = ∅ := StableHlo.forall_fresh_of_map rfl
/-- No operation of `body1` allocates. -/
theorem body1_noAlloc : (body1 : Ops F).Forall fun op => op.fresh = ∅ := StableHlo.forall_fresh_of_map rfl
/-- No operation of `body2` allocates. -/
theorem body2_noAlloc : (body2 : Ops F).Forall fun op => op.fresh = ∅ := StableHlo.forall_fresh_of_map rfl
/-- No operation of `body3` allocates. -/
theorem body3_noAlloc : (body3 : Ops F).Forall fun op => op.fresh = ∅ := StableHlo.forall_fresh_of_map rfl
/-- No operation of `body4` allocates. -/
theorem body4_noAlloc : (body4 : Ops F).Forall fun op => op.fresh = ∅ := StableHlo.forall_fresh_of_map rfl
/-- No operation of `body5` allocates. -/
theorem body5_noAlloc : (body5 : Ops F).Forall fun op => op.fresh = ∅ := StableHlo.forall_fresh_of_map rfl
/-- No operation of `body6` allocates. -/
theorem body6_noAlloc : (body6 : Ops F).Forall fun op => op.fresh = ∅ := StableHlo.forall_fresh_of_map rfl
/-- No operation of `body7` allocates. -/
theorem body7_noAlloc : (body7 : Ops F).Forall fun op => op.fresh = ∅ := StableHlo.forall_fresh_of_map rfl
/-- No operation of `body8` allocates. -/
theorem body8_noAlloc : (body8 : Ops F).Forall fun op => op.fresh = ∅ := StableHlo.forall_fresh_of_map rfl
/-- No operation of `body9` allocates. -/
theorem body9_noAlloc : (body9 : Ops F).Forall fun op => op.fresh = ∅ := StableHlo.forall_fresh_of_map rfl
/-- No operation of `body10` allocates. -/
theorem body10_noAlloc : (body10 : Ops F).Forall fun op => op.fresh = ∅ := StableHlo.forall_fresh_of_map rfl
/-- No operation of `body11` allocates. -/
theorem body11_noAlloc : (body11 : Ops F).Forall fun op => op.fresh = ∅ := StableHlo.forall_fresh_of_map rfl
/-- No operation of `body12` allocates. -/
theorem body12_noAlloc : (body12 : Ops F).Forall fun op => op.fresh = ∅ := StableHlo.forall_fresh_of_map rfl
/-- No operation of `body13` allocates. -/
theorem body13_noAlloc : (body13 : Ops F).Forall fun op => op.fresh = ∅ := StableHlo.forall_fresh_of_map rfl
/-- No operation of `body14` allocates. -/
theorem body14_noAlloc : (body14 : Ops F).Forall fun op => op.fresh = ∅ := StableHlo.forall_fresh_of_map rfl
/-- No operation of `body15` allocates. -/
theorem body15_noAlloc : (body15 : Ops F).Forall fun op => op.fresh = ∅ := StableHlo.forall_fresh_of_map rfl
/-- No operation of `body16` allocates. -/
theorem body16_noAlloc : (body16 : Ops F).Forall fun op => op.fresh = ∅ := StableHlo.forall_fresh_of_map rfl
/-- No operation of `body17` allocates. -/
theorem body17_noAlloc : (body17 : Ops F).Forall fun op => op.fresh = ∅ := StableHlo.forall_fresh_of_map rfl
/-- No operation of `body18` allocates. -/
theorem body18_noAlloc : (body18 : Ops F).Forall fun op => op.fresh = ∅ := StableHlo.forall_fresh_of_map rfl
/-- No operation of `body19` allocates. -/
theorem body19_noAlloc : (body19 : Ops F).Forall fun op => op.fresh = ∅ := StableHlo.forall_fresh_of_map rfl

/-- The condition's operations. -/
abbrev condOps : Ops F :=
  [ StableHlo.nullary main_while0c_c_25 (constantI S_ 32 100#32),
    StableHlo.binary main_v158_4 main_while0c_c_25 main_while0c_v160 (cmpi .slt) ]

/-- The stretches before the loop. -/
abbrev preI : List (Ops F) := [pre0, pre1, pre2, pre3, pre4, pre5, pre6, pre7]
/-- The stretches of a trip. -/
abbrev bodyI : List (Ops F) := [body0, body1, body2, body3, body4, body5, body6, body7, body8, body9, body10, body11, body12, body13, body14, body15, body16, body17, body18, body19]
/-- The stretch after the loop. -/
abbrev postI : List (Ops F) := [post0]

theorem hpre : Plain (preI (F := F)) := .cons pre0_onTc (hf := List.forall_iff_forall_mem.mp pre0_noAlloc) (.cons pre1_onTc (hf := List.forall_iff_forall_mem.mp pre1_noAlloc) (.cons pre2_onTc (hf := List.forall_iff_forall_mem.mp pre2_noAlloc) (.cons pre3_onTc (hf := List.forall_iff_forall_mem.mp pre3_noAlloc) (.cons pre4_onTc (hf := List.forall_iff_forall_mem.mp pre4_noAlloc) (.cons pre5_onTc (hf := List.forall_iff_forall_mem.mp pre5_noAlloc) (.cons pre6_onTc (hf := List.forall_iff_forall_mem.mp pre6_noAlloc) (.cons pre7_onTc (hf := List.forall_iff_forall_mem.mp pre7_noAlloc) (.nil))))))))
theorem hbody : Plain (bodyI (F := F)) := .cons body0_onTc (hf := List.forall_iff_forall_mem.mp body0_noAlloc) (.cons body1_onTc (hf := List.forall_iff_forall_mem.mp body1_noAlloc) (.cons body2_onTc (hf := List.forall_iff_forall_mem.mp body2_noAlloc) (.cons body3_onTc (hf := List.forall_iff_forall_mem.mp body3_noAlloc) (.cons body4_onTc (hf := List.forall_iff_forall_mem.mp body4_noAlloc) (.cons body5_onTc (hf := List.forall_iff_forall_mem.mp body5_noAlloc) (.cons body6_onTc (hf := List.forall_iff_forall_mem.mp body6_noAlloc) (.cons body7_onTc (hf := List.forall_iff_forall_mem.mp body7_noAlloc) (.cons body8_onTc (hf := List.forall_iff_forall_mem.mp body8_noAlloc) (.cons body9_onTc (hf := List.forall_iff_forall_mem.mp body9_noAlloc) (.cons body10_onTc (hf := List.forall_iff_forall_mem.mp body10_noAlloc) (.cons body11_onTc (hf := List.forall_iff_forall_mem.mp body11_noAlloc) (.cons body12_onTc (hf := List.forall_iff_forall_mem.mp body12_noAlloc) (.cons body13_onTc (hf := List.forall_iff_forall_mem.mp body13_noAlloc) (.cons body14_onTc (hf := List.forall_iff_forall_mem.mp body14_noAlloc) (.cons body15_onTc (hf := List.forall_iff_forall_mem.mp body15_noAlloc) (.cons body16_onTc (hf := List.forall_iff_forall_mem.mp body16_noAlloc) (.cons body17_onTc (hf := List.forall_iff_forall_mem.mp body17_noAlloc) (.cons body18_onTc (hf := List.forall_iff_forall_mem.mp body18_noAlloc) (.cons body19_onTc (hf := List.forall_iff_forall_mem.mp body19_noAlloc) (.nil))))))))))))))))))))
theorem hpost : Plain (postI (F := F)) := .cons post0_onTc (hf := List.forall_iff_forall_mem.mp post0_noAlloc) (.nil)

/-- What `pre0` writes, in order. -/
abbrev pre0W : List (Ref sig .tc) := [main_v0, main_v1, main_v2, main_v3, main_v4, main_v5, main_cst, main_v6, main_v7, main_v8, main_v9, main_v10, main_v11, main_v12, main_v13, main_v14, main_v15, main_v16, main_v17, main_v18, main_v19, main_v20, main_v21, main_cst_0, main_v22, main_v23, main_v24, main_v25, main_v26, main_v27, main_cst_1, main_v28, main_v29, main_cst_2, main_v30, main_v31, main_v32, main_v33, main_v34, main_cst_3, main_v35, main_v36, main_v37, main_v38, main_v39, main_v40, main_v41, main_v42, main_v43, main_v44, main_v45, main_v46, main_cst_4, main_v47, main_v48, main_v49, main_v50, main_v51, main_v52, main_v53]
theorem pre0_writes : (pre0 : Ops F).map HloOp.writes = pre0W.map fun r => {Proc.devRef (τ := τ) .tc r} := rfl
/-- What `pre1` writes, in order. -/
abbrev pre1W : List (Ref sig .tc) := [main_v54, main_v55, main_v56, main_v57, main_v58, main_v59, main_v60, main_v61, main_v62, main_cst_5, main_v63, main_v64, main_v65, main_v66, main_v67, main_v68, main_cst_6, main_v69, main_v70, main_cst_7, main_v71, main_v72, main_v73, main_v74, main_v75, main_cst_8, main_v76, main_v77, main_v78, main_v79, main_v80, main_v81, main_v82, main_v83, main_v84, main_v85, main_v86, main_v87, main_cst_9, main_v88, main_v89, main_v90, main_v91, main_v92, main_v93, main_v94, main_v95, main_v96, main_v97, main_v98, main_v99, main_v100, main_v101, main_v102, main_v103, main_cst_10, main_v104, main_v105, main_v106, main_v107]
theorem pre1_writes : (pre1 : Ops F).map HloOp.writes = pre1W.map fun r => {Proc.devRef (τ := τ) .tc r} := rfl
/-- What `pre2` writes, in order. -/
abbrev pre2W : List (Ref sig .tc) := [main_v108, main_v109, main_cst_11, main_v110, main_v111, main_cst_12, main_v112, main_v113, main_v114, main_v115, main_v116, main_cst_13, main_v117, main_v118, main_v119, main_v120, main_v121, main_v122, main_v123, main_v124, main_v125, main_cst_14, main_v126, main_v127, main_v128, main_v129, main_v130, main_v131, main_v132, main_v133, main_v134, main_v135]
theorem pre2_writes : (pre2 : Ops F).map HloOp.writes = pre2W.map fun r => {Proc.devRef (τ := τ) .tc r} := rfl
/-- What `pre3` writes, in order. -/
abbrev pre3W : List (Ref sig .tc) := [main_call0_v0, main_call0_cst, main_call0_c, main_call0_v1_0, main_v136]
theorem pre3_writes : (pre3 : Ops F).map HloOp.writes = pre3W.map fun r => {Proc.devRef (τ := τ) .tc r} := rfl
/-- What `pre4` writes, in order. -/
abbrev pre4W : List (Ref sig .tc) := [main_cst_15, main_v137, main_v138, main_cst_16]
theorem pre4_writes : (pre4 : Ops F).map HloOp.writes = pre4W.map fun r => {Proc.devRef (τ := τ) .tc r} := rfl
/-- What `pre5` writes, in order. -/
abbrev pre5W : List (Ref sig .tc) := [main_call1_v0, main_call1_v1, main_call1_v2, main_v139]
theorem pre5_writes : (pre5 : Ops F).map HloOp.writes = pre5W.map fun r => {Proc.devRef (τ := τ) .tc r} := rfl
/-- What `pre6` writes, in order. -/
abbrev pre6W : List (Ref sig .tc) := [main_v140, main_v141, main_cst_17, main_v142, main_v143, main_v144, main_v145, main_v146, main_v147, main_v148, main_v149, main_v150, main_v151, main_v152, main_v153, main_v154, main_v155, main_v156, main_cst_18, main_v157, main_c, main_v158_0]
theorem pre6_writes : (pre6 : Ops F).map HloOp.writes = pre6W.map fun r => {Proc.devRef (τ := τ) .tc r} := rfl
/-- What `pre7` writes, in order. -/
abbrev pre7W : List (Ref sig .tc) := [main_v158_1, main_v158_2, main_v158_3, main_v158_4, main_v158_5, main_v158_6]
theorem pre7_writes : (pre7 : Ops F).map HloOp.writes = pre7W.map fun r => {Proc.devRef (τ := τ) .tc r} := rfl
/-- What `post0` writes, in order. -/
abbrev post0W : List (Ref sig .tc) := [main_v159]
theorem post0_writes : (post0 : Ops F).map HloOp.writes = post0W.map fun r => {Proc.devRef (τ := τ) .tc r} := rfl
/-- What `body0` writes, in order. -/
abbrev body0W : List (Ref sig .tc) := [main_while0b_call2_v0, main_while0b_call2_cst, main_while0b_call2_c, main_while0b_call2_v1_0, main_while0b_v160]
theorem body0_writes : (body0 : Ops F).map HloOp.writes = body0W.map fun r => {Proc.devRef (τ := τ) .tc r} := rfl
/-- What `body1` writes, in order. -/
abbrev body1W : List (Ref sig .tc) := [main_while0b_cst_25, main_while0b_v161, main_while0b_cst_26, main_while0b_v162, main_while0b_v163, main_while0b_v164]
theorem body1_writes : (body1 : Ops F).map HloOp.writes = body1W.map fun r => {Proc.devRef (τ := τ) .tc r} := rfl
/-- What `body2` writes, in order. -/
abbrev body2W : List (Ref sig .tc) := [main_while0b_call3_v0, main_while0b_v165]
theorem body2_writes : (body2 : Ops F).map HloOp.writes = body2W.map fun r => {Proc.devRef (τ := τ) .tc r} := rfl
/-- What `body3` writes, in order. -/
abbrev body3W : List (Ref sig .tc) := [main_while0b_v166, main_while0b_v167, main_while0b_v168, main_while0b_v169, main_while0b_v170, main_while0b_v171, main_while0b_v172, main_while0b_v173, main_while0b_v174, main_while0b_v175, main_while0b_v176, main_while0b_v177, main_while0b_v178, main_while0b_v179, main_while0b_v180, main_while0b_v181, main_while0b_v182, main_while0b_v183, main_while0b_v184, main_while0b_v185, main_while0b_v186, main_while0b_v187, main_while0b_v188, main_while0b_v189, main_while0b_v190, main_while0b_v191, main_while0b_v192, main_while0b_v193, main_while0b_v194, main_while0b_v195, main_while0b_cst_27, main_while0b_v196, main_while0b_v197, main_while0b_v198, main_while0b_cst_28, main_while0b_v199, main_while0b_v200, main_while0b_v201, main_while0b_v202, main_while0b_v203, main_while0b_v204, main_while0b_v205, main_while0b_v206, main_while0b_v207, main_while0b_v208, main_while0b_v209, main_while0b_v210, main_while0b_v211, main_while0b_v212, main_while0b_v213, main_while0b_v214, main_while0b_v215, main_while0b_v216, main_while0b_cst_29, main_while0b_v217, main_while0b_v218, main_while0b_v219, main_while0b_cst_30, main_while0b_v220, main_while0b_v221, main_while0b_v222, main_while0b_v223, main_while0b_v224, main_while0b_cst_31]
theorem body3_writes : (body3 : Ops F).map HloOp.writes = body3W.map fun r => {Proc.devRef (τ := τ) .tc r} := rfl
/-- What `body4` writes, in order. -/
abbrev body4W : List (Ref sig .tc) := [main_while0b_call4_v0, main_while0b_call4_v1, main_while0b_call4_v2, main_while0b_v225]
theorem body4_writes : (body4 : Ops F).map HloOp.writes = body4W.map fun r => {Proc.devRef (τ := τ) .tc r} := rfl
/-- What `body5` writes, in order. -/
abbrev body5W : List (Ref sig .tc) := [main_while0b_v226, main_while0b_v227, main_while0b_v228, main_while0b_v229, main_while0b_v230, main_while0b_v231, main_while0b_cst_32]
theorem body5_writes : (body5 : Ops F).map HloOp.writes = body5W.map fun r => {Proc.devRef (τ := τ) .tc r} := rfl
/-- What `body6` writes, in order. -/
abbrev body6W : List (Ref sig .tc) := [main_while0b_call5_v0, main_while0b_call5_v1, main_while0b_call5_v2, main_while0b_v232]
theorem body6_writes : (body6 : Ops F).map HloOp.writes = body6W.map fun r => {Proc.devRef (τ := τ) .tc r} := rfl
/-- What `body7` writes, in order. -/
abbrev body7W : List (Ref sig .tc) := [main_while0b_v233]
theorem body7_writes : (body7 : Ops F).map HloOp.writes = body7W.map fun r => {Proc.devRef (τ := τ) .tc r} := rfl
/-- What `body8` writes, in order. -/
abbrev body8W : List (Ref sig .tc) := [main_while0b_call6_v0, main_while0b_v234]
theorem body8_writes : (body8 : Ops F).map HloOp.writes = body8W.map fun r => {Proc.devRef (τ := τ) .tc r} := rfl
/-- What `body9` writes, in order. -/
abbrev body9W : List (Ref sig .tc) := [main_while0b_v235, main_while0b_cst_33, main_while0b_v236]
theorem body9_writes : (body9 : Ops F).map HloOp.writes = body9W.map fun r => {Proc.devRef (τ := τ) .tc r} := rfl
/-- What `body10` writes, in order. -/
abbrev body10W : List (Ref sig .tc) := [main_while0b_call7_v0, main_while0b_call7_v1, main_while0b_v237]
theorem body10_writes : (body10 : Ops F).map HloOp.writes = body10W.map fun r => {Proc.devRef (τ := τ) .tc r} := rfl
/-- What `body11` writes, in order. -/
abbrev body11W : List (Ref sig .tc) := [main_while0b_cst_34]
theorem body11_writes : (body11 : Ops F).map HloOp.writes = body11W.map fun r => {Proc.devRef (τ := τ) .tc r} := rfl
/-- What `body12` writes, in order. -/
abbrev body12W : List (Ref sig .tc) := [main_while0b_call8_v0, main_while0b_call8_v1, main_while0b_v238]
theorem body12_writes : (body12 : Ops F).map HloOp.writes = body12W.map fun r => {Proc.devRef (τ := τ) .tc r} := rfl
/-- What `body13` writes, in order. -/
abbrev body13W : List (Ref sig .tc) := [main_while0b_v239, main_while0b_v240]
theorem body13_writes : (body13 : Ops F).map HloOp.writes = body13W.map fun r => {Proc.devRef (τ := τ) .tc r} := rfl
/-- What `body14` writes, in order. -/
abbrev body14W : List (Ref sig .tc) := [main_while0b_call9_v0, main_while0b_v241]
theorem body14_writes : (body14 : Ops F).map HloOp.writes = body14W.map fun r => {Proc.devRef (τ := τ) .tc r} := rfl
/-- What `body15` writes, in order. -/
abbrev body15W : List (Ref sig .tc) := [main_while0b_v242, main_while0b_v243, main_while0b_cst_35]
theorem body15_writes : (body15 : Ops F).map HloOp.writes = body15W.map fun r => {Proc.devRef (τ := τ) .tc r} := rfl
/-- What `body16` writes, in order. -/
abbrev body16W : List (Ref sig .tc) := [main_while0b_call10_v0, main_while0b_call10_v1, main_while0b_v244]
theorem body16_writes : (body16 : Ops F).map HloOp.writes = body16W.map fun r => {Proc.devRef (τ := τ) .tc r} := rfl
/-- What `body17` writes, in order. -/
abbrev body17W : List (Ref sig .tc) := [main_while0b_v245, main_while0b_v246]
theorem body17_writes : (body17 : Ops F).map HloOp.writes = body17W.map fun r => {Proc.devRef (τ := τ) .tc r} := rfl
/-- What `body18` writes, in order. -/
abbrev body18W : List (Ref sig .tc) := [main_while0b_call11_v0, main_while0b_call11_c, main_while0b_call11_c_0, main_while0b_v247]
theorem body18_writes : (body18 : Ops F).map HloOp.writes = body18W.map fun r => {Proc.devRef (τ := τ) .tc r} := rfl
/-- What `body19` writes, in order. -/
abbrev body19W : List (Ref sig .tc) := [main_while0b_c_36, main_while0b_v248, main_v158_4, main_v158_5, main_v158_6]
theorem body19_writes : (body19 : Ops F).map HloOp.writes = body19W.map fun r => {Proc.devRef (τ := τ) .tc r} := rfl

/-- The operations of a trip before its last stretch, as one list. -/
def early : Ops F := body0 ++ body1 ++ body2 ++ body3 ++ body4 ++ body5 ++ body6 ++ body7 ++ body8 ++ body9 ++ body10 ++ body11 ++ body12 ++ body13 ++ body14 ++ body15 ++ body16 ++ body17 ++ body18
/-- What they write. -/
def earlyW : List (Ref sig .tc) := body0W ++ body1W ++ body2W ++ body3W ++ body4W ++ body5W ++ body6W ++ body7W ++ body8W ++ body9W ++ body10W ++ body11W ++ body12W ++ body13W ++ body14W ++ body15W ++ body16W ++ body17W ++ body18W
theorem early_writes : (early : Ops F).map HloOp.writes = earlyW.map fun r => {Proc.devRef (τ := τ) .tc r} := by
  simp only [early, earlyW, List.map_append, body0_writes, body1_writes, body2_writes, body3_writes, body4_writes, body5_writes, body6_writes, body7_writes, body8_writes, body9_writes, body10_writes, body11_writes, body12_writes, body13_writes, body14_writes, body15_writes, body16_writes, body17_writes, body18_writes]
/-- What the condition writes. -/
abbrev condW : List (Ref sig .tc) := [main_while0c_c_25, main_while0c_v160]
theorem cond_writes : (condOps : Ops F).map HloOp.writes = condW.map fun r => {Proc.devRef (τ := τ) .tc r} := rfl

/-- A reference a stretch does not write keeps its contents. -/
theorem keep {ops : Ops F} {W : List (Ref sig .tc)} (h : ops.map HloOp.writes = W.map fun r => {Proc.devRef (τ := τ) .tc r})
    (V : Valuation τ sig (Elt F)) (r : Ref sig .tc) (hr : r ∉ W) : after ops V (Proc.devRef .tc r) = V (Proc.devRef .tc r) :=
  after_of_writes_sub ops V (forall_writes_sub_of_map h) hr

/-- A trip is its early operations, then its last stretch. -/
theorem body_after (V : Valuation τ sig (Elt F)) : afterL bodyI V = after body19 (after early V) := by
  simp only [bodyI, early, afterL_cons, afterL_nil, after_append]

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The last stretch of a trip leaves the counter one on. -/
theorem ctr_last (X : Valuation τ sig (Elt F)) :
    after body19 X (Proc.devRef .tc main_v158_4) = addi (X (Proc.devRef .tc main_v158_4)) (constantI S_ 32 1#32) := by
  after_results
  rfl

/-- The counter starts at zero. -/
theorem ctr_entry (c : Dev nD) : entryContents preI m c (Proc.devRef .tc main_v158_4) = fun _ => (0#32 : BitVec 32) := by
  simp only [entryContents, afterL_cons, afterL_nil]
  after_reads_simp
  rfl

/-- Before the `k`-th condition the counter is `k`. -/
theorem atK_ctr (c : Dev nD) : ∀ k, atK m k c (Proc.devRef .tc main_v158_4) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, body_after, ctr_last,
      keep early_writes _ _ (by decide +kernel), keep cond_writes _ _ (by decide +kernel),
      atK_ctr c k, Scf.iv_succ]
    rfl

set_option backward.isDefEq.respectTransparency.types false in
/-- The condition holds for a hundred trips and then fails. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v158_4 HostLoop.idx0)
        (HloOp.result _ (atK m k c) main_while0c_c_25 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- Every fair execution of the reference ends with every unscoped buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbody hpost
    (fun c => by rw [main_eq]; rfl) (by rw [body_eq]; rfl) 100 m ρ (cond_spec m)

end Cert.RefRun

end
-- ==== Proof.RefSsa.lean ====
/- What a stretch of host operations leaves in a buffer each operation of which is not overwritten: the operation's function of what the stretch leaves in its operands. -/
module

public import proofs.«01_k».proof.Proof.RefRun
public import Idealize.ShloMosaic.PureOps.Ideal

@[expose] public section

set_option maxRecDepth 4000

noncomputable section

namespace Cert.RefRun

open Cert.ReferenceIdeal Cert.ReferenceIdeal.Gen
open Idealize.ShloMosaic Idealize.ShloMosaic.TcCoe
open Idealize.ShloMosaic.StableHlo

variable {F : FTy → Type} [FloatOps F]

/-- In the stretch no operation writes a buffer that an earlier one touches. -/
def Ssa (ops : Ops F) : Prop := ops.Pairwise fun a b => Disjoint a.bufs b.writes

/-- An operation of such a stretch ran on contents that agree, off what it writes, with what the stretch leaves. -/
theorem Ssa.run {ops : Ops F} (h : Ssa ops) (V : Valuation τ sig (Elt F)) {op : HloOp τ sig (Elt F)} (hop : op ∈ ops) :
    ∃ W : Valuation τ sig (Elt F), (∀ b ∈ op.bufs, b ∉ op.writes → W b = after ops V b) ∧ ∀ b ∈ op.writes, after ops V b = op.result W b := by
  induction ops generalizing V with
  | nil => cases hop
  | cons o rest ih =>
    have h' := List.pairwise_cons.mp h
    rcases List.mem_cons.mp hop with rfl | hop
    · have hk : ∀ b ∈ op.bufs, after rest (op.result V) b = op.result V b := fun b hb =>
        after_of_forall_not_mem rest _ fun o' ho' hw => (Finset.disjoint_left.mp (h'.1 o' ho')) hb hw
      exact ⟨V, fun b hb hw => by rw [after_cons, hk b hb, op.result_of_not_mem _ hw], fun b hb => by rw [after_cons, hk b (op.writes_sub hb)]⟩
    · exact ih h'.2 _ hop

section
variable {ops : Ops F} (h : Ssa ops) (V : Valuation τ sig (Elt F))
include h

theorem Ssa.nullary {y : Ref sig .tc} {v : y.ty.Contents (Elt F)} {hy} (hop : nullary (τ := τ) y v hy ∈ ops) :
    after ops V (Proc.devRef .tc y) = v := by
  obtain ⟨W, _, hw⟩ := h.run V hop
  rw [hw _ (by simp [nullary_writes]), nullary_result]

theorem Ssa.unary {x y : Ref sig .tc} {f : x.ty.Contents (Elt F) → y.ty.Contents (Elt F)} {hx hy}
    (hop : unary (τ := τ) x y f hx hy ∈ ops) (n : x ≠ y) :
    after ops V (Proc.devRef .tc y) = f (after ops V (Proc.devRef .tc x)) := by
  obtain ⟨W, hi, hw⟩ := h.run V hop
  rw [hw _ (by simp [unary_writes]), unary_result, hi (Proc.devRef .tc x) (by simp [StableHlo.unary, TRef.unary]) (by rw [unary_writes, Finset.mem_singleton]; exact devRef_ne_of_ne n)]

theorem Ssa.reshape {x y : Ref sig .tc} {he hn hx hy}
    (hop : reshape (τ := τ) (Val := Elt F) x y he hn hx hy ∈ ops) (n : x ≠ y) :
    after ops V (Proc.devRef .tc y) = fun i => he ▸ shapeCast y.ty.shape (after ops V (Proc.devRef .tc x)) hn i := by
  obtain ⟨W, hi, hw⟩ := h.run V hop
  rw [hw _ (by simp [reshape_writes]), reshape_result, hi (Proc.devRef .tc x) (by simp [StableHlo.reshape, StableHlo.unary]) (by rw [reshape_writes, Finset.mem_singleton]; exact devRef_ne_of_ne n)]

theorem Ssa.binary {a b y : Ref sig .tc} {f : a.ty.Contents (Elt F) → b.ty.Contents (Elt F) → y.ty.Contents (Elt F)} {ha hb hy}
    (hop : binary (τ := τ) a b y f ha hb hy ∈ ops) (n : a ≠ y) (n' : b ≠ y) :
    after ops V (Proc.devRef .tc y) = f (after ops V (Proc.devRef .tc a)) (after ops V (Proc.devRef .tc b)) := by
  obtain ⟨W, hi, hw⟩ := h.run V hop
  rw [hw _ (by simp [binary_writes]), binary_result,
    hi (Proc.devRef .tc a) (by simp [StableHlo.binary]) (by rw [binary_writes, Finset.mem_singleton]; exact devRef_ne_of_ne n),
    hi (Proc.devRef .tc b) (by simp [StableHlo.binary]) (by rw [binary_writes, Finset.mem_singleton]; exact devRef_ne_of_ne n')]

theorem Ssa.ternary {a b c y : Ref sig .tc} {f : a.ty.Contents (Elt F) → b.ty.Contents (Elt F) → c.ty.Contents (Elt F) → y.ty.Contents (Elt F)} {ha hb hc hy}
    (hop : ternary (τ := τ) a b c y f ha hb hc hy ∈ ops) (n : a ≠ y) (n' : b ≠ y) (n'' : c ≠ y) :
    after ops V (Proc.devRef .tc y) = f (after ops V (Proc.devRef .tc a)) (after ops V (Proc.devRef .tc b)) (after ops V (Proc.devRef .tc c)) := by
  obtain ⟨W, hi, hw⟩ := h.run V hop
  rw [hw _ (by simp [ternary_writes]), ternary_result,
    hi (Proc.devRef .tc a) (by simp [StableHlo.ternary]) (by rw [ternary_writes, Finset.mem_singleton]; exact devRef_ne_of_ne n),
    hi (Proc.devRef .tc b) (by simp [StableHlo.ternary]) (by rw [ternary_writes, Finset.mem_singleton]; exact devRef_ne_of_ne n'),
    hi (Proc.devRef .tc c) (by simp [StableHlo.ternary]) (by rw [ternary_writes, Finset.mem_singleton]; exact devRef_ne_of_ne n'')]

theorem Ssa.quaternary {a b c e y : Ref sig .tc}
    {f : a.ty.Contents (Elt F) → b.ty.Contents (Elt F) → c.ty.Contents (Elt F) → e.ty.Contents (Elt F) → y.ty.Contents (Elt F)} {ha hb hc he hy}
    (hop : quaternary (τ := τ) a b c e y f ha hb hc he hy ∈ ops) (n : a ≠ y) (n' : b ≠ y) (n'' : c ≠ y) (n3 : e ≠ y) :
    after ops V (Proc.devRef .tc y) = f (after ops V (Proc.devRef .tc a)) (after ops V (Proc.devRef .tc b)) (after ops V (Proc.devRef .tc c)) (after ops V (Proc.devRef .tc e)) := by
  obtain ⟨W, hi, hw⟩ := h.run V hop
  rw [hw _ (by simp [quaternary_writes]), quaternary_result,
    hi (Proc.devRef .tc a) (by simp [StableHlo.quaternary]) (by rw [quaternary_writes, Finset.mem_singleton]; exact devRef_ne_of_ne n),
    hi (Proc.devRef .tc b) (by simp [StableHlo.quaternary]) (by rw [quaternary_writes, Finset.mem_singleton]; exact devRef_ne_of_ne n'),
    hi (Proc.devRef .tc c) (by simp [StableHlo.quaternary]) (by rw [quaternary_writes, Finset.mem_singleton]; exact devRef_ne_of_ne n''),
    hi (Proc.devRef .tc e) (by simp [StableHlo.quaternary]) (by rw [quaternary_writes, Finset.mem_singleton]; exact devRef_ne_of_ne n3)]

theorem Ssa.nary {n : ℕ} {xs : Fin n → Ref sig .tc} {y : Ref sig .tc} {f : ((k : Fin n) → (xs k).ty.Contents (Elt F)) → y.ty.Contents (Elt F)} {hxs hy}
    (hop : nary (τ := τ) xs y f hxs hy ∈ ops) (hn : ∀ k, xs k ≠ y) :
    after ops V (Proc.devRef .tc y) = f (fun k => after ops V (Proc.devRef .tc (xs k))) := by
  obtain ⟨W, hi, hw⟩ := h.run V hop
  rw [hw _ (by simp [nary_writes]), nary_result]
  congr 1
  funext k
  exact hi (Proc.devRef .tc (xs k)) (by simp [StableHlo.nary]; exact Or.inr ⟨k, rfl, .rfl, .rfl⟩) (by rw [nary_writes, Finset.mem_singleton]; exact devRef_ne_of_ne (hn k))

theorem Ssa.binaryIndexed {a b : Ref sig .tc} {n : ℕ} {ix : Fin n → Ref sig .tc} {T : BufTy} {y : Ref sig .tc}
    {f : a.ty.Contents (Elt F) → b.ty.Contents (Elt F) → (Fin n → T.Contents (Elt F)) → y.ty.Contents (Elt F)} {hT ha hb hix hy}
    (hop : binaryIndexed (τ := τ) a b ix T y f hT ha hb hix hy ∈ ops) (na : a ≠ y) (nb : b ≠ y) (hn : ∀ k, ix k ≠ y) :
    after ops V (Proc.devRef .tc y) = f (after ops V (Proc.devRef .tc a)) (after ops V (Proc.devRef .tc b))
      fun k => cast (congrArg (fun U : BufTy => U.Contents (Elt F)) (hT k)) (after ops V (Proc.devRef .tc (ix k))) := by
  obtain ⟨W, hi, hw⟩ := h.run V hop
  rw [hw _ (by simp [binaryIndexed_writes]), binaryIndexed_result,
    hi (Proc.devRef .tc a) (by simp [StableHlo.binaryIndexed]) (by rw [binaryIndexed_writes, Finset.mem_singleton]; exact devRef_ne_of_ne na),
    hi (Proc.devRef .tc b) (by simp [StableHlo.binaryIndexed]) (by rw [binaryIndexed_writes, Finset.mem_singleton]; exact devRef_ne_of_ne nb)]
  congr 1
  funext k
  rw [hi (Proc.devRef .tc (ix k)) (by simp [StableHlo.binaryIndexed]; exact Or.inr (Or.inr (Or.inr ⟨k, rfl, .rfl, .rfl⟩))) (by rw [binaryIndexed_writes, Finset.mem_singleton]; exact devRef_ne_of_ne (hn k))]

end

/-- The stretches before the loop as one list. -/
def preAll : Ops F := pre0 ++ pre1 ++ pre2 ++ pre3 ++ pre4 ++ pre5 ++ pre6 ++ pre7

/-- No operation before the loop overwrites a buffer touched before it. -/
theorem preAll_ssa : Ssa (preAll : Ops Ideal) := by
  unfold Ssa; decide +kernel

/-- Nor does one of a trip before its last stretch. -/
theorem early_ssa : Ssa (early : Ops Ideal) := by
  unfold Ssa; decide +kernel

end Cert.RefRun

end
-- ==== Proof.RefEqsPre.lean ====
/- What each buffer holds when the loop is entered, from what the buffers it is computed from hold. -/
module

public import proofs.«01_k».proof.Proof.RefSsa

@[expose] public section

set_option maxRecDepth 4000

noncomputable section

namespace Cert.RefRun

open Cert.ReferenceIdeal Cert.ReferenceIdeal.Gen
open Idealize.ShloMosaic Idealize.ShloMosaic.TcCoe
open Idealize.ShloMosaic.StableHlo

/-- An array of the reference: its contents over the extended reals. -/
abbrev Arr (s : Shape) (e : EltTy) := (⟨s, e⟩ : BufTy).Contents (Elt Ideal)

/-- What a buffer holds when the loop is entered, the program started on the contents `V`. -/
def P (V : Valuation τ sig (Elt Ideal)) (r : Ref sig .tc) : r.ty.Contents (Elt Ideal) := after preAll V (Proc.devRef .tc r)

theorem mem_pre0 {op : HloOp τ sig (Elt Ideal)} (h : op ∈ (pre0 : Ops Ideal)) : op ∈ (preAll : Ops Ideal) := by simp only [preAll, List.mem_append, h, true_or, or_true]
theorem mem_pre1 {op : HloOp τ sig (Elt Ideal)} (h : op ∈ (pre1 : Ops Ideal)) : op ∈ (preAll : Ops Ideal) := by simp only [preAll, List.mem_append, h, true_or, or_true]
theorem mem_pre2 {op : HloOp τ sig (Elt Ideal)} (h : op ∈ (pre2 : Ops Ideal)) : op ∈ (preAll : Ops Ideal) := by simp only [preAll, List.mem_append, h, true_or, or_true]
theorem mem_pre3 {op : HloOp τ sig (Elt Ideal)} (h : op ∈ (pre3 : Ops Ideal)) : op ∈ (preAll : Ops Ideal) := by simp only [preAll, List.mem_append, h, true_or, or_true]
theorem mem_pre4 {op : HloOp τ sig (Elt Ideal)} (h : op ∈ (pre4 : Ops Ideal)) : op ∈ (preAll : Ops Ideal) := by simp only [preAll, List.mem_append, h, true_or, or_true]
theorem mem_pre5 {op : HloOp τ sig (Elt Ideal)} (h : op ∈ (pre5 : Ops Ideal)) : op ∈ (preAll : Ops Ideal) := by simp only [preAll, List.mem_append, h, true_or, or_true]
theorem mem_pre6 {op : HloOp τ sig (Elt Ideal)} (h : op ∈ (pre6 : Ops Ideal)) : op ∈ (preAll : Ops Ideal) := by simp only [preAll, List.mem_append, h, true_or, or_true]
theorem mem_pre7 {op : HloOp τ sig (Elt Ideal)} (h : op ∈ (pre7 : Ops Ideal)) : op ∈ (preAll : Ops Ideal) := by simp only [preAll, List.mem_append, h, true_or, or_true]

variable (V : Valuation τ sig (Elt Ideal))

theorem p_v0 : (P V main_v0 : Arr S8x85x64x64 .f32) = (concatenate S8x85x64x64 1 [⟨S8x4x64x64, (P V main_arg0 : (⟨S8x4x64x64, .f32⟩ : BufTy).Contents (Elt Ideal))⟩, ⟨S8x1x64x64, (P V main_arg1 : (⟨S8x1x64x64, .f32⟩ : BufTy).Contents (Elt Ideal))⟩, ⟨S8x80x64x64, (P V main_arg2 : (⟨S8x80x64x64, .f32⟩ : BufTy).Contents (Elt Ideal))⟩] concatenates_S8x4x64x64_S8x1x64x64_S8x80x64x64_S8x85x64x64_d1 : (⟨S8x85x64x64, .f32⟩ : BufTy).Contents (Elt Ideal)) :=
  (preAll_ssa.nary V (mem_pre0 (List.mem_of_getElem? (i := 0) rfl)) (by decide)).trans rfl
theorem p_v1 : (P V main_v1 : Arr S8x64x64x85 .f32) = ((transpose S8x64x64x85 [0, 2, 3, 1] · transposes_S8x85x64x64_S8x64x64x85_0_2_3_1) : (⟨S8x85x64x64, .f32⟩ : BufTy).Contents (Elt Ideal) → (⟨S8x64x64x85, .f32⟩ : BufTy).Contents (Elt Ideal)) (P V main_v0 : Arr S8x85x64x64 .f32) :=
  (preAll_ssa.unary V (mem_pre0 (List.mem_of_getElem? (i := 1) rfl)) (by decide))
theorem p_v2 : (P V main_v2 : Arr S1x64x64x4 .f32) = shapeCast S1x64x64x4 (P V main_arg9 : Arr S4096x4 .f32) shapeCasts_S4096x4_S1x64x64x4 :=
  (preAll_ssa.reshape V (mem_pre0 (List.mem_of_getElem? (i := 2) rfl)) (by decide))
theorem p_v3 : (P V main_v3 : Arr S1x64x64x2 .f32) = ((extractStridedSlice S1x64x64x2 ![0, 0, 0, 0] · slices_S1x64x64x4_S1x64x64x2_0_0_0_0) : (⟨S1x64x64x4, .f32⟩ : BufTy).Contents (Elt Ideal) → (⟨S1x64x64x2, .f32⟩ : BufTy).Contents (Elt Ideal)) (P V main_v2 : Arr S1x64x64x4 .f32) :=
  (preAll_ssa.unary V (mem_pre0 (List.mem_of_getElem? (i := 3) rfl)) (by decide))
theorem p_v4 : (P V main_v4 : Arr S1x64x64x2 .f32) = ((extractStridedSlice S1x64x64x2 ![0, 0, 0, 2] · slices_S1x64x64x4_S1x64x64x2_0_0_0_2) : (⟨S1x64x64x4, .f32⟩ : BufTy).Contents (Elt Ideal) → (⟨S1x64x64x2, .f32⟩ : BufTy).Contents (Elt Ideal)) (P V main_v2 : Arr S1x64x64x4 .f32) :=
  (preAll_ssa.unary V (mem_pre0 (List.mem_of_getElem? (i := 4) rfl)) (by decide))
theorem p_v5 : (P V main_v5 : Arr S1x64x64x2 .f32) = (addf (F := Ideal) (φ := .f32)) (P V main_v3 : Arr S1x64x64x2 .f32) (P V main_v4 : Arr S1x64x64x2 .f32) :=
  (preAll_ssa.binary V (mem_pre0 (List.mem_of_getElem? (i := 5) rfl)) (by decide) (by decide))
theorem p_cst : (P V main_cst : Arr S_ .f32) = (constant (F := Ideal) S_ .f32 0x3F000000#32) :=
  (preAll_ssa.nullary V (mem_pre0 (List.mem_of_getElem? (i := 6) rfl)))
theorem p_v6 : (P V main_v6 : Arr S1x64x64x2 .f32) = (broadcastInDim S1x64x64x2 ![] bcast_S_S1x64x64x2 : (⟨S_, .f32⟩ : BufTy).Contents (Elt Ideal) → (⟨S1x64x64x2, .f32⟩ : BufTy).Contents (Elt Ideal)) (P V main_cst : Arr S_ .f32) :=
  (preAll_ssa.unary V (mem_pre0 (List.mem_of_getElem? (i := 7) rfl)) (by decide))
theorem p_v7 : (P V main_v7 : Arr S1x64x64x2 .f32) = (mulf (F := Ideal) (φ := .f32)) (P V main_v6 : Arr S1x64x64x2 .f32) (P V main_v5 : Arr S1x64x64x2 .f32) :=
  (preAll_ssa.binary V (mem_pre0 (List.mem_of_getElem? (i := 8) rfl)) (by decide) (by decide))
theorem p_v8 : (P V main_v8 : Arr S1x64x64x2 .f32) = ((extractStridedSlice S1x64x64x2 ![0, 0, 0, 2] · slices_S1x64x64x4_S1x64x64x2_0_0_0_2) : (⟨S1x64x64x4, .f32⟩ : BufTy).Contents (Elt Ideal) → (⟨S1x64x64x2, .f32⟩ : BufTy).Contents (Elt Ideal)) (P V main_v2 : Arr S1x64x64x4 .f32) :=
  (preAll_ssa.unary V (mem_pre0 (List.mem_of_getElem? (i := 9) rfl)) (by decide))
theorem p_v9 : (P V main_v9 : Arr S1x64x64x2 .f32) = ((extractStridedSlice S1x64x64x2 ![0, 0, 0, 0] · slices_S1x64x64x4_S1x64x64x2_0_0_0_0) : (⟨S1x64x64x4, .f32⟩ : BufTy).Contents (Elt Ideal) → (⟨S1x64x64x2, .f32⟩ : BufTy).Contents (Elt Ideal)) (P V main_v2 : Arr S1x64x64x4 .f32) :=
  (preAll_ssa.unary V (mem_pre0 (List.mem_of_getElem? (i := 10) rfl)) (by decide))
theorem p_v10 : (P V main_v10 : Arr S1x64x64x2 .f32) = (subf (F := Ideal) (φ := .f32)) (P V main_v8 : Arr S1x64x64x2 .f32) (P V main_v9 : Arr S1x64x64x2 .f32) :=
  (preAll_ssa.binary V (mem_pre0 (List.mem_of_getElem? (i := 11) rfl)) (by decide) (by decide))
theorem p_v11 : (P V main_v11 : Arr S8x64x64x2 .f32) = ((extractStridedSlice S8x64x64x2 ![0, 0, 0, 0] · slices_S8x64x64x85_S8x64x64x2_0_0_0_0) : (⟨S8x64x64x85, .f32⟩ : BufTy).Contents (Elt Ideal) → (⟨S8x64x64x2, .f32⟩ : BufTy).Contents (Elt Ideal)) (P V main_v1 : Arr S8x64x64x85 .f32) :=
  (preAll_ssa.unary V (mem_pre0 (List.mem_of_getElem? (i := 12) rfl)) (by decide))
theorem p_v12 : (P V main_v12 : Arr S8x64x64x2 .f32) = (broadcastInDim S8x64x64x2 ![0, 1, 2, 3] bcast_S1x64x64x2_S8x64x64x2_0_1_2_3 : (⟨S1x64x64x2, .f32⟩ : BufTy).Contents (Elt Ideal) → (⟨S8x64x64x2, .f32⟩ : BufTy).Contents (Elt Ideal)) (P V main_v10 : Arr S1x64x64x2 .f32) :=
  (preAll_ssa.unary V (mem_pre0 (List.mem_of_getElem? (i := 13) rfl)) (by decide))
theorem p_v13 : (P V main_v13 : Arr S8x64x64x2 .f32) = (mulf (F := Ideal) (φ := .f32)) (P V main_v11 : Arr S8x64x64x2 .f32) (P V main_v12 : Arr S8x64x64x2 .f32) :=
  (preAll_ssa.binary V (mem_pre0 (List.mem_of_getElem? (i := 14) rfl)) (by decide) (by decide))
theorem p_v14 : (P V main_v14 : Arr S8x64x64x2 .f32) = (broadcastInDim S8x64x64x2 ![0, 1, 2, 3] bcast_S1x64x64x2_S8x64x64x2_0_1_2_3 : (⟨S1x64x64x2, .f32⟩ : BufTy).Contents (Elt Ideal) → (⟨S8x64x64x2, .f32⟩ : BufTy).Contents (Elt Ideal)) (P V main_v7 : Arr S1x64x64x2 .f32) :=
  (preAll_ssa.unary V (mem_pre0 (List.mem_of_getElem? (i := 15) rfl)) (by decide))
theorem p_v15 : (P V main_v15 : Arr S8x64x64x2 .f32) = (subf (F := Ideal) (φ := .f32)) (P V main_v14 : Arr S8x64x64x2 .f32) (P V main_v13 : Arr S8x64x64x2 .f32) :=
  (preAll_ssa.binary V (mem_pre0 (List.mem_of_getElem? (i := 16) rfl)) (by decide) (by decide))
theorem p_v16 : (P V main_v16 : Arr S8x64x64x2 .f32) = ((extractStridedSlice S8x64x64x2 ![0, 0, 0, 2] · slices_S8x64x64x85_S8x64x64x2_0_0_0_2) : (⟨S8x64x64x85, .f32⟩ : BufTy).Contents (Elt Ideal) → (⟨S8x64x64x2, .f32⟩ : BufTy).Contents (Elt Ideal)) (P V main_v1 : Arr S8x64x64x85 .f32) :=
  (preAll_ssa.unary V (mem_pre0 (List.mem_of_getElem? (i := 17) rfl)) (by decide))
theorem p_v17 : (P V main_v17 : Arr S8x64x64x2 .f32) = (broadcastInDim S8x64x64x2 ![0, 1, 2, 3] bcast_S1x64x64x2_S8x64x64x2_0_1_2_3 : (⟨S1x64x64x2, .f32⟩ : BufTy).Contents (Elt Ideal) → (⟨S8x64x64x2, .f32⟩ : BufTy).Contents (Elt Ideal)) (P V main_v10 : Arr S1x64x64x2 .f32) :=
  (preAll_ssa.unary V (mem_pre0 (List.mem_of_getElem? (i := 18) rfl)) (by decide))
theorem p_v18 : (P V main_v18 : Arr S8x64x64x2 .f32) = (mulf (F := Ideal) (φ := .f32)) (P V main_v16 : Arr S8x64x64x2 .f32) (P V main_v17 : Arr S8x64x64x2 .f32) :=
  (preAll_ssa.binary V (mem_pre0 (List.mem_of_getElem? (i := 19) rfl)) (by decide) (by decide))
theorem p_v19 : (P V main_v19 : Arr S8x64x64x2 .f32) = (broadcastInDim S8x64x64x2 ![0, 1, 2, 3] bcast_S1x64x64x2_S8x64x64x2_0_1_2_3 : (⟨S1x64x64x2, .f32⟩ : BufTy).Contents (Elt Ideal) → (⟨S8x64x64x2, .f32⟩ : BufTy).Contents (Elt Ideal)) (P V main_v7 : Arr S1x64x64x2 .f32) :=
  (preAll_ssa.unary V (mem_pre0 (List.mem_of_getElem? (i := 20) rfl)) (by decide))
theorem p_v20 : (P V main_v20 : Arr S8x64x64x2 .f32) = (addf (F := Ideal) (φ := .f32)) (P V main_v19 : Arr S8x64x64x2 .f32) (P V main_v18 : Arr S8x64x64x2 .f32) :=
  (preAll_ssa.binary V (mem_pre0 (List.mem_of_getElem? (i := 21) rfl)) (by decide) (by decide))
theorem p_v21 : (P V main_v21 : Arr S8x64x64x2 .f32) = (addf (F := Ideal) (φ := .f32)) (P V main_v15 : Arr S8x64x64x2 .f32) (P V main_v20 : Arr S8x64x64x2 .f32) :=
  (preAll_ssa.binary V (mem_pre0 (List.mem_of_getElem? (i := 22) rfl)) (by decide) (by decide))
theorem p_cst_0 : (P V main_cst_0 : Arr S_ .f32) = (constant (F := Ideal) S_ .f32 0x3F000000#32) :=
  (preAll_ssa.nullary V (mem_pre0 (List.mem_of_getElem? (i := 23) rfl)))
theorem p_v22 : (P V main_v22 : Arr S8x64x64x2 .f32) = (broadcastInDim S8x64x64x2 ![] bcast_S_S8x64x64x2 : (⟨S_, .f32⟩ : BufTy).Contents (Elt Ideal) → (⟨S8x64x64x2, .f32⟩ : BufTy).Contents (Elt Ideal)) (P V main_cst_0 : Arr S_ .f32) :=
  (preAll_ssa.unary V (mem_pre0 (List.mem_of_getElem? (i := 24) rfl)) (by decide))
theorem p_v23 : (P V main_v23 : Arr S8x64x64x2 .f32) = (mulf (F := Ideal) (φ := .f32)) (P V main_v22 : Arr S8x64x64x2 .f32) (P V main_v21 : Arr S8x64x64x2 .f32) :=
  (preAll_ssa.binary V (mem_pre0 (List.mem_of_getElem? (i := 25) rfl)) (by decide) (by decide))
theorem p_v24 : (P V main_v24 : Arr S8x64x64x2 .f32) = (subf (F := Ideal) (φ := .f32)) (P V main_v20 : Arr S8x64x64x2 .f32) (P V main_v15 : Arr S8x64x64x2 .f32) :=
  (preAll_ssa.binary V (mem_pre0 (List.mem_of_getElem? (i := 26) rfl)) (by decide) (by decide))
theorem p_v25 : (P V main_v25 : Arr S8x64x64x81 .f32) = ((extractStridedSlice S8x64x64x81 ![0, 0, 0, 4] · slices_S8x64x64x85_S8x64x64x81_0_0_0_4) : (⟨S8x64x64x85, .f32⟩ : BufTy).Contents (Elt Ideal) → (⟨S8x64x64x81, .f32⟩ : BufTy).Contents (Elt Ideal)) (P V main_v1 : Arr S8x64x64x85 .f32) :=
  (preAll_ssa.unary V (mem_pre0 (List.mem_of_getElem? (i := 27) rfl)) (by decide))
theorem p_v26 : (P V main_v26 : Arr S8x64x64x81 .f32) = (Host.negf (F := Ideal) (φ := .f32)) (P V main_v25 : Arr S8x64x64x81 .f32) :=
  (preAll_ssa.unary V (mem_pre0 (List.mem_of_getElem? (i := 28) rfl)) (by decide))
theorem p_v27 : (P V main_v27 : Arr S8x64x64x81 .f32) = (Host.exp (F := Ideal) (φ := .f32)) (P V main_v26 : Arr S8x64x64x81 .f32) :=
  (preAll_ssa.unary V (mem_pre0 (List.mem_of_getElem? (i := 29) rfl)) (by decide))
theorem p_cst_1 : (P V main_cst_1 : Arr S_ .f32) = (constant (F := Ideal) S_ .f32 0x3F800000#32) :=
  (preAll_ssa.nullary V (mem_pre0 (List.mem_of_getElem? (i := 30) rfl)))
theorem p_v28 : (P V main_v28 : Arr S8x64x64x81 .f32) = (broadcastInDim S8x64x64x81 ![] bcast_S_S8x64x64x81 : (⟨S_, .f32⟩ : BufTy).Contents (Elt Ideal) → (⟨S8x64x64x81, .f32⟩ : BufTy).Contents (Elt Ideal)) (P V main_cst_1 : Arr S_ .f32) :=
  (preAll_ssa.unary V (mem_pre0 (List.mem_of_getElem? (i := 31) rfl)) (by decide))
theorem p_v29 : (P V main_v29 : Arr S8x64x64x81 .f32) = (addf (F := Ideal) (φ := .f32)) (P V main_v28 : Arr S8x64x64x81 .f32) (P V main_v27 : Arr S8x64x64x81 .f32) :=
  (preAll_ssa.binary V (mem_pre0 (List.mem_of_getElem? (i := 32) rfl)) (by decide) (by decide))
theorem p_cst_2 : (P V main_cst_2 : Arr S_ .f32) = (constant (F := Ideal) S_ .f32 0x3F800000#32) :=
  (preAll_ssa.nullary V (mem_pre0 (List.mem_of_getElem? (i := 33) rfl)))
theorem p_v30 : (P V main_v30 : Arr S8x64x64x81 .f32) = (broadcastInDim S8x64x64x81 ![] bcast_S_S8x64x64x81 : (⟨S_, .f32⟩ : BufTy).Contents (Elt Ideal) → (⟨S8x64x64x81, .f32⟩ : BufTy).Contents (Elt Ideal)) (P V main_cst_2 : Arr S_ .f32) :=
  (preAll_ssa.unary V (mem_pre0 (List.mem_of_getElem? (i := 34) rfl)) (by decide))
theorem p_v31 : (P V main_v31 : Arr S8x64x64x81 .f32) = (Host.divf (F := Ideal) (φ := .f32)) (P V main_v30 : Arr S8x64x64x81 .f32) (P V main_v29 : Arr S8x64x64x81 .f32) :=
  (preAll_ssa.binary V (mem_pre0 (List.mem_of_getElem? (i := 35) rfl)) (by decide) (by decide))
theorem p_v32 : (P V main_v32 : Arr S8x64x64x1 .f32) = ((extractStridedSlice S8x64x64x1 ![0, 0, 0, 0] · slices_S8x64x64x81_S8x64x64x1_0_0_0_0) : (⟨S8x64x64x81, .f32⟩ : BufTy).Contents (Elt Ideal) → (⟨S8x64x64x1, .f32⟩ : BufTy).Contents (Elt Ideal)) (P V main_v31 : Arr S8x64x64x81 .f32) :=
  (preAll_ssa.unary V (mem_pre0 (List.mem_of_getElem? (i := 36) rfl)) (by decide))
theorem p_v33 : (P V main_v33 : Arr S8x64x64 .f32) = shapeCast S8x64x64 (P V main_v32 : Arr S8x64x64x1 .f32) shapeCasts_S8x64x64x1_S8x64x64 :=
  (preAll_ssa.reshape V (mem_pre0 (List.mem_of_getElem? (i := 37) rfl)) (by decide))
theorem p_v34 : (P V main_v34 : Arr S8x64x64x80 .f32) = ((extractStridedSlice S8x64x64x80 ![0, 0, 0, 1] · slices_S8x64x64x81_S8x64x64x80_0_0_0_1) : (⟨S8x64x64x81, .f32⟩ : BufTy).Contents (Elt Ideal) → (⟨S8x64x64x80, .f32⟩ : BufTy).Contents (Elt Ideal)) (P V main_v31 : Arr S8x64x64x81 .f32) :=
  (preAll_ssa.unary V (mem_pre0 (List.mem_of_getElem? (i := 38) rfl)) (by decide))
theorem p_cst_3 : (P V main_cst_3 : Arr S_ .f32) = (constant (F := Ideal) S_ .f32 0xFF800000#32) :=
  (preAll_ssa.nullary V (mem_pre0 (List.mem_of_getElem? (i := 39) rfl)))
theorem p_v35 : (P V main_v35 : Arr S8x64x64 .f32) = ((fun x v => Host.reduce (FloatOps.maximumf (F := Ideal) (φ := .f32)) x v reducesTo_S8x64x64x80_S8x64x64_d3 h_S_) : (⟨S8x64x64x80, .f32⟩ : BufTy).Contents (Elt Ideal) → (⟨S_, .f32⟩ : BufTy).Contents (Elt Ideal) → (⟨S8x64x64, .f32⟩ : BufTy).Contents (Elt Ideal)) (P V main_v34 : Arr S8x64x64x80 .f32) (P V main_cst_3 : Arr S_ .f32) :=
  (preAll_ssa.binary V (mem_pre0 (List.mem_of_getElem? (i := 40) rfl)) (by decide) (by decide))
theorem p_v36 : (P V main_v36 : Arr S8x64x64 .f32) = (mulf (F := Ideal) (φ := .f32)) (P V main_v33 : Arr S8x64x64 .f32) (P V main_v35 : Arr S8x64x64 .f32) :=
  (preAll_ssa.binary V (mem_pre0 (List.mem_of_getElem? (i := 41) rfl)) (by decide) (by decide))
theorem p_v37 : (P V main_v37 : Arr S8x64x64 .f32) = (Host.sqrt (F := Ideal) (φ := .f32)) (P V main_v36 : Arr S8x64x64 .f32) :=
  (preAll_ssa.unary V (mem_pre0 (List.mem_of_getElem? (i := 42) rfl)) (by decide))
theorem p_v38 : (P V main_v38 : Arr S8x64x64x1 .f32) = (broadcastInDim S8x64x64x1 ![0, 1, 2] bcast_S8x64x64_S8x64x64x1_0_1_2 : (⟨S8x64x64, .f32⟩ : BufTy).Contents (Elt Ideal) → (⟨S8x64x64x1, .f32⟩ : BufTy).Contents (Elt Ideal)) (P V main_v37 : Arr S8x64x64 .f32) :=
  (preAll_ssa.unary V (mem_pre0 (List.mem_of_getElem? (i := 43) rfl)) (by decide))
theorem p_v39 : (P V main_v39 : Arr S8x64x64x85 .f32) = (concatenate S8x64x64x85 3 [⟨S8x64x64x2, (P V main_v23 : (⟨S8x64x64x2, .f32⟩ : BufTy).Contents (Elt Ideal))⟩, ⟨S8x64x64x2, (P V main_v24 : (⟨S8x64x64x2, .f32⟩ : BufTy).Contents (Elt Ideal))⟩, ⟨S8x64x64x1, (P V main_v38 : (⟨S8x64x64x1, .f32⟩ : BufTy).Contents (Elt Ideal))⟩, ⟨S8x64x64x80, (P V main_v34 : (⟨S8x64x64x80, .f32⟩ : BufTy).Contents (Elt Ideal))⟩] concatenates_S8x64x64x2_S8x64x64x2_S8x64x64x1_S8x64x64x80_S8x64x64x85_d3 : (⟨S8x64x64x85, .f32⟩ : BufTy).Contents (Elt Ideal)) :=
  (preAll_ssa.nary V (mem_pre0 (List.mem_of_getElem? (i := 44) rfl)) (by decide)).trans rfl
theorem p_v40 : (P V main_v40 : Arr S8x4096x85 .f32) = shapeCast S8x4096x85 (P V main_v39 : Arr S8x64x64x85 .f32) shapeCasts_S8x64x64x85_S8x4096x85 :=
  (preAll_ssa.reshape V (mem_pre0 (List.mem_of_getElem? (i := 45) rfl)) (by decide))
theorem p_v41 : (P V main_v41 : Arr S8x85x32x32 .f32) = (concatenate S8x85x32x32 1 [⟨S8x4x32x32, (P V main_arg3 : (⟨S8x4x32x32, .f32⟩ : BufTy).Contents (Elt Ideal))⟩, ⟨S8x1x32x32, (P V main_arg4 : (⟨S8x1x32x32, .f32⟩ : BufTy).Contents (Elt Ideal))⟩, ⟨S8x80x32x32, (P V main_arg5 : (⟨S8x80x32x32, .f32⟩ : BufTy).Contents (Elt Ideal))⟩] concatenates_S8x4x32x32_S8x1x32x32_S8x80x32x32_S8x85x32x32_d1 : (⟨S8x85x32x32, .f32⟩ : BufTy).Contents (Elt Ideal)) :=
  (preAll_ssa.nary V (mem_pre0 (List.mem_of_getElem? (i := 46) rfl)) (by decide)).trans rfl
theorem p_v42 : (P V main_v42 : Arr S8x32x32x85 .f32) = ((transpose S8x32x32x85 [0, 2, 3, 1] · transposes_S8x85x32x32_S8x32x32x85_0_2_3_1) : (⟨S8x85x32x32, .f32⟩ : BufTy).Contents (Elt Ideal) → (⟨S8x32x32x85, .f32⟩ : BufTy).Contents (Elt Ideal)) (P V main_v41 : Arr S8x85x32x32 .f32) :=
  (preAll_ssa.unary V (mem_pre0 (List.mem_of_getElem? (i := 47) rfl)) (by decide))
theorem p_v43 : (P V main_v43 : Arr S1x32x32x4 .f32) = shapeCast S1x32x32x4 (P V main_arg10 : Arr S1024x4 .f32) shapeCasts_S1024x4_S1x32x32x4 :=
  (preAll_ssa.reshape V (mem_pre0 (List.mem_of_getElem? (i := 48) rfl)) (by decide))
theorem p_v44 : (P V main_v44 : Arr S1x32x32x2 .f32) = ((extractStridedSlice S1x32x32x2 ![0, 0, 0, 0] · slices_S1x32x32x4_S1x32x32x2_0_0_0_0) : (⟨S1x32x32x4, .f32⟩ : BufTy).Contents (Elt Ideal) → (⟨S1x32x32x2, .f32⟩ : BufTy).Contents (Elt Ideal)) (P V main_v43 : Arr S1x32x32x4 .f32) :=
  (preAll_ssa.unary V (mem_pre0 (List.mem_of_getElem? (i := 49) rfl)) (by decide))
theorem p_v45 : (P V main_v45 : Arr S1x32x32x2 .f32) = ((extractStridedSlice S1x32x32x2 ![0, 0, 0, 2] · slices_S1x32x32x4_S1x32x32x2_0_0_0_2) : (⟨S1x32x32x4, .f32⟩ : BufTy).Contents (Elt Ideal) → (⟨S1x32x32x2, .f32⟩ : BufTy).Contents (Elt Ideal)) (P V main_v43 : Arr S1x32x32x4 .f32) :=
  (preAll_ssa.unary V (mem_pre0 (List.mem_of_getElem? (i := 50) rfl)) (by decide))
theorem p_v46 : (P V main_v46 : Arr S1x32x32x2 .f32) = (addf (F := Ideal) (φ := .f32)) (P V main_v44 : Arr S1x32x32x2 .f32) (P V main_v45 : Arr S1x32x32x2 .f32) :=
  (preAll_ssa.binary V (mem_pre0 (List.mem_of_getElem? (i := 51) rfl)) (by decide) (by decide))
theorem p_cst_4 : (P V main_cst_4 : Arr S_ .f32) = (constant (F := Ideal) S_ .f32 0x3F000000#32) :=
  (preAll_ssa.nullary V (mem_pre0 (List.mem_of_getElem? (i := 52) rfl)))
theorem p_v47 : (P V main_v47 : Arr S1x32x32x2 .f32) = (broadcastInDim S1x32x32x2 ![] bcast_S_S1x32x32x2 : (⟨S_, .f32⟩ : BufTy).Contents (Elt Ideal) → (⟨S1x32x32x2, .f32⟩ : BufTy).Contents (Elt Ideal)) (P V main_cst_4 : Arr S_ .f32) :=
  (preAll_ssa.unary V (mem_pre0 (List.mem_of_getElem? (i := 53) rfl)) (by decide))
theorem p_v48 : (P V main_v48 : Arr S1x32x32x2 .f32) = (mulf (F := Ideal) (φ := .f32)) (P V main_v47 : Arr S1x32x32x2 .f32) (P V main_v46 : Arr S1x32x32x2 .f32) :=
  (preAll_ssa.binary V (mem_pre0 (List.mem_of_getElem? (i := 54) rfl)) (by decide) (by decide))
theorem p_v49 : (P V main_v49 : Arr S1x32x32x2 .f32) = ((extractStridedSlice S1x32x32x2 ![0, 0, 0, 2] · slices_S1x32x32x4_S1x32x32x2_0_0_0_2) : (⟨S1x32x32x4, .f32⟩ : BufTy).Contents (Elt Ideal) → (⟨S1x32x32x2, .f32⟩ : BufTy).Contents (Elt Ideal)) (P V main_v43 : Arr S1x32x32x4 .f32) :=
  (preAll_ssa.unary V (mem_pre0 (List.mem_of_getElem? (i := 55) rfl)) (by decide))
theorem p_v50 : (P V main_v50 : Arr S1x32x32x2 .f32) = ((extractStridedSlice S1x32x32x2 ![0, 0, 0, 0] · slices_S1x32x32x4_S1x32x32x2_0_0_0_0) : (⟨S1x32x32x4, .f32⟩ : BufTy).Contents (Elt Ideal) → (⟨S1x32x32x2, .f32⟩ : BufTy).Contents (Elt Ideal)) (P V main_v43 : Arr S1x32x32x4 .f32) :=
  (preAll_ssa.unary V (mem_pre0 (List.mem_of_getElem? (i := 56) rfl)) (by decide))
theorem p_v51 : (P V main_v51 : Arr S1x32x32x2 .f32) = (subf (F := Ideal) (φ := .f32)) (P V main_v49 : Arr S1x32x32x2 .f32) (P V main_v50 : Arr S1x32x32x2 .f32) :=
  (preAll_ssa.binary V (mem_pre0 (List.mem_of_getElem? (i := 57) rfl)) (by decide) (by decide))
theorem p_v52 : (P V main_v52 : Arr S8x32x32x2 .f32) = ((extractStridedSlice S8x32x32x2 ![0, 0, 0, 0] · slices_S8x32x32x85_S8x32x32x2_0_0_0_0) : (⟨S8x32x32x85, .f32⟩ : BufTy).Contents (Elt Ideal) → (⟨S8x32x32x2, .f32⟩ : BufTy).Contents (Elt Ideal)) (P V main_v42 : Arr S8x32x32x85 .f32) :=
  (preAll_ssa.unary V (mem_pre0 (List.mem_of_getElem? (i := 58) rfl)) (by decide))
theorem p_v53 : (P V main_v53 : Arr S8x32x32x2 .f32) = (broadcastInDim S8x32x32x2 ![0, 1, 2, 3] bcast_S1x32x32x2_S8x32x32x2_0_1_2_3 : (⟨S1x32x32x2, .f32⟩ : BufTy).Contents (Elt Ideal) → (⟨S8x32x32x2, .f32⟩ : BufTy).Contents (Elt Ideal)) (P V main_v51 : Arr S1x32x32x2 .f32) :=
  (preAll_ssa.unary V (mem_pre0 (List.mem_of_getElem? (i := 59) rfl)) (by decide))
theorem p_v54 : (P V main_v54 : Arr S8x32x32x2 .f32) = (mulf (F := Ideal) (φ := .f32)) (P V main_v52 : Arr S8x32x32x2 .f32) (P V main_v53 : Arr S8x32x32x2 .f32) :=
  (preAll_ssa.binary V (mem_pre1 (List.mem_of_getElem? (i := 0) rfl)) (by decide) (by decide))
theorem p_v55 : (P V main_v55 : Arr S8x32x32x2 .f32) = (broadcastInDim S8x32x32x2 ![0, 1, 2, 3] bcast_S1x32x32x2_S8x32x32x2_0_1_2_3 : (⟨S1x32x32x2, .f32⟩ : BufTy).Contents (Elt Ideal) → (⟨S8x32x32x2, .f32⟩ : BufTy).Contents (Elt Ideal)) (P V main_v48 : Arr S1x32x32x2 .f32) :=
  (preAll_ssa.unary V (mem_pre1 (List.mem_of_getElem? (i := 1) rfl)) (by decide))
theorem p_v56 : (P V main_v56 : Arr S8x32x32x2 .f32) = (subf (F := Ideal) (φ := .f32)) (P V main_v55 : Arr S8x32x32x2 .f32) (P V main_v54 : Arr S8x32x32x2 .f32) :=
  (preAll_ssa.binary V (mem_pre1 (List.mem_of_getElem? (i := 2) rfl)) (by decide) (by decide))
theorem p_v57 : (P V main_v57 : Arr S8x32x32x2 .f32) = ((extractStridedSlice S8x32x32x2 ![0, 0, 0, 2] · slices_S8x32x32x85_S8x32x32x2_0_0_0_2) : (⟨S8x32x32x85, .f32⟩ : BufTy).Contents (Elt Ideal) → (⟨S8x32x32x2, .f32⟩ : BufTy).Contents (Elt Ideal)) (P V main_v42 : Arr S8x32x32x85 .f32) :=
  (preAll_ssa.unary V (mem_pre1 (List.mem_of_getElem? (i := 3) rfl)) (by decide))
theorem p_v58 : (P V main_v58 : Arr S8x32x32x2 .f32) = (broadcastInDim S8x32x32x2 ![0, 1, 2, 3] bcast_S1x32x32x2_S8x32x32x2_0_1_2_3 : (⟨S1x32x32x2, .f32⟩ : BufTy).Contents (Elt Ideal) → (⟨S8x32x32x2, .f32⟩ : BufTy).Contents (Elt Ideal)) (P V main_v51 : Arr S1x32x32x2 .f32) :=
  (preAll_ssa.unary V (mem_pre1 (List.mem_of_getElem? (i := 4) rfl)) (by decide))
theorem p_v59 : (P V main_v59 : Arr S8x32x32x2 .f32) = (mulf (F := Ideal) (φ := .f32)) (P V main_v57 : Arr S8x32x32x2 .f32) (P V main_v58 : Arr S8x32x32x2 .f32) :=
  (preAll_ssa.binary V (mem_pre1 (List.mem_of_getElem? (i := 5) rfl)) (by decide) (by decide))
theorem p_v60 : (P V main_v60 : Arr S8x32x32x2 .f32) = (broadcastInDim S8x32x32x2 ![0, 1, 2, 3] bcast_S1x32x32x2_S8x32x32x2_0_1_2_3 : (⟨S1x32x32x2, .f32⟩ : BufTy).Contents (Elt Ideal) → (⟨S8x32x32x2, .f32⟩ : BufTy).Contents (Elt Ideal)) (P V main_v48 : Arr S1x32x32x2 .f32) :=
  (preAll_ssa.unary V (mem_pre1 (List.mem_of_getElem? (i := 6) rfl)) (by decide))
theorem p_v61 : (P V main_v61 : Arr S8x32x32x2 .f32) = (addf (F := Ideal) (φ := .f32)) (P V main_v60 : Arr S8x32x32x2 .f32) (P V main_v59 : Arr S8x32x32x2 .f32) :=
  (preAll_ssa.binary V (mem_pre1 (List.mem_of_getElem? (i := 7) rfl)) (by decide) (by decide))
theorem p_v62 : (P V main_v62 : Arr S8x32x32x2 .f32) = (addf (F := Ideal) (φ := .f32)) (P V main_v56 : Arr S8x32x32x2 .f32) (P V main_v61 : Arr S8x32x32x2 .f32) :=
  (preAll_ssa.binary V (mem_pre1 (List.mem_of_getElem? (i := 8) rfl)) (by decide) (by decide))
theorem p_cst_5 : (P V main_cst_5 : Arr S_ .f32) = (constant (F := Ideal) S_ .f32 0x3F000000#32) :=
  (preAll_ssa.nullary V (mem_pre1 (List.mem_of_getElem? (i := 9) rfl)))
theorem p_v63 : (P V main_v63 : Arr S8x32x32x2 .f32) = (broadcastInDim S8x32x32x2 ![] bcast_S_S8x32x32x2 : (⟨S_, .f32⟩ : BufTy).Contents (Elt Ideal) → (⟨S8x32x32x2, .f32⟩ : BufTy).Contents (Elt Ideal)) (P V main_cst_5 : Arr S_ .f32) :=
  (preAll_ssa.unary V (mem_pre1 (List.mem_of_getElem? (i := 10) rfl)) (by decide))
theorem p_v64 : (P V main_v64 : Arr S8x32x32x2 .f32) = (mulf (F := Ideal) (φ := .f32)) (P V main_v63 : Arr S8x32x32x2 .f32) (P V main_v62 : Arr S8x32x32x2 .f32) :=
  (preAll_ssa.binary V (mem_pre1 (List.mem_of_getElem? (i := 11) rfl)) (by decide) (by decide))
theorem p_v65 : (P V main_v65 : Arr S8x32x32x2 .f32) = (subf (F := Ideal) (φ := .f32)) (P V main_v61 : Arr S8x32x32x2 .f32) (P V main_v56 : Arr S8x32x32x2 .f32) :=
  (preAll_ssa.binary V (mem_pre1 (List.mem_of_getElem? (i := 12) rfl)) (by decide) (by decide))
theorem p_v66 : (P V main_v66 : Arr S8x32x32x81 .f32) = ((extractStridedSlice S8x32x32x81 ![0, 0, 0, 4] · slices_S8x32x32x85_S8x32x32x81_0_0_0_4) : (⟨S8x32x32x85, .f32⟩ : BufTy).Contents (Elt Ideal) → (⟨S8x32x32x81, .f32⟩ : BufTy).Contents (Elt Ideal)) (P V main_v42 : Arr S8x32x32x85 .f32) :=
  (preAll_ssa.unary V (mem_pre1 (List.mem_of_getElem? (i := 13) rfl)) (by decide))
theorem p_v67 : (P V main_v67 : Arr S8x32x32x81 .f32) = (Host.negf (F := Ideal) (φ := .f32)) (P V main_v66 : Arr S8x32x32x81 .f32) :=
  (preAll_ssa.unary V (mem_pre1 (List.mem_of_getElem? (i := 14) rfl)) (by decide))
theorem p_v68 : (P V main_v68 : Arr S8x32x32x81 .f32) = (Host.exp (F := Ideal) (φ := .f32)) (P V main_v67 : Arr S8x32x32x81 .f32) :=
  (preAll_ssa.unary V (mem_pre1 (List.mem_of_getElem? (i := 15) rfl)) (by decide))
theorem p_cst_6 : (P V main_cst_6 : Arr S_ .f32) = (constant (F := Ideal) S_ .f32 0x3F800000#32) :=
  (preAll_ssa.nullary V (mem_pre1 (List.mem_of_getElem? (i := 16) rfl)))
theorem p_v69 : (P V main_v69 : Arr S8x32x32x81 .f32) = (broadcastInDim S8x32x32x81 ![] bcast_S_S8x32x32x81 : (⟨S_, .f32⟩ : BufTy).Contents (Elt Ideal) → (⟨S8x32x32x81, .f32⟩ : BufTy).Contents (Elt Ideal)) (P V main_cst_6 : Arr S_ .f32) :=
  (preAll_ssa.unary V (mem_pre1 (List.mem_of_getElem? (i := 17) rfl)) (by decide))
theorem p_v70 : (P V main_v70 : Arr S8x32x32x81 .f32) = (addf (F := Ideal) (φ := .f32)) (P V main_v69 : Arr S8x32x32x81 .f32) (P V main_v68 : Arr S8x32x32x81 .f32) :=
  (preAll_ssa.binary V (mem_pre1 (List.mem_of_getElem? (i := 18) rfl)) (by decide) (by decide))
theorem p_cst_7 : (P V main_cst_7 : Arr S_ .f32) = (constant (F := Ideal) S_ .f32 0x3F800000#32) :=
  (preAll_ssa.nullary V (mem_pre1 (List.mem_of_getElem? (i := 19) rfl)))
theorem p_v71 : (P V main_v71 : Arr S8x32x32x81 .f32) = (broadcastInDim S8x32x32x81 ![] bcast_S_S8x32x32x81 : (⟨S_, .f32⟩ : BufTy).Contents (Elt Ideal) → (⟨S8x32x32x81, .f32⟩ : BufTy).Contents (Elt Ideal)) (P V main_cst_7 : Arr S_ .f32) :=
  (preAll_ssa.unary V (mem_pre1 (List.mem_of_getElem? (i := 20) rfl)) (by decide))
theorem p_v72 : (P V main_v72 : Arr S8x32x32x81 .f32) = (Host.divf (F := Ideal) (φ := .f32)) (P V main_v71 : Arr S8x32x32x81 .f32) (P V main_v70 : Arr S8x32x32x81 .f32) :=
  (preAll_ssa.binary V (mem_pre1 (List.mem_of_getElem? (i := 21) rfl)) (by decide) (by decide))
theorem p_v73 : (P V main_v73 : Arr S8x32x32x1 .f32) = ((extractStridedSlice S8x32x32x1 ![0, 0, 0, 0] · slices_S8x32x32x81_S8x32x32x1_0_0_0_0) : (⟨S8x32x32x81, .f32⟩ : BufTy).Contents (Elt Ideal) → (⟨S8x32x32x1, .f32⟩ : BufTy).Contents (Elt Ideal)) (P V main_v72 : Arr S8x32x32x81 .f32) :=
  (preAll_ssa.unary V (mem_pre1 (List.mem_of_getElem? (i := 22) rfl)) (by decide))
theorem p_v74 : (P V main_v74 : Arr S8x32x32 .f32) = shapeCast S8x32x32 (P V main_v73 : Arr S8x32x32x1 .f32) shapeCasts_S8x32x32x1_S8x32x32 :=
  (preAll_ssa.reshape V (mem_pre1 (List.mem_of_getElem? (i := 23) rfl)) (by decide))
theorem p_v75 : (P V main_v75 : Arr S8x32x32x80 .f32) = ((extractStridedSlice S8x32x32x80 ![0, 0, 0, 1] · slices_S8x32x32x81_S8x32x32x80_0_0_0_1) : (⟨S8x32x32x81, .f32⟩ : BufTy).Contents (Elt Ideal) → (⟨S8x32x32x80, .f32⟩ : BufTy).Contents (Elt Ideal)) (P V main_v72 : Arr S8x32x32x81 .f32) :=
  (preAll_ssa.unary V (mem_pre1 (List.mem_of_getElem? (i := 24) rfl)) (by decide))
theorem p_cst_8 : (P V main_cst_8 : Arr S_ .f32) = (constant (F := Ideal) S_ .f32 0xFF800000#32) :=
  (preAll_ssa.nullary V (mem_pre1 (List.mem_of_getElem? (i := 25) rfl)))
theorem p_v76 : (P V main_v76 : Arr S8x32x32 .f32) = ((fun x v => Host.reduce (FloatOps.maximumf (F := Ideal) (φ := .f32)) x v reducesTo_S8x32x32x80_S8x32x32_d3 h_S_) : (⟨S8x32x32x80, .f32⟩ : BufTy).Contents (Elt Ideal) → (⟨S_, .f32⟩ : BufTy).Contents (Elt Ideal) → (⟨S8x32x32, .f32⟩ : BufTy).Contents (Elt Ideal)) (P V main_v75 : Arr S8x32x32x80 .f32) (P V main_cst_8 : Arr S_ .f32) :=
  (preAll_ssa.binary V (mem_pre1 (List.mem_of_getElem? (i := 26) rfl)) (by decide) (by decide))
theorem p_v77 : (P V main_v77 : Arr S8x32x32 .f32) = (mulf (F := Ideal) (φ := .f32)) (P V main_v74 : Arr S8x32x32 .f32) (P V main_v76 : Arr S8x32x32 .f32) :=
  (preAll_ssa.binary V (mem_pre1 (List.mem_of_getElem? (i := 27) rfl)) (by decide) (by decide))
theorem p_v78 : (P V main_v78 : Arr S8x32x32 .f32) = (Host.sqrt (F := Ideal) (φ := .f32)) (P V main_v77 : Arr S8x32x32 .f32) :=
  (preAll_ssa.unary V (mem_pre1 (List.mem_of_getElem? (i := 28) rfl)) (by decide))
theorem p_v79 : (P V main_v79 : Arr S8x32x32x1 .f32) = (broadcastInDim S8x32x32x1 ![0, 1, 2] bcast_S8x32x32_S8x32x32x1_0_1_2 : (⟨S8x32x32, .f32⟩ : BufTy).Contents (Elt Ideal) → (⟨S8x32x32x1, .f32⟩ : BufTy).Contents (Elt Ideal)) (P V main_v78 : Arr S8x32x32 .f32) :=
  (preAll_ssa.unary V (mem_pre1 (List.mem_of_getElem? (i := 29) rfl)) (by decide))
theorem p_v80 : (P V main_v80 : Arr S8x32x32x85 .f32) = (concatenate S8x32x32x85 3 [⟨S8x32x32x2, (P V main_v64 : (⟨S8x32x32x2, .f32⟩ : BufTy).Contents (Elt Ideal))⟩, ⟨S8x32x32x2, (P V main_v65 : (⟨S8x32x32x2, .f32⟩ : BufTy).Contents (Elt Ideal))⟩, ⟨S8x32x32x1, (P V main_v79 : (⟨S8x32x32x1, .f32⟩ : BufTy).Contents (Elt Ideal))⟩, ⟨S8x32x32x80, (P V main_v75 : (⟨S8x32x32x80, .f32⟩ : BufTy).Contents (Elt Ideal))⟩] concatenates_S8x32x32x2_S8x32x32x2_S8x32x32x1_S8x32x32x80_S8x32x32x85_d3 : (⟨S8x32x32x85, .f32⟩ : BufTy).Contents (Elt Ideal)) :=
  (preAll_ssa.nary V (mem_pre1 (List.mem_of_getElem? (i := 30) rfl)) (by decide)).trans rfl
theorem p_v81 : (P V main_v81 : Arr S8x1024x85 .f32) = shapeCast S8x1024x85 (P V main_v80 : Arr S8x32x32x85 .f32) shapeCasts_S8x32x32x85_S8x1024x85 :=
  (preAll_ssa.reshape V (mem_pre1 (List.mem_of_getElem? (i := 31) rfl)) (by decide))
theorem p_v82 : (P V main_v82 : Arr S8x85x16x16 .f32) = (concatenate S8x85x16x16 1 [⟨S8x4x16x16, (P V main_arg6 : (⟨S8x4x16x16, .f32⟩ : BufTy).Contents (Elt Ideal))⟩, ⟨S8x1x16x16, (P V main_arg7 : (⟨S8x1x16x16, .f32⟩ : BufTy).Contents (Elt Ideal))⟩, ⟨S8x80x16x16, (P V main_arg8 : (⟨S8x80x16x16, .f32⟩ : BufTy).Contents (Elt Ideal))⟩] concatenates_S8x4x16x16_S8x1x16x16_S8x80x16x16_S8x85x16x16_d1 : (⟨S8x85x16x16, .f32⟩ : BufTy).Contents (Elt Ideal)) :=
  (preAll_ssa.nary V (mem_pre1 (List.mem_of_getElem? (i := 32) rfl)) (by decide)).trans rfl
theorem p_v83 : (P V main_v83 : Arr S8x16x16x85 .f32) = ((transpose S8x16x16x85 [0, 2, 3, 1] · transposes_S8x85x16x16_S8x16x16x85_0_2_3_1) : (⟨S8x85x16x16, .f32⟩ : BufTy).Contents (Elt Ideal) → (⟨S8x16x16x85, .f32⟩ : BufTy).Contents (Elt Ideal)) (P V main_v82 : Arr S8x85x16x16 .f32) :=
  (preAll_ssa.unary V (mem_pre1 (List.mem_of_getElem? (i := 33) rfl)) (by decide))
theorem p_v84 : (P V main_v84 : Arr S1x16x16x4 .f32) = shapeCast S1x16x16x4 (P V main_arg11 : Arr S256x4 .f32) shapeCasts_S256x4_S1x16x16x4 :=
  (preAll_ssa.reshape V (mem_pre1 (List.mem_of_getElem? (i := 34) rfl)) (by decide))
theorem p_v85 : (P V main_v85 : Arr S1x16x16x2 .f32) = ((extractStridedSlice S1x16x16x2 ![0, 0, 0, 0] · slices_S1x16x16x4_S1x16x16x2_0_0_0_0) : (⟨S1x16x16x4, .f32⟩ : BufTy).Contents (Elt Ideal) → (⟨S1x16x16x2, .f32⟩ : BufTy).Contents (Elt Ideal)) (P V main_v84 : Arr S1x16x16x4 .f32) :=
  (preAll_ssa.unary V (mem_pre1 (List.mem_of_getElem? (i := 35) rfl)) (by decide))
theorem p_v86 : (P V main_v86 : Arr S1x16x16x2 .f32) = ((extractStridedSlice S1x16x16x2 ![0, 0, 0, 2] · slices_S1x16x16x4_S1x16x16x2_0_0_0_2) : (⟨S1x16x16x4, .f32⟩ : BufTy).Contents (Elt Ideal) → (⟨S1x16x16x2, .f32⟩ : BufTy).Contents (Elt Ideal)) (P V main_v84 : Arr S1x16x16x4 .f32) :=
  (preAll_ssa.unary V (mem_pre1 (List.mem_of_getElem? (i := 36) rfl)) (by decide))
theorem p_v87 : (P V main_v87 : Arr S1x16x16x2 .f32) = (addf (F := Ideal) (φ := .f32)) (P V main_v85 : Arr S1x16x16x2 .f32) (P V main_v86 : Arr S1x16x16x2 .f32) :=
  (preAll_ssa.binary V (mem_pre1 (List.mem_of_getElem? (i := 37) rfl)) (by decide) (by decide))
theorem p_cst_9 : (P V main_cst_9 : Arr S_ .f32) = (constant (F := Ideal) S_ .f32 0x3F000000#32) :=
  (preAll_ssa.nullary V (mem_pre1 (List.mem_of_getElem? (i := 38) rfl)))
theorem p_v88 : (P V main_v88 : Arr S1x16x16x2 .f32) = (broadcastInDim S1x16x16x2 ![] bcast_S_S1x16x16x2 : (⟨S_, .f32⟩ : BufTy).Contents (Elt Ideal) → (⟨S1x16x16x2, .f32⟩ : BufTy).Contents (Elt Ideal)) (P V main_cst_9 : Arr S_ .f32) :=
  (preAll_ssa.unary V (mem_pre1 (List.mem_of_getElem? (i := 39) rfl)) (by decide))
theorem p_v89 : (P V main_v89 : Arr S1x16x16x2 .f32) = (mulf (F := Ideal) (φ := .f32)) (P V main_v88 : Arr S1x16x16x2 .f32) (P V main_v87 : Arr S1x16x16x2 .f32) :=
  (preAll_ssa.binary V (mem_pre1 (List.mem_of_getElem? (i := 40) rfl)) (by decide) (by decide))
theorem p_v90 : (P V main_v90 : Arr S1x16x16x2 .f32) = ((extractStridedSlice S1x16x16x2 ![0, 0, 0, 2] · slices_S1x16x16x4_S1x16x16x2_0_0_0_2) : (⟨S1x16x16x4, .f32⟩ : BufTy).Contents (Elt Ideal) → (⟨S1x16x16x2, .f32⟩ : BufTy).Contents (Elt Ideal)) (P V main_v84 : Arr S1x16x16x4 .f32) :=
  (preAll_ssa.unary V (mem_pre1 (List.mem_of_getElem? (i := 41) rfl)) (by decide))
theorem p_v91 : (P V main_v91 : Arr S1x16x16x2 .f32) = ((extractStridedSlice S1x16x16x2 ![0, 0, 0, 0] · slices_S1x16x16x4_S1x16x16x2_0_0_0_0) : (⟨S1x16x16x4, .f32⟩ : BufTy).Contents (Elt Ideal) → (⟨S1x16x16x2, .f32⟩ : BufTy).Contents (Elt Ideal)) (P V main_v84 : Arr S1x16x16x4 .f32) :=
  (preAll_ssa.unary V (mem_pre1 (List.mem_of_getElem? (i := 42) rfl)) (by decide))
theorem p_v92 : (P V main_v92 : Arr S1x16x16x2 .f32) = (subf (F := Ideal) (φ := .f32)) (P V main_v90 : Arr S1x16x16x2 .f32) (P V main_v91 : Arr S1x16x16x2 .f32) :=
  (preAll_ssa.binary V (mem_pre1 (List.mem_of_getElem? (i := 43) rfl)) (by decide) (by decide))
theorem p_v93 : (P V main_v93 : Arr S8x16x16x2 .f32) = ((extractStridedSlice S8x16x16x2 ![0, 0, 0, 0] · slices_S8x16x16x85_S8x16x16x2_0_0_0_0) : (⟨S8x16x16x85, .f32⟩ : BufTy).Contents (Elt Ideal) → (⟨S8x16x16x2, .f32⟩ : BufTy).Contents (Elt Ideal)) (P V main_v83 : Arr S8x16x16x85 .f32) :=
  (preAll_ssa.unary V (mem_pre1 (List.mem_of_getElem? (i := 44) rfl)) (by decide))
theorem p_v94 : (P V main_v94 : Arr S8x16x16x2 .f32) = (broadcastInDim S8x16x16x2 ![0, 1, 2, 3] bcast_S1x16x16x2_S8x16x16x2_0_1_2_3 : (⟨S1x16x16x2, .f32⟩ : BufTy).Contents (Elt Ideal) → (⟨S8x16x16x2, .f32⟩ : BufTy).Contents (Elt Ideal)) (P V main_v92 : Arr S1x16x16x2 .f32) :=
  (preAll_ssa.unary V (mem_pre1 (List.mem_of_getElem? (i := 45) rfl)) (by decide))
theorem p_v95 : (P V main_v95 : Arr S8x16x16x2 .f32) = (mulf (F := Ideal) (φ := .f32)) (P V main_v93 : Arr S8x16x16x2 .f32) (P V main_v94 : Arr S8x16x16x2 .f32) :=
  (preAll_ssa.binary V (mem_pre1 (List.mem_of_getElem? (i := 46) rfl)) (by decide) (by decide))
theorem p_v96 : (P V main_v96 : Arr S8x16x16x2 .f32) = (broadcastInDim S8x16x16x2 ![0, 1, 2, 3] bcast_S1x16x16x2_S8x16x16x2_0_1_2_3 : (⟨S1x16x16x2, .f32⟩ : BufTy).Contents (Elt Ideal) → (⟨S8x16x16x2, .f32⟩ : BufTy).Contents (Elt Ideal)) (P V main_v89 : Arr S1x16x16x2 .f32) :=
  (preAll_ssa.unary V (mem_pre1 (List.mem_of_getElem? (i := 47) rfl)) (by decide))
theorem p_v97 : (P V main_v97 : Arr S8x16x16x2 .f32) = (subf (F := Ideal) (φ := .f32)) (P V main_v96 : Arr S8x16x16x2 .f32) (P V main_v95 : Arr S8x16x16x2 .f32) :=
  (preAll_ssa.binary V (mem_pre1 (List.mem_of_getElem? (i := 48) rfl)) (by decide) (by decide))
theorem p_v98 : (P V main_v98 : Arr S8x16x16x2 .f32) = ((extractStridedSlice S8x16x16x2 ![0, 0, 0, 2] · slices_S8x16x16x85_S8x16x16x2_0_0_0_2) : (⟨S8x16x16x85, .f32⟩ : BufTy).Contents (Elt Ideal) → (⟨S8x16x16x2, .f32⟩ : BufTy).Contents (Elt Ideal)) (P V main_v83 : Arr S8x16x16x85 .f32) :=
  (preAll_ssa.unary V (mem_pre1 (List.mem_of_getElem? (i := 49) rfl)) (by decide))
theorem p_v99 : (P V main_v99 : Arr S8x16x16x2 .f32) = (broadcastInDim S8x16x16x2 ![0, 1, 2, 3] bcast_S1x16x16x2_S8x16x16x2_0_1_2_3 : (⟨S1x16x16x2, .f32⟩ : BufTy).Contents (Elt Ideal) → (⟨S8x16x16x2, .f32⟩ : BufTy).Contents (Elt Ideal)) (P V main_v92 : Arr S1x16x16x2 .f32) :=
  (preAll_ssa.unary V (mem_pre1 (List.mem_of_getElem? (i := 50) rfl)) (by decide))
theorem p_v100 : (P V main_v100 : Arr S8x16x16x2 .f32) = (mulf (F := Ideal) (φ := .f32)) (P V main_v98 : Arr S8x16x16x2 .f32) (P V main_v99 : Arr S8x16x16x2 .f32) :=
  (preAll_ssa.binary V (mem_pre1 (List.mem_of_getElem? (i := 51) rfl)) (by decide) (by decide))
theorem p_v101 : (P V main_v101 : Arr S8x16x16x2 .f32) = (broadcastInDim S8x16x16x2 ![0, 1, 2, 3] bcast_S1x16x16x2_S8x16x16x2_0_1_2_3 : (⟨S1x16x16x2, .f32⟩ : BufTy).Contents (Elt Ideal) → (⟨S8x16x16x2, .f32⟩ : BufTy).Contents (Elt Ideal)) (P V main_v89 : Arr S1x16x16x2 .f32) :=
  (preAll_ssa.unary V (mem_pre1 (List.mem_of_getElem? (i := 52) rfl)) (by decide))
theorem p_v102 : (P V main_v102 : Arr S8x16x16x2 .f32) = (addf (F := Ideal) (φ := .f32)) (P V main_v101 : Arr S8x16x16x2 .f32) (P V main_v100 : Arr S8x16x16x2 .f32) :=
  (preAll_ssa.binary V (mem_pre1 (List.mem_of_getElem? (i := 53) rfl)) (by decide) (by decide))
theorem p_v103 : (P V main_v103 : Arr S8x16x16x2 .f32) = (addf (F := Ideal) (φ := .f32)) (P V main_v97 : Arr S8x16x16x2 .f32) (P V main_v102 : Arr S8x16x16x2 .f32) :=
  (preAll_ssa.binary V (mem_pre1 (List.mem_of_getElem? (i := 54) rfl)) (by decide) (by decide))
theorem p_cst_10 : (P V main_cst_10 : Arr S_ .f32) = (constant (F := Ideal) S_ .f32 0x3F000000#32) :=
  (preAll_ssa.nullary V (mem_pre1 (List.mem_of_getElem? (i := 55) rfl)))
theorem p_v104 : (P V main_v104 : Arr S8x16x16x2 .f32) = (broadcastInDim S8x16x16x2 ![] bcast_S_S8x16x16x2 : (⟨S_, .f32⟩ : BufTy).Contents (Elt Ideal) → (⟨S8x16x16x2, .f32⟩ : BufTy).Contents (Elt Ideal)) (P V main_cst_10 : Arr S_ .f32) :=
  (preAll_ssa.unary V (mem_pre1 (List.mem_of_getElem? (i := 56) rfl)) (by decide))
theorem p_v105 : (P V main_v105 : Arr S8x16x16x2 .f32) = (mulf (F := Ideal) (φ := .f32)) (P V main_v104 : Arr S8x16x16x2 .f32) (P V main_v103 : Arr S8x16x16x2 .f32) :=
  (preAll_ssa.binary V (mem_pre1 (List.mem_of_getElem? (i := 57) rfl)) (by decide) (by decide))
theorem p_v106 : (P V main_v106 : Arr S8x16x16x2 .f32) = (subf (F := Ideal) (φ := .f32)) (P V main_v102 : Arr S8x16x16x2 .f32) (P V main_v97 : Arr S8x16x16x2 .f32) :=
  (preAll_ssa.binary V (mem_pre1 (List.mem_of_getElem? (i := 58) rfl)) (by decide) (by decide))
theorem p_v107 : (P V main_v107 : Arr S8x16x16x81 .f32) = ((extractStridedSlice S8x16x16x81 ![0, 0, 0, 4] · slices_S8x16x16x85_S8x16x16x81_0_0_0_4) : (⟨S8x16x16x85, .f32⟩ : BufTy).Contents (Elt Ideal) → (⟨S8x16x16x81, .f32⟩ : BufTy).Contents (Elt Ideal)) (P V main_v83 : Arr S8x16x16x85 .f32) :=
  (preAll_ssa.unary V (mem_pre1 (List.mem_of_getElem? (i := 59) rfl)) (by decide))
theorem p_v108 : (P V main_v108 : Arr S8x16x16x81 .f32) = (Host.negf (F := Ideal) (φ := .f32)) (P V main_v107 : Arr S8x16x16x81 .f32) :=
  (preAll_ssa.unary V (mem_pre2 (List.mem_of_getElem? (i := 0) rfl)) (by decide))
theorem p_v109 : (P V main_v109 : Arr S8x16x16x81 .f32) = (Host.exp (F := Ideal) (φ := .f32)) (P V main_v108 : Arr S8x16x16x81 .f32) :=
  (preAll_ssa.unary V (mem_pre2 (List.mem_of_getElem? (i := 1) rfl)) (by decide))
theorem p_cst_11 : (P V main_cst_11 : Arr S_ .f32) = (constant (F := Ideal) S_ .f32 0x3F800000#32) :=
  (preAll_ssa.nullary V (mem_pre2 (List.mem_of_getElem? (i := 2) rfl)))
theorem p_v110 : (P V main_v110 : Arr S8x16x16x81 .f32) = (broadcastInDim S8x16x16x81 ![] bcast_S_S8x16x16x81 : (⟨S_, .f32⟩ : BufTy).Contents (Elt Ideal) → (⟨S8x16x16x81, .f32⟩ : BufTy).Contents (Elt Ideal)) (P V main_cst_11 : Arr S_ .f32) :=
  (preAll_ssa.unary V (mem_pre2 (List.mem_of_getElem? (i := 3) rfl)) (by decide))
theorem p_v111 : (P V main_v111 : Arr S8x16x16x81 .f32) = (addf (F := Ideal) (φ := .f32)) (P V main_v110 : Arr S8x16x16x81 .f32) (P V main_v109 : Arr S8x16x16x81 .f32) :=
  (preAll_ssa.binary V (mem_pre2 (List.mem_of_getElem? (i := 4) rfl)) (by decide) (by decide))
theorem p_cst_12 : (P V main_cst_12 : Arr S_ .f32) = (constant (F := Ideal) S_ .f32 0x3F800000#32) :=
  (preAll_ssa.nullary V (mem_pre2 (List.mem_of_getElem? (i := 5) rfl)))
theorem p_v112 : (P V main_v112 : Arr S8x16x16x81 .f32) = (broadcastInDim S8x16x16x81 ![] bcast_S_S8x16x16x81 : (⟨S_, .f32⟩ : BufTy).Contents (Elt Ideal) → (⟨S8x16x16x81, .f32⟩ : BufTy).Contents (Elt Ideal)) (P V main_cst_12 : Arr S_ .f32) :=
  (preAll_ssa.unary V (mem_pre2 (List.mem_of_getElem? (i := 6) rfl)) (by decide))
theorem p_v113 : (P V main_v113 : Arr S8x16x16x81 .f32) = (Host.divf (F := Ideal) (φ := .f32)) (P V main_v112 : Arr S8x16x16x81 .f32) (P V main_v111 : Arr S8x16x16x81 .f32) :=
  (preAll_ssa.binary V (mem_pre2 (List.mem_of_getElem? (i := 7) rfl)) (by decide) (by decide))
theorem p_v114 : (P V main_v114 : Arr S8x16x16x1 .f32) = ((extractStridedSlice S8x16x16x1 ![0, 0, 0, 0] · slices_S8x16x16x81_S8x16x16x1_0_0_0_0) : (⟨S8x16x16x81, .f32⟩ : BufTy).Contents (Elt Ideal) → (⟨S8x16x16x1, .f32⟩ : BufTy).Contents (Elt Ideal)) (P V main_v113 : Arr S8x16x16x81 .f32) :=
  (preAll_ssa.unary V (mem_pre2 (List.mem_of_getElem? (i := 8) rfl)) (by decide))
theorem p_v115 : (P V main_v115 : Arr S8x16x16 .f32) = shapeCast S8x16x16 (P V main_v114 : Arr S8x16x16x1 .f32) shapeCasts_S8x16x16x1_S8x16x16 :=
  (preAll_ssa.reshape V (mem_pre2 (List.mem_of_getElem? (i := 9) rfl)) (by decide))
theorem p_v116 : (P V main_v116 : Arr S8x16x16x80 .f32) = ((extractStridedSlice S8x16x16x80 ![0, 0, 0, 1] · slices_S8x16x16x81_S8x16x16x80_0_0_0_1) : (⟨S8x16x16x81, .f32⟩ : BufTy).Contents (Elt Ideal) → (⟨S8x16x16x80, .f32⟩ : BufTy).Contents (Elt Ideal)) (P V main_v113 : Arr S8x16x16x81 .f32) :=
  (preAll_ssa.unary V (mem_pre2 (List.mem_of_getElem? (i := 10) rfl)) (by decide))
theorem p_cst_13 : (P V main_cst_13 : Arr S_ .f32) = (constant (F := Ideal) S_ .f32 0xFF800000#32) :=
  (preAll_ssa.nullary V (mem_pre2 (List.mem_of_getElem? (i := 11) rfl)))
theorem p_v117 : (P V main_v117 : Arr S8x16x16 .f32) = ((fun x v => Host.reduce (FloatOps.maximumf (F := Ideal) (φ := .f32)) x v reducesTo_S8x16x16x80_S8x16x16_d3 h_S_) : (⟨S8x16x16x80, .f32⟩ : BufTy).Contents (Elt Ideal) → (⟨S_, .f32⟩ : BufTy).Contents (Elt Ideal) → (⟨S8x16x16, .f32⟩ : BufTy).Contents (Elt Ideal)) (P V main_v116 : Arr S8x16x16x80 .f32) (P V main_cst_13 : Arr S_ .f32) :=
  (preAll_ssa.binary V (mem_pre2 (List.mem_of_getElem? (i := 12) rfl)) (by decide) (by decide))
theorem p_v118 : (P V main_v118 : Arr S8x16x16 .f32) = (mulf (F := Ideal) (φ := .f32)) (P V main_v115 : Arr S8x16x16 .f32) (P V main_v117 : Arr S8x16x16 .f32) :=
  (preAll_ssa.binary V (mem_pre2 (List.mem_of_getElem? (i := 13) rfl)) (by decide) (by decide))
theorem p_v119 : (P V main_v119 : Arr S8x16x16 .f32) = (Host.sqrt (F := Ideal) (φ := .f32)) (P V main_v118 : Arr S8x16x16 .f32) :=
  (preAll_ssa.unary V (mem_pre2 (List.mem_of_getElem? (i := 14) rfl)) (by decide))
theorem p_v120 : (P V main_v120 : Arr S8x16x16x1 .f32) = (broadcastInDim S8x16x16x1 ![0, 1, 2] bcast_S8x16x16_S8x16x16x1_0_1_2 : (⟨S8x16x16, .f32⟩ : BufTy).Contents (Elt Ideal) → (⟨S8x16x16x1, .f32⟩ : BufTy).Contents (Elt Ideal)) (P V main_v119 : Arr S8x16x16 .f32) :=
  (preAll_ssa.unary V (mem_pre2 (List.mem_of_getElem? (i := 15) rfl)) (by decide))
theorem p_v121 : (P V main_v121 : Arr S8x16x16x85 .f32) = (concatenate S8x16x16x85 3 [⟨S8x16x16x2, (P V main_v105 : (⟨S8x16x16x2, .f32⟩ : BufTy).Contents (Elt Ideal))⟩, ⟨S8x16x16x2, (P V main_v106 : (⟨S8x16x16x2, .f32⟩ : BufTy).Contents (Elt Ideal))⟩, ⟨S8x16x16x1, (P V main_v120 : (⟨S8x16x16x1, .f32⟩ : BufTy).Contents (Elt Ideal))⟩, ⟨S8x16x16x80, (P V main_v116 : (⟨S8x16x16x80, .f32⟩ : BufTy).Contents (Elt Ideal))⟩] concatenates_S8x16x16x2_S8x16x16x2_S8x16x16x1_S8x16x16x80_S8x16x16x85_d3 : (⟨S8x16x16x85, .f32⟩ : BufTy).Contents (Elt Ideal)) :=
  (preAll_ssa.nary V (mem_pre2 (List.mem_of_getElem? (i := 16) rfl)) (by decide)).trans rfl
theorem p_v122 : (P V main_v122 : Arr S8x256x85 .f32) = shapeCast S8x256x85 (P V main_v121 : Arr S8x16x16x85 .f32) shapeCasts_S8x16x16x85_S8x256x85 :=
  (preAll_ssa.reshape V (mem_pre2 (List.mem_of_getElem? (i := 17) rfl)) (by decide))
theorem p_v123 : (P V main_v123 : Arr S8x5376x85 .f32) = (concatenate S8x5376x85 1 [⟨S8x4096x85, (P V main_v40 : (⟨S8x4096x85, .f32⟩ : BufTy).Contents (Elt Ideal))⟩, ⟨S8x1024x85, (P V main_v81 : (⟨S8x1024x85, .f32⟩ : BufTy).Contents (Elt Ideal))⟩, ⟨S8x256x85, (P V main_v122 : (⟨S8x256x85, .f32⟩ : BufTy).Contents (Elt Ideal))⟩] concatenates_S8x4096x85_S8x1024x85_S8x256x85_S8x5376x85_d1 : (⟨S8x5376x85, .f32⟩ : BufTy).Contents (Elt Ideal)) :=
  (preAll_ssa.nary V (mem_pre2 (List.mem_of_getElem? (i := 18) rfl)) (by decide)).trans rfl
theorem p_v124 : (P V main_v124 : Arr S8x5376x4 .f32) = ((extractStridedSlice S8x5376x4 ![0, 0, 0] · slices_S8x5376x85_S8x5376x4_0_0_0) : (⟨S8x5376x85, .f32⟩ : BufTy).Contents (Elt Ideal) → (⟨S8x5376x4, .f32⟩ : BufTy).Contents (Elt Ideal)) (P V main_v123 : Arr S8x5376x85 .f32) :=
  (preAll_ssa.unary V (mem_pre2 (List.mem_of_getElem? (i := 19) rfl)) (by decide))
theorem p_v125 : (P V main_v125 : Arr S8x5376x2 .f32) = ((extractStridedSlice S8x5376x2 ![0, 0, 2] · slices_S8x5376x4_S8x5376x2_0_0_2) : (⟨S8x5376x4, .f32⟩ : BufTy).Contents (Elt Ideal) → (⟨S8x5376x2, .f32⟩ : BufTy).Contents (Elt Ideal)) (P V main_v124 : Arr S8x5376x4 .f32) :=
  (preAll_ssa.unary V (mem_pre2 (List.mem_of_getElem? (i := 20) rfl)) (by decide))
theorem p_cst_14 : (P V main_cst_14 : Arr S_ .f32) = (constant (F := Ideal) S_ .f32 0x3F000000#32) :=
  (preAll_ssa.nullary V (mem_pre2 (List.mem_of_getElem? (i := 21) rfl)))
theorem p_v126 : (P V main_v126 : Arr S8x5376x2 .f32) = (broadcastInDim S8x5376x2 ![] bcast_S_S8x5376x2 : (⟨S_, .f32⟩ : BufTy).Contents (Elt Ideal) → (⟨S8x5376x2, .f32⟩ : BufTy).Contents (Elt Ideal)) (P V main_cst_14 : Arr S_ .f32) :=
  (preAll_ssa.unary V (mem_pre2 (List.mem_of_getElem? (i := 22) rfl)) (by decide))
theorem p_v127 : (P V main_v127 : Arr S8x5376x2 .f32) = (mulf (F := Ideal) (φ := .f32)) (P V main_v126 : Arr S8x5376x2 .f32) (P V main_v125 : Arr S8x5376x2 .f32) :=
  (preAll_ssa.binary V (mem_pre2 (List.mem_of_getElem? (i := 23) rfl)) (by decide) (by decide))
theorem p_v128 : (P V main_v128 : Arr S8x5376x2 .f32) = ((extractStridedSlice S8x5376x2 ![0, 0, 0] · slices_S8x5376x4_S8x5376x2_0_0_0) : (⟨S8x5376x4, .f32⟩ : BufTy).Contents (Elt Ideal) → (⟨S8x5376x2, .f32⟩ : BufTy).Contents (Elt Ideal)) (P V main_v124 : Arr S8x5376x4 .f32) :=
  (preAll_ssa.unary V (mem_pre2 (List.mem_of_getElem? (i := 24) rfl)) (by decide))
theorem p_v129 : (P V main_v129 : Arr S8x5376x2 .f32) = (subf (F := Ideal) (φ := .f32)) (P V main_v128 : Arr S8x5376x2 .f32) (P V main_v127 : Arr S8x5376x2 .f32) :=
  (preAll_ssa.binary V (mem_pre2 (List.mem_of_getElem? (i := 25) rfl)) (by decide) (by decide))
theorem p_v130 : (P V main_v130 : Arr S8x5376x2 .f32) = ((extractStridedSlice S8x5376x2 ![0, 0, 0] · slices_S8x5376x4_S8x5376x2_0_0_0) : (⟨S8x5376x4, .f32⟩ : BufTy).Contents (Elt Ideal) → (⟨S8x5376x2, .f32⟩ : BufTy).Contents (Elt Ideal)) (P V main_v124 : Arr S8x5376x4 .f32) :=
  (preAll_ssa.unary V (mem_pre2 (List.mem_of_getElem? (i := 26) rfl)) (by decide))
theorem p_v131 : (P V main_v131 : Arr S8x5376x2 .f32) = (addf (F := Ideal) (φ := .f32)) (P V main_v130 : Arr S8x5376x2 .f32) (P V main_v127 : Arr S8x5376x2 .f32) :=
  (preAll_ssa.binary V (mem_pre2 (List.mem_of_getElem? (i := 27) rfl)) (by decide) (by decide))
theorem p_v132 : (P V main_v132 : Arr S8x5376x4 .f32) = ((fun a b => concatenate S8x5376x4 2 [⟨S8x5376x2, a⟩, ⟨S8x5376x2, b⟩] concatenates_S8x5376x2_S8x5376x2_S8x5376x4_d2) : (⟨S8x5376x2, .f32⟩ : BufTy).Contents (Elt Ideal) → (⟨S8x5376x2, .f32⟩ : BufTy).Contents (Elt Ideal) → (⟨S8x5376x4, .f32⟩ : BufTy).Contents (Elt Ideal)) (P V main_v129 : Arr S8x5376x2 .f32) (P V main_v131 : Arr S8x5376x2 .f32) :=
  (preAll_ssa.binary V (mem_pre2 (List.mem_of_getElem? (i := 28) rfl)) (by decide) (by decide))
theorem p_v133 : (P V main_v133 : Arr S8x5376x1 .f32) = ((extractStridedSlice S8x5376x1 ![0, 0, 4] · slices_S8x5376x85_S8x5376x1_0_0_4) : (⟨S8x5376x85, .f32⟩ : BufTy).Contents (Elt Ideal) → (⟨S8x5376x1, .f32⟩ : BufTy).Contents (Elt Ideal)) (P V main_v123 : Arr S8x5376x85 .f32) :=
  (preAll_ssa.unary V (mem_pre2 (List.mem_of_getElem? (i := 29) rfl)) (by decide))
theorem p_v134 : (P V main_v134 : Arr S8x5376 .f32) = shapeCast S8x5376 (P V main_v133 : Arr S8x5376x1 .f32) shapeCasts_S8x5376x1_S8x5376 :=
  (preAll_ssa.reshape V (mem_pre2 (List.mem_of_getElem? (i := 30) rfl)) (by decide))
theorem p_v135 : (P V main_v135 : Arr S8x5376x80 .f32) = ((extractStridedSlice S8x5376x80 ![0, 0, 5] · slices_S8x5376x85_S8x5376x80_0_0_5) : (⟨S8x5376x85, .f32⟩ : BufTy).Contents (Elt Ideal) → (⟨S8x5376x80, .f32⟩ : BufTy).Contents (Elt Ideal)) (P V main_v123 : Arr S8x5376x85 .f32) :=
  (preAll_ssa.unary V (mem_pre2 (List.mem_of_getElem? (i := 31) rfl)) (by decide))
theorem p_call0_v0 : (P V main_call0_v0 : Arr S8x5376x80 .i32) = (iotaInDim S8x5376x80 32 2) :=
  (preAll_ssa.nullary V (mem_pre3 (List.mem_of_getElem? (i := 0) rfl)))
theorem p_call0_cst : (P V main_call0_cst : Arr S_ .f32) = (constant (F := Ideal) S_ .f32 0xFF800000#32) :=
  (preAll_ssa.nullary V (mem_pre3 (List.mem_of_getElem? (i := 1) rfl)))
theorem p_call0_c : (P V main_call0_c : Arr S_ .i32) = (constantI S_ 32 0#32) :=
  (preAll_ssa.nullary V (mem_pre3 (List.mem_of_getElem? (i := 2) rfl)))
theorem p_call0_v1_0 : (P V main_call0_v1_0 : Arr S8x5376 .f32) = (fun x y u v j => (Host.argReduce (reducer_argmax_f32_i32 (F := Ideal)) x y u v reducesTo_S8x5376x80_S8x5376_d2 h_S_ j).1) (P V main_v135 : Arr S8x5376x80 .f32) (P V main_call0_v0 : Arr S8x5376x80 .i32) (P V main_call0_cst : Arr S_ .f32) (P V main_call0_c : Arr S_ .i32) :=
  (preAll_ssa.quaternary V (mem_pre3 (List.mem_of_getElem? (i := 3) rfl)) (by decide) (by decide) (by decide) (by decide))
theorem p_v136 : (P V main_v136 : Arr S8x5376 .i32) = (fun x y u v j => (Host.argReduce (reducer_argmax_f32_i32 (F := Ideal)) x y u v reducesTo_S8x5376x80_S8x5376_d2 h_S_ j).2) (P V main_v135 : Arr S8x5376x80 .f32) (P V main_call0_v0 : Arr S8x5376x80 .i32) (P V main_call0_cst : Arr S_ .f32) (P V main_call0_c : Arr S_ .i32) :=
  (preAll_ssa.quaternary V (mem_pre3 (List.mem_of_getElem? (i := 4) rfl)) (by decide) (by decide) (by decide) (by decide))
theorem p_cst_15 : (P V main_cst_15 : Arr S_ .f32) = (constant (F := Ideal) S_ .f32 0x3E4CCCCD#32) :=
  (preAll_ssa.nullary V (mem_pre4 (List.mem_of_getElem? (i := 0) rfl)))
theorem p_v137 : (P V main_v137 : Arr S8x5376 .f32) = (broadcastInDim S8x5376 ![] bcast_S_S8x5376 : (⟨S_, .f32⟩ : BufTy).Contents (Elt Ideal) → (⟨S8x5376, .f32⟩ : BufTy).Contents (Elt Ideal)) (P V main_cst_15 : Arr S_ .f32) :=
  (preAll_ssa.unary V (mem_pre4 (List.mem_of_getElem? (i := 1) rfl)) (by decide))
theorem p_v138 : (P V main_v138 : Arr S8x5376 .i1) = (cmpf (F := Ideal) (φ := .f32) .ogt) (P V main_v134 : Arr S8x5376 .f32) (P V main_v137 : Arr S8x5376 .f32) :=
  (preAll_ssa.binary V (mem_pre4 (List.mem_of_getElem? (i := 2) rfl)) (by decide) (by decide))
theorem p_cst_16 : (P V main_cst_16 : Arr S_ .f32) = (constant (F := Ideal) S_ .f32 0xBF800000#32) :=
  (preAll_ssa.nullary V (mem_pre4 (List.mem_of_getElem? (i := 3) rfl)))
theorem p_call1_v0 : (P V main_call1_v0 : Arr S_ .f32) = id (P V main_cst_16 : Arr S_ .f32) :=
  (preAll_ssa.unary V (mem_pre5 (List.mem_of_getElem? (i := 0) rfl)) (by decide))
theorem p_call1_v1 : (P V main_call1_v1 : Arr S5376 .f32) = (broadcastInDim S5376 ![] bcast_S_S5376) (P V main_call1_v0 : Arr S_ .f32) :=
  (preAll_ssa.unary V (mem_pre5 (List.mem_of_getElem? (i := 1) rfl)) (by decide))
theorem p_call1_v2 : (P V main_call1_v2 : Arr S8x5376 .f32) = (broadcastInDim S8x5376 ![1] bcast_S5376_S8x5376_1) (P V main_call1_v1 : Arr S5376 .f32) :=
  (preAll_ssa.unary V (mem_pre5 (List.mem_of_getElem? (i := 2) rfl)) (by decide))
theorem p_v139 : (P V main_v139 : Arr S8x5376 .f32) = select (P V main_v138 : Arr S8x5376 .i1) (P V main_v134 : Arr S8x5376 .f32) (P V main_call1_v2 : Arr S8x5376 .f32) :=
  (preAll_ssa.ternary V (mem_pre5 (List.mem_of_getElem? (i := 3) rfl)) (by decide) (by decide) (by decide))
theorem p_v140 : (P V main_v140 : Arr S8x5376 .f32) = (sitofp (F := Ideal) .f32 : (⟨S8x5376, .i32⟩ : BufTy).Contents (Elt Ideal) → (⟨S8x5376, .f32⟩ : BufTy).Contents (Elt Ideal)) (P V main_v136 : Arr S8x5376 .i32) :=
  (preAll_ssa.unary V (mem_pre6 (List.mem_of_getElem? (i := 0) rfl)) (by decide))
theorem p_v141 : (P V main_v141 : Arr S8x5376x1 .f32) = (broadcastInDim S8x5376x1 ![0, 1] bcast_S8x5376_S8x5376x1_0_1 : (⟨S8x5376, .f32⟩ : BufTy).Contents (Elt Ideal) → (⟨S8x5376x1, .f32⟩ : BufTy).Contents (Elt Ideal)) (P V main_v140 : Arr S8x5376 .f32) :=
  (preAll_ssa.unary V (mem_pre6 (List.mem_of_getElem? (i := 1) rfl)) (by decide))
theorem p_cst_17 : (P V main_cst_17 : Arr S_ .f32) = (constant (F := Ideal) S_ .f32 0x45800000#32) :=
  (preAll_ssa.nullary V (mem_pre6 (List.mem_of_getElem? (i := 2) rfl)))
theorem p_v142 : (P V main_v142 : Arr S8x5376x1 .f32) = (broadcastInDim S8x5376x1 ![] bcast_S_S8x5376x1 : (⟨S_, .f32⟩ : BufTy).Contents (Elt Ideal) → (⟨S8x5376x1, .f32⟩ : BufTy).Contents (Elt Ideal)) (P V main_cst_17 : Arr S_ .f32) :=
  (preAll_ssa.unary V (mem_pre6 (List.mem_of_getElem? (i := 3) rfl)) (by decide))
theorem p_v143 : (P V main_v143 : Arr S8x5376x1 .f32) = (mulf (F := Ideal) (φ := .f32)) (P V main_v141 : Arr S8x5376x1 .f32) (P V main_v142 : Arr S8x5376x1 .f32) :=
  (preAll_ssa.binary V (mem_pre6 (List.mem_of_getElem? (i := 4) rfl)) (by decide) (by decide))
theorem p_v144 : (P V main_v144 : Arr S8x5376x4 .f32) = (broadcastInDim S8x5376x4 ![0, 1, 2] bcast_S8x5376x1_S8x5376x4_0_1_2 : (⟨S8x5376x1, .f32⟩ : BufTy).Contents (Elt Ideal) → (⟨S8x5376x4, .f32⟩ : BufTy).Contents (Elt Ideal)) (P V main_v143 : Arr S8x5376x1 .f32) :=
  (preAll_ssa.unary V (mem_pre6 (List.mem_of_getElem? (i := 5) rfl)) (by decide))
theorem p_v145 : (P V main_v145 : Arr S8x5376x4 .f32) = (addf (F := Ideal) (φ := .f32)) (P V main_v132 : Arr S8x5376x4 .f32) (P V main_v144 : Arr S8x5376x4 .f32) :=
  (preAll_ssa.binary V (mem_pre6 (List.mem_of_getElem? (i := 6) rfl)) (by decide) (by decide))
theorem p_v146 : (P V main_v146 : Arr S8x5376x1 .f32) = ((extractStridedSlice S8x5376x1 ![0, 0, 2] · slices_S8x5376x4_S8x5376x1_0_0_2) : (⟨S8x5376x4, .f32⟩ : BufTy).Contents (Elt Ideal) → (⟨S8x5376x1, .f32⟩ : BufTy).Contents (Elt Ideal)) (P V main_v145 : Arr S8x5376x4 .f32) :=
  (preAll_ssa.unary V (mem_pre6 (List.mem_of_getElem? (i := 7) rfl)) (by decide))
theorem p_v147 : (P V main_v147 : Arr S8x5376 .f32) = shapeCast S8x5376 (P V main_v146 : Arr S8x5376x1 .f32) shapeCasts_S8x5376x1_S8x5376 :=
  (preAll_ssa.reshape V (mem_pre6 (List.mem_of_getElem? (i := 8) rfl)) (by decide))
theorem p_v148 : (P V main_v148 : Arr S8x5376x1 .f32) = ((extractStridedSlice S8x5376x1 ![0, 0, 0] · slices_S8x5376x4_S8x5376x1_0_0_0) : (⟨S8x5376x4, .f32⟩ : BufTy).Contents (Elt Ideal) → (⟨S8x5376x1, .f32⟩ : BufTy).Contents (Elt Ideal)) (P V main_v145 : Arr S8x5376x4 .f32) :=
  (preAll_ssa.unary V (mem_pre6 (List.mem_of_getElem? (i := 9) rfl)) (by decide))
theorem p_v149 : (P V main_v149 : Arr S8x5376 .f32) = shapeCast S8x5376 (P V main_v148 : Arr S8x5376x1 .f32) shapeCasts_S8x5376x1_S8x5376 :=
  (preAll_ssa.reshape V (mem_pre6 (List.mem_of_getElem? (i := 10) rfl)) (by decide))
theorem p_v150 : (P V main_v150 : Arr S8x5376 .f32) = (subf (F := Ideal) (φ := .f32)) (P V main_v147 : Arr S8x5376 .f32) (P V main_v149 : Arr S8x5376 .f32) :=
  (preAll_ssa.binary V (mem_pre6 (List.mem_of_getElem? (i := 11) rfl)) (by decide) (by decide))
theorem p_v151 : (P V main_v151 : Arr S8x5376x1 .f32) = ((extractStridedSlice S8x5376x1 ![0, 0, 3] · slices_S8x5376x4_S8x5376x1_0_0_3) : (⟨S8x5376x4, .f32⟩ : BufTy).Contents (Elt Ideal) → (⟨S8x5376x1, .f32⟩ : BufTy).Contents (Elt Ideal)) (P V main_v145 : Arr S8x5376x4 .f32) :=
  (preAll_ssa.unary V (mem_pre6 (List.mem_of_getElem? (i := 12) rfl)) (by decide))
theorem p_v152 : (P V main_v152 : Arr S8x5376 .f32) = shapeCast S8x5376 (P V main_v151 : Arr S8x5376x1 .f32) shapeCasts_S8x5376x1_S8x5376 :=
  (preAll_ssa.reshape V (mem_pre6 (List.mem_of_getElem? (i := 13) rfl)) (by decide))
theorem p_v153 : (P V main_v153 : Arr S8x5376x1 .f32) = ((extractStridedSlice S8x5376x1 ![0, 0, 1] · slices_S8x5376x4_S8x5376x1_0_0_1) : (⟨S8x5376x4, .f32⟩ : BufTy).Contents (Elt Ideal) → (⟨S8x5376x1, .f32⟩ : BufTy).Contents (Elt Ideal)) (P V main_v145 : Arr S8x5376x4 .f32) :=
  (preAll_ssa.unary V (mem_pre6 (List.mem_of_getElem? (i := 14) rfl)) (by decide))
theorem p_v154 : (P V main_v154 : Arr S8x5376 .f32) = shapeCast S8x5376 (P V main_v153 : Arr S8x5376x1 .f32) shapeCasts_S8x5376x1_S8x5376 :=
  (preAll_ssa.reshape V (mem_pre6 (List.mem_of_getElem? (i := 15) rfl)) (by decide))
theorem p_v155 : (P V main_v155 : Arr S8x5376 .f32) = (subf (F := Ideal) (φ := .f32)) (P V main_v152 : Arr S8x5376 .f32) (P V main_v154 : Arr S8x5376 .f32) :=
  (preAll_ssa.binary V (mem_pre6 (List.mem_of_getElem? (i := 16) rfl)) (by decide) (by decide))
theorem p_v156 : (P V main_v156 : Arr S8x5376 .f32) = (mulf (F := Ideal) (φ := .f32)) (P V main_v150 : Arr S8x5376 .f32) (P V main_v155 : Arr S8x5376 .f32) :=
  (preAll_ssa.binary V (mem_pre6 (List.mem_of_getElem? (i := 17) rfl)) (by decide) (by decide))
theorem p_cst_18 : (P V main_cst_18 : Arr S_ .f32) = (constant (F := Ideal) S_ .f32 0x00000000#32) :=
  (preAll_ssa.nullary V (mem_pre6 (List.mem_of_getElem? (i := 18) rfl)))
theorem p_v157 : (P V main_v157 : Arr S100x8x6 .f32) = (broadcastInDim S100x8x6 ![] bcast_S_S100x8x6 : (⟨S_, .f32⟩ : BufTy).Contents (Elt Ideal) → (⟨S100x8x6, .f32⟩ : BufTy).Contents (Elt Ideal)) (P V main_cst_18 : Arr S_ .f32) :=
  (preAll_ssa.unary V (mem_pre6 (List.mem_of_getElem? (i := 19) rfl)) (by decide))
theorem p_c : (P V main_c : Arr S_ .i32) = (constantI S_ 32 0#32) :=
  (preAll_ssa.nullary V (mem_pre6 (List.mem_of_getElem? (i := 20) rfl)))
theorem p_v158_0 : (P V main_v158_0 : Arr S8x5376x4 .f32) = id (P V main_v145 : Arr S8x5376x4 .f32) :=
  (preAll_ssa.unary V (mem_pre6 (List.mem_of_getElem? (i := 21) rfl)) (by decide))
theorem p_v158_1 : (P V main_v158_1 : Arr S8x5376 .f32) = id (P V main_v156 : Arr S8x5376 .f32) :=
  (preAll_ssa.unary V (mem_pre7 (List.mem_of_getElem? (i := 0) rfl)) (by decide))
theorem p_v158_2 : (P V main_v158_2 : Arr S8x5376x4 .f32) = id (P V main_v132 : Arr S8x5376x4 .f32) :=
  (preAll_ssa.unary V (mem_pre7 (List.mem_of_getElem? (i := 1) rfl)) (by decide))
theorem p_v158_3 : (P V main_v158_3 : Arr S8x5376 .i32) = id (P V main_v136 : Arr S8x5376 .i32) :=
  (preAll_ssa.unary V (mem_pre7 (List.mem_of_getElem? (i := 2) rfl)) (by decide))
theorem p_v158_4 : (P V main_v158_4 : Arr S_ .i32) = id (P V main_c : Arr S_ .i32) :=
  (preAll_ssa.unary V (mem_pre7 (List.mem_of_getElem? (i := 3) rfl)) (by decide))
theorem p_v158_5 : (P V main_v158_5 : Arr S8x5376 .f32) = id (P V main_v139 : Arr S8x5376 .f32) :=
  (preAll_ssa.unary V (mem_pre7 (List.mem_of_getElem? (i := 4) rfl)) (by decide))
theorem p_v158_6 : (P V main_v158_6 : Arr S100x8x6 .f32) = id (P V main_v157 : Arr S100x8x6 .f32) :=
  (preAll_ssa.unary V (mem_pre7 (List.mem_of_getElem? (i := 5) rfl)) (by decide))

end Cert.RefRun

end
-- ==== Proof.RefLevel.lean ====
/- The reference's three levels, box by box. -/
module

public import proofs.«01_k».proof.Proof.Args
public import proofs.«01_k».proof.Proof.RefEqsPre
public import Idealize.ShloMosaic.Lib.Pointwise

@[expose] public section

noncomputable section

namespace Cert.RefRun

open Cert.ReferenceIdeal Cert.ReferenceIdeal.Gen Cert.Spec
open Idealize.ShloMosaic Idealize.ShloMosaic.TcCoe Idealize.ShloMosaic.Pointwise

/-- The centre of a decoded interval. -/
def ctr (u v p q : EReal) : EReal :=
  lit 0x3F000000#32 * ((lit 0x3F000000#32 * (u + v) - p * (v - u)) + (lit 0x3F000000#32 * (u + v) + q * (v - u)))

/-- Its width. -/
def wid (u v p q : EReal) : EReal :=
  (lit 0x3F000000#32 * (u + v) + q * (v - u)) - (lit 0x3F000000#32 * (u + v) - p * (v - u))

/-- What the reference keeps of one box: centre, widths, score, class scores. -/
def row (anc prd : Fin 4 → EReal) (obj : EReal) (cla : Fin 80 → EReal) (k : Fin 85) : EReal :=
  if h : k.val < 2 then ctr (anc ⟨k.val, by omega⟩) (anc ⟨2 + k.val, by omega⟩) (prd ⟨k.val, by omega⟩) (prd ⟨2 + k.val, by omega⟩)
  else if h : k.val - 2 < 2 then wid (anc ⟨k.val - 2, by omega⟩) (anc ⟨2 + (k.val - 2), by omega⟩) (prd ⟨k.val - 2, by omega⟩) (prd ⟨2 + (k.val - 2), by omega⟩)
  else if k.val - 2 - 2 < 1 then conf obj cla
  else probs cla ⟨k.val - 2 - 2 - 1, by omega⟩

theorem logistic_eq (x : EReal) : Ideal.div 1 (1 + Ideal.exp (-x)) = Ideal.logistic x := rfl

variable (V : Valuation τ sig (Elt Ideal))

/-! ### The 64 by 64 level -/

theorem anc64 (j : Fin 4096) (r : Fin 4) : P V main_v2 (ix4 0 ⟨j.val / 64, by omega⟩ ⟨j.val % 64, by omega⟩ r) = P V main_arg9 (ix2 j r) := by
  rw [p_v2]; pointwise []
theorem prd64 (b : Fin 8) (i j : Fin 64) (r : Fin 4) : P V main_v1 (ix4 b i j ⟨r.val, by omega⟩) = P V main_arg0 (ix4 b r i j) := by
  rw [p_v1, p_v0]; pointwise []
theorem prd64' (b : Fin 8) (i j : Fin 64) (r : ℕ) (h : r < 4) : P V main_v1 (ix4 b i j ⟨r, by omega⟩) = P V main_arg0 (ix4 b ⟨r, h⟩ i j) :=
  prd64 V b i j ⟨r, h⟩
theorem sig64_0 (b : Fin 8) (i j : Fin 64) : P V main_v31 (ix4 b i j 0) = Ideal.logistic (P V main_arg1 (ix4 b 0 i j)) := by
  rw [p_v31, p_v30, p_v29, p_v28, p_cst_2, p_cst_1, p_v27, p_v26, p_v25, p_v1, p_v0]
  pointwise []
  exact logistic_eq _
theorem sig64_1 (b : Fin 8) (i j : Fin 64) (k : Fin 80) :
    P V main_v31 (ix4 b i j ⟨1 + k.val, by omega⟩) = Ideal.logistic (P V main_arg2 (ix4 b k i j)) := by
  rw [p_v31, p_v30, p_v29, p_v28, p_cst_2, p_cst_1, p_v27, p_v26, p_v25, p_v1, p_v0]
  pointwise []
  exact logistic_eq _
theorem ctr64 (b : Fin 8) (i j : Fin 64) (r : Fin 2) : P V main_v23 (ix4 b i j r)
    = ctr (P V main_v2 (ix4 0 i j ⟨r.val, by omega⟩)) (P V main_v2 (ix4 0 i j ⟨2 + r.val, by omega⟩))
        (P V main_v1 (ix4 b i j ⟨r.val, by omega⟩)) (P V main_v1 (ix4 b i j ⟨2 + r.val, by omega⟩)) := by
  rw [p_v23, p_v22, p_cst_0, p_v21, p_v20, p_v19, p_v18, p_v17, p_v16, p_v15, p_v14, p_v13, p_v12, p_v11, p_v10, p_v9, p_v8, p_v7, p_v6, p_cst, p_v5, p_v4, p_v3]
  pointwise []
  rfl
theorem wid64 (b : Fin 8) (i j : Fin 64) (r : Fin 2) : P V main_v24 (ix4 b i j r)
    = wid (P V main_v2 (ix4 0 i j ⟨r.val, by omega⟩)) (P V main_v2 (ix4 0 i j ⟨2 + r.val, by omega⟩))
        (P V main_v1 (ix4 b i j ⟨r.val, by omega⟩)) (P V main_v1 (ix4 b i j ⟨2 + r.val, by omega⟩)) := by
  rw [p_v24, p_v20, p_v19, p_v18, p_v17, p_v16, p_v15, p_v14, p_v13, p_v12, p_v11, p_v10, p_v9, p_v8, p_v7, p_v6, p_cst, p_v5, p_v4, p_v3]
  pointwise []
  rfl
theorem conf64 (b : Fin 8) (i j : Fin 64) : P V main_v37 (ix3 b i j)
    = conf (P V main_arg1 (ix4 b 0 i j)) (fun k => P V main_arg2 (ix4 b k i j)) := by
  rw [p_v37, p_v36, p_v33, p_v32, p_v35, p_v34, p_cst_3]
  pointwise []
  simp only [sig64_0, sig64_1]
  rfl
theorem cls64 (b : Fin 8) (i j : Fin 64) (k : Fin 80) : P V main_v34 (ix4 b i j k) = probs (fun k => P V main_arg2 (ix4 b k i j)) k := by
  rw [p_v34]
  pointwise []
  exact sig64_1 V b i j k
theorem row64 (b : Fin 8) (j : Fin 4096) (k : Fin 85) : P V main_v40 (ix3 b j k)
    = row (fun r => P V main_arg9 (ix2 j r)) (fun r => at64 (P V main_arg0) b r j) (at64 (P V main_arg1) b 0 j) (fun k => at64 (P V main_arg2) b k j) k := by
  rw [p_v40, p_v39, p_v38]
  pointwise []
  simp only [ctr64, wid64, conf64, cls64, anc64, row, at64]
  split
  · rw [prd64' _ _ _ _ _ (by omega), prd64' _ _ _ _ _ (by omega)]
  · split
    · rw [prd64' _ _ _ _ _ (by omega), prd64' _ _ _ _ _ (by omega)]
    · rfl

/-! ### The 32 by 32 level -/

theorem anc32 (j : Fin 1024) (r : Fin 4) : P V main_v43 (ix4 0 ⟨j.val / 32, by omega⟩ ⟨j.val % 32, by omega⟩ r) = P V main_arg10 (ix2 j r) := by
  rw [p_v43]; pointwise []
theorem prd32 (b : Fin 8) (i j : Fin 32) (r : Fin 4) : P V main_v42 (ix4 b i j ⟨r.val, by omega⟩) = P V main_arg3 (ix4 b r i j) := by
  rw [p_v42, p_v41]; pointwise []
theorem prd32' (b : Fin 8) (i j : Fin 32) (r : ℕ) (h : r < 4) : P V main_v42 (ix4 b i j ⟨r, by omega⟩) = P V main_arg3 (ix4 b ⟨r, h⟩ i j) :=
  prd32 V b i j ⟨r, h⟩
theorem sig32_0 (b : Fin 8) (i j : Fin 32) : P V main_v72 (ix4 b i j 0) = Ideal.logistic (P V main_arg4 (ix4 b 0 i j)) := by
  rw [p_v72, p_v71, p_v70, p_v69, p_cst_7, p_cst_6, p_v68, p_v67, p_v66, p_v42, p_v41]
  pointwise []
  exact logistic_eq _
theorem sig32_1 (b : Fin 8) (i j : Fin 32) (k : Fin 80) :
    P V main_v72 (ix4 b i j ⟨1 + k.val, by omega⟩) = Ideal.logistic (P V main_arg5 (ix4 b k i j)) := by
  rw [p_v72, p_v71, p_v70, p_v69, p_cst_7, p_cst_6, p_v68, p_v67, p_v66, p_v42, p_v41]
  pointwise []
  exact logistic_eq _
theorem ctr32 (b : Fin 8) (i j : Fin 32) (r : Fin 2) : P V main_v64 (ix4 b i j r)
    = ctr (P V main_v43 (ix4 0 i j ⟨r.val, by omega⟩)) (P V main_v43 (ix4 0 i j ⟨2 + r.val, by omega⟩))
        (P V main_v42 (ix4 b i j ⟨r.val, by omega⟩)) (P V main_v42 (ix4 b i j ⟨2 + r.val, by omega⟩)) := by
  rw [p_v64, p_v63, p_cst_5, p_v62, p_v61, p_v60, p_v59, p_v58, p_v57, p_v56, p_v55, p_v54, p_v53, p_v52, p_v51, p_v50, p_v49, p_v48, p_v47, p_cst_4, p_v46, p_v45, p_v44]
  pointwise []
  rfl
theorem wid32 (b : Fin 8) (i j : Fin 32) (r : Fin 2) : P V main_v65 (ix4 b i j r)
    = wid (P V main_v43 (ix4 0 i j ⟨r.val, by omega⟩)) (P V main_v43 (ix4 0 i j ⟨2 + r.val, by omega⟩))
        (P V main_v42 (ix4 b i j ⟨r.val, by omega⟩)) (P V main_v42 (ix4 b i j ⟨2 + r.val, by omega⟩)) := by
  rw [p_v65, p_v61, p_v60, p_v59, p_v58, p_v57, p_v56, p_v55, p_v54, p_v53, p_v52, p_v51, p_v50, p_v49, p_v48, p_v47, p_cst_4, p_v46, p_v45, p_v44]
  pointwise []
  rfl
theorem conf32 (b : Fin 8) (i j : Fin 32) : P V main_v78 (ix3 b i j)
    = conf (P V main_arg4 (ix4 b 0 i j)) (fun k => P V main_arg5 (ix4 b k i j)) := by
  rw [p_v78, p_v77, p_v74, p_v73, p_v76, p_v75, p_cst_8]
  pointwise []
  simp only [sig32_0, sig32_1]
  rfl
theorem cls32 (b : Fin 8) (i j : Fin 32) (k : Fin 80) : P V main_v75 (ix4 b i j k) = probs (fun k => P V main_arg5 (ix4 b k i j)) k := by
  rw [p_v75]
  pointwise []
  exact sig32_1 V b i j k
theorem row32 (b : Fin 8) (j : Fin 1024) (k : Fin 85) : P V main_v81 (ix3 b j k)
    = row (fun r => P V main_arg10 (ix2 j r)) (fun r => at32 (P V main_arg3) b r j) (at32 (P V main_arg4) b 0 j) (fun k => at32 (P V main_arg5) b k j) k := by
  rw [p_v81, p_v80, p_v79]
  pointwise []
  simp only [ctr32, wid32, conf32, cls32, anc32, row, at32]
  split
  · rw [prd32' _ _ _ _ _ (by omega), prd32' _ _ _ _ _ (by omega)]
  · split
    · rw [prd32' _ _ _ _ _ (by omega), prd32' _ _ _ _ _ (by omega)]
    · rfl

/-! ### The 16 by 16 level -/

theorem anc16 (j : Fin 256) (r : Fin 4) : P V main_v84 (ix4 0 ⟨j.val / 16, by omega⟩ ⟨j.val % 16, by omega⟩ r) = P V main_arg11 (ix2 j r) := by
  rw [p_v84]; pointwise []
theorem prd16 (b : Fin 8) (i j : Fin 16) (r : Fin 4) : P V main_v83 (ix4 b i j ⟨r.val, by omega⟩) = P V main_arg6 (ix4 b r i j) := by
  rw [p_v83, p_v82]; pointwise []
theorem prd16' (b : Fin 8) (i j : Fin 16) (r : ℕ) (h : r < 4) : P V main_v83 (ix4 b i j ⟨r, by omega⟩) = P V main_arg6 (ix4 b ⟨r, h⟩ i j) :=
  prd16 V b i j ⟨r, h⟩
theorem sig16_0 (b : Fin 8) (i j : Fin 16) : P V main_v113 (ix4 b i j 0) = Ideal.logistic (P V main_arg7 (ix4 b 0 i j)) := by
  rw [p_v113, p_v112, p_v111, p_v110, p_cst_12, p_cst_11, p_v109, p_v108, p_v107, p_v83, p_v82]
  pointwise []
  exact logistic_eq _
theorem sig16_1 (b : Fin 8) (i j : Fin 16) (k : Fin 80) :
    P V main_v113 (ix4 b i j ⟨1 + k.val, by omega⟩) = Ideal.logistic (P V main_arg8 (ix4 b k i j)) := by
  rw [p_v113, p_v112, p_v111, p_v110, p_cst_12, p_cst_11, p_v109, p_v108, p_v107, p_v83, p_v82]
  pointwise []
  exact logistic_eq _
theorem ctr16 (b : Fin 8) (i j : Fin 16) (r : Fin 2) : P V main_v105 (ix4 b i j r)
    = ctr (P V main_v84 (ix4 0 i j ⟨r.val, by omega⟩)) (P V main_v84 (ix4 0 i j ⟨2 + r.val, by omega⟩))
        (P V main_v83 (ix4 b i j ⟨r.val, by omega⟩)) (P V main_v83 (ix4 b i j ⟨2 + r.val, by omega⟩)) := by
  rw [p_v105, p_v104, p_cst_10, p_v103, p_v102, p_v101, p_v100, p_v99, p_v98, p_v97, p_v96, p_v95, p_v94, p_v93, p_v92, p_v91, p_v90, p_v89, p_v88, p_cst_9, p_v87, p_v86, p_v85]
  pointwise []
  rfl
theorem wid16 (b : Fin 8) (i j : Fin 16) (r : Fin 2) : P V main_v106 (ix4 b i j r)
    = wid (P V main_v84 (ix4 0 i j ⟨r.val, by omega⟩)) (P V main_v84 (ix4 0 i j ⟨2 + r.val, by omega⟩))
        (P V main_v83 (ix4 b i j ⟨r.val, by omega⟩)) (P V main_v83 (ix4 b i j ⟨2 + r.val, by omega⟩)) := by
  rw [p_v106, p_v102, p_v101, p_v100, p_v99, p_v98, p_v97, p_v96, p_v95, p_v94, p_v93, p_v92, p_v91, p_v90, p_v89, p_v88, p_cst_9, p_v87, p_v86, p_v85]
  pointwise []
  rfl
theorem conf16 (b : Fin 8) (i j : Fin 16) : P V main_v119 (ix3 b i j)
    = conf (P V main_arg7 (ix4 b 0 i j)) (fun k => P V main_arg8 (ix4 b k i j)) := by
  rw [p_v119, p_v118, p_v115, p_v114, p_v117, p_v116, p_cst_13]
  pointwise []
  simp only [sig16_0, sig16_1]
  rfl
theorem cls16 (b : Fin 8) (i j : Fin 16) (k : Fin 80) : P V main_v116 (ix4 b i j k) = probs (fun k => P V main_arg8 (ix4 b k i j)) k := by
  rw [p_v116]
  pointwise []
  exact sig16_1 V b i j k
theorem row16 (b : Fin 8) (j : Fin 256) (k : Fin 85) : P V main_v122 (ix3 b j k)
    = row (fun r => P V main_arg11 (ix2 j r)) (fun r => at16 (P V main_arg6) b r j) (at16 (P V main_arg7) b 0 j) (fun k => at16 (P V main_arg8) b k j) k := by
  rw [p_v122, p_v121, p_v120]
  pointwise []
  simp only [ctr16, wid16, conf16, cls16, anc16, row, at16]
  split
  · rw [prd16' _ _ _ _ _ (by omega), prd16' _ _ _ _ _ (by omega)]
  · split
    · rw [prd16' _ _ _ _ _ (by omega), prd16' _ _ _ _ _ (by omega)]
    · rfl

/-- The arguments the reference is run on, as it finds them before its loop. -/
def args : Args :=
  ⟨P V main_arg0, P V main_arg1, P V main_arg2, P V main_arg3, P V main_arg4, P V main_arg5, P V main_arg6, P V main_arg7, P V main_arg8, P V main_arg9, P V main_arg10, P V main_arg11⟩

/-- One box of one image. -/
def boxRow (R : Raw) (j : Fin 5376) (k : Fin 85) : EReal := row (R.anc j) (R.prd j) (R.obj j) (R.cla j) k

/-- The three levels side by side. -/
theorem all_row (b : Fin 8) (j : Fin 5376) (k : Fin 85) : P V main_v123 (ix3 b j k) = boxRow ((args V).raw b) j k := by
  rw [p_v123]
  pointwise []
  simp only [row64, row32, row16, boxRow, Args.raw, glue]
  by_cases h1 : j.val < 4096
  · simp only [h1, dite_true]; rfl
  · by_cases h2 : j.val < 5120
    · have h3 : j.val - 4096 < 1024 := by omega
      simp only [h1, h2, h3, dite_true, dite_false]; rfl
    · have h3 : ¬ j.val - 4096 < 1024 := by omega
      simp only [h1, h2, h3, dite_false, Nat.sub_sub, Nat.reduceAdd]; rfl

end Cert.RefRun

end
-- ==== Proof.RefArgmax.lean ====
/- The index a two-operand maximum ends with: the first position of the largest entry. -/
module

public import proofs.«01_k».proof.Proof.Spec
public import proofs.«01_k».proof.ReferenceIdeal
public import Idealize.ShloMosaic.Lib.Pointwise

@[expose] public section

noncomputable section

namespace Cert.RefRun

open Cert.ReferenceIdeal Cert.Spec
open Idealize.ShloMosaic Idealize.ShloMosaic.Pointwise

/-- A value and the index it was found at. -/
abbrev VI : Type := Ideal .f32 × BitVec 32

/-- The maximum's body. -/
abbrev pick : VI → VI → VI := reducer_argmax_f32_i32 (F := Ideal)

/-- `p` beats `q`, or ties with it at an index no later. -/
def Beats (p q : VI) : Prop := (q.1 : EReal) ≤ p.1 ∧ ((q.1 : EReal) = p.1 → p.2.toNat ≤ q.2.toNat)

theorem Beats.trans {p q r : VI} (h : Beats p q) (h' : Beats q r) : Beats p r := by
  refine ⟨h'.1.trans h.1, fun e => ?_⟩
  have h1 : (q.1 : EReal) = p.1 := le_antisymm h.1 (e ▸ h'.1)
  exact (h.2 h1).trans (h'.2 (e.trans h1.symm))

theorem Beats.refl (p : VI) : Beats p p := ⟨le_rfl, fun _ => le_rfl⟩

theorem pick_eq (a b : VI) (ha : a.2.toNat < 2 ^ 31) (hb : b.2.toNat < 2 ^ 31) :
    pick a b = if (b.1 : EReal) < a.1 ∨ ((a.1 : EReal) = b.1 ∧ a.2.toNat < b.2.toNat) then a else b := by
  obtain ⟨a1, a2⟩ := a
  obtain ⟨b1, b2⟩ := b
  change a2.toNat < 2 ^ 31 at ha
  change b2.toNat < 2 ^ 31 at hb
  have hs : IntOp.cmpi .slt a2 b2 = BitVec.ofBool (decide (a2.toNat < b2.toNat)) := by
    show BitVec.ofBool (a2.slt b2) = _
    congr 1
    rw [BitVec.slt, decide_eq_decide, BitVec.toInt_eq_toNat_of_lt (by omega), BitVec.toInt_eq_toNat_of_lt (by omega)]
    omega
  have hg : FloatOps.cmpf (F := Ideal) (φ := .f32) .ogt a1 b1 = BitVec.ofBool (decide ((b1 : EReal) < a1)) := rfl
  have hn : FloatOps.cmpf (F := Ideal) (φ := .f32) .une a1 a1 = 0#1 := by
    show BitVec.ofBool (decide ((a1 : EReal) ≠ a1)) = _
    simp
  have he : FloatOps.cmpf (F := Ideal) (φ := .f32) .oeq a1 b1 = BitVec.ofBool (decide ((a1 : EReal) = b1)) := rfl
  unfold pick reducer_argmax_f32_i32
  simp only [hs, hg, hn, he]
  by_cases h1 : (b1 : EReal) < a1
  · have h2 : ¬ (a1 : EReal) = b1 := h1.ne'
    simp [h1, h2, IntOp.ori, IntOp.andi, Scalar.select]
  · by_cases h2 : (a1 : EReal) = b1
    · subst h2
      by_cases h3 : a2.toNat < b2.toNat
      · simp [h3, IntOp.ori, IntOp.andi, Scalar.select]
      · simp [h3, IntOp.ori, IntOp.andi, Scalar.select]
    · simp [h1, h2, IntOp.ori, IntOp.andi, Scalar.select]

theorem pick_or (a b : VI) (ha : a.2.toNat < 2 ^ 31) (hb : b.2.toNat < 2 ^ 31) :
    (pick a b = a ∨ pick a b = b) ∧ Beats (pick a b) a ∧ Beats (pick a b) b := by
  rw [pick_eq a b ha hb]
  split
  · rename_i h
    refine ⟨Or.inl rfl, Beats.refl a, ?_⟩
    rcases h with h | h
    · exact ⟨h.le, fun e => absurd e h.ne⟩
    · exact ⟨h.1.symm.le, fun _ => h.2.le⟩
  · rename_i h
    rw [not_or, not_lt, not_and, not_lt] at h
    exact ⟨Or.inr rfl, ⟨h.1, h.2⟩, Beats.refl b⟩

variable {n : ℕ}

/-- A pair as the fold meets it: an entry with its position, or the pair it starts from. -/
def Seen (f : Fin n → EReal) (p : VI) : Prop :=
  ∃ a : Fin n, p.2 = BitVec.ofNat 32 a.val ∧ ((p.1 : EReal) = f a ∨ ((p.1 : EReal) = ⊥ ∧ a.val = 0))

theorem Seen.small {f : Fin n → EReal} {p : VI} (hn : n ≤ 2 ^ 30) (h : Seen f p) : p.2.toNat < 2 ^ 31 := by
  obtain ⟨a, h, -⟩ := h
  rw [h, BitVec.toNat_ofNat]
  have := a.isLt
  omega

theorem fold_pick (f : Fin n → EReal) (hn : n ≤ 2 ^ 30) (l : List VI) (acc : VI) (hacc : Seen f acc) (hl : ∀ q ∈ l, Seen f q) :
    Seen f (l.foldl pick acc) ∧ Beats (l.foldl pick acc) acc ∧ ∀ q ∈ l, Beats (l.foldl pick acc) q := by
  induction l generalizing acc with
  | nil => exact ⟨hacc, Beats.refl acc, fun q hq => absurd hq (by simp)⟩
  | cons b l ih =>
    have hb := hl b (by simp)
    obtain ⟨h1, h2, h3⟩ := pick_or acc b (hacc.small hn) (hb.small hn)
    have hs : Seen f (pick acc b) := by rcases h1 with h | h <;> rw [h] <;> assumption
    obtain ⟨g1, g2, g3⟩ := ih (pick acc b) hs (fun q hq => hl q (by simp [hq]))
    refine ⟨g1, g2.trans h2, fun q hq => ?_⟩
    rcases List.mem_cons.1 hq with rfl | hq
    · exact g2.trans h3
    · exact g3 q hq

/-- The index of the maximum over one fibre, the fibre given by its entries. -/
theorem argmax_eq {s t u : Shape} {axes : List (Fin s.rank)} (x : s.Idx → Ideal .f32) (y : s.Idx → BitVec 32)
    (ix : u.Idx → Ideal .f32) (iy : u.Idx → BitVec 32) (h : s.ReducesTo axes t) (hu : 0 < u.numel) (j : t.Idx)
    [NeZero n] (hn : n ≤ 2 ^ 30) (f : Fin n → EReal) (e : Fin n → s.Idx)
    (he : ∀ i, h.drop i = j ↔ ∃ k, i = e k) (hx : ∀ k, x (e k) = f k) (hy : ∀ k, y (e k) = BitVec.ofNat 32 k.val)
    (hix : ∀ k, (ix k : EReal) = ⊥) (hiy : ∀ k, iy k = 0#32) :
    (Host.argReduce pick x y ix iy h hu j).2 = BitVec.ofNat 32 (first f).val := by
  rw [Ideal.argReduce_eq_reduce2, Host.reduce2_eq_foldl_fiber, hiy]
  have hl : ∀ q ∈ Host.argReduceFiber x y h j, ∃ k, q = (f k, BitVec.ofNat 32 k.val) := by
    intro q hq
    rw [Host.argReduceFiber, List.mem_map] at hq
    obtain ⟨m, hm, rfl⟩ := hq
    obtain ⟨k, hk⟩ := (he _).1 (of_decide_eq_true (List.mem_filter.1 hm).2)
    exact ⟨k, by rw [hk, hx, hy]⟩
  have hr : ∀ k, ((f k, BitVec.ofNat 32 k.val) : VI) ∈ Host.argReduceFiber x y h j := by
    intro k
    rw [Host.argReduceFiber, List.mem_map]
    refine ⟨s.rowMajor (e k), List.mem_filter.2 ⟨List.mem_finRange _, decide_eq_true ?_⟩, ?_⟩
    · rw [Equiv.symm_apply_apply]; exact (he _).2 ⟨k, rfl⟩
    · rw [Equiv.symm_apply_apply, hx, hy]
  have h0 : Seen f ((ix (Shape.Idx.first hu), 0#32) : VI) := ⟨0, by simp, Or.inr ⟨hix _, by simp⟩⟩
  obtain ⟨⟨a, ha, hv⟩, -, hb⟩ := fold_pick f hn (Host.argReduceFiber x y h j) _ h0
    (fun q hq => by obtain ⟨k, rfl⟩ := hl q hq; exact ⟨k, rfl, Or.inl rfl⟩)
  rw [ha]
  congr 2
  refine IsFirst.eq_first ?_
  have hv' : (((Host.argReduceFiber x y h j).foldl pick (ix (Shape.Idx.first hu), 0#32)).1 : EReal) = f a := by
    rcases hv with hv | ⟨hv, h0⟩
    · exact hv
    · have := (hb _ (hr a)).1
      rw [hv] at this ⊢
      exact (le_bot_iff.1 this).symm
  refine ⟨fun k => hv' ▸ (hb _ (hr k)).1, fun k hk e => ?_⟩
  have := (hb _ (hr k)).2 (e.trans hv'.symm)
  rw [ha, BitVec.toNat_ofNat, BitVec.toNat_ofNat] at this
  have := a.isLt
  have := k.isLt
  have : k.val < a.val := hk
  omega

theorem drop_2 {a b : ℕ} (h : (⟨2, ![a, b]⟩ : Shape).ReducesTo [1] ⟨1, ![a]⟩) (p : Fin a) (i : (⟨2, ![a, b]⟩ : Shape).Idx) :
    h.drop i = ix1 p ↔ ∃ k : Fin b, i = ix2 p k := by
  have hd : ∀ (q : Fin a) (k : Fin b), h.drop (ix2 q k) = ix1 q := fun q k => funext fun | 0 => rfl
  obtain ⟨p', k', rfl⟩ : ∃ p' k', i = ix2 p' k' := ⟨i 0, i 1, eq_ix2 i⟩
  rw [hd]
  constructor
  · intro e
    have : p' = p := congrFun e 0
    exact ⟨k', by rw [this]⟩
  · rintro ⟨k, e⟩
    have : p' = p := congrFun e 0
    rw [this]

theorem drop_3 {a b c : ℕ} (h : (⟨3, ![a, b, c]⟩ : Shape).ReducesTo [2] ⟨2, ![a, b]⟩) (p : Fin a) (q : Fin b) (i : (⟨3, ![a, b, c]⟩ : Shape).Idx) :
    h.drop i = ix2 p q ↔ ∃ k : Fin c, i = ix3 p q k := by
  have hd : ∀ (p : Fin a) (q : Fin b) (k : Fin c), h.drop (ix3 p q k) = ix2 p q := fun p q k => funext fun | 0 => rfl | 1 => rfl
  obtain ⟨p', q', k', rfl⟩ : ∃ p' q' k', i = ix3 p' q' k' := ⟨i 0, i 1, i 2, eq_ix3 i⟩
  rw [hd]
  constructor
  · intro e
    have h0 : p' = p := congrFun e 0
    have h1 : q' = q := congrFun e 1
    exact ⟨k', by rw [h0, h1]⟩
  · rintro ⟨k, e⟩
    have h0 : p' = p := congrFun e 0
    have h1 : q' = q := congrFun e 1
    rw [h0, h1]

end Cert.RefRun

end
-- ==== Proof.RefInit.lean ====
/- What the reference's loop starts from: every box's corners, class, score, moved corners and area. -/
module

public import proofs.«01_k».proof.Proof.RefLevel
public import proofs.«01_k».proof.Proof.RefArgmax
public import proofs.«01_k».proof.Proof.KerSpec

@[expose] public section

noncomputable section

namespace Cert.RefRun

open Cert.ReferenceIdeal Cert.ReferenceIdeal.Gen Cert.Spec
open Idealize.ShloMosaic Idealize.ShloMosaic.TcCoe Idealize.ShloMosaic.Pointwise

variable (V : Valuation τ sig (Elt Ideal))

/-- One image, as the reference is given it. -/
abbrev img (b : Fin 8) : Raw := (args V).raw b

theorem row_ctr (a p : Fin 4 → EReal) (o : EReal) (c : Fin 80 → EReal) (r : Fin 2) :
    row a p o c ⟨r.val, by omega⟩ = ctr (a ⟨r.val, by omega⟩) (a ⟨2 + r.val, by omega⟩) (p ⟨r.val, by omega⟩) (p ⟨2 + r.val, by omega⟩) := by
  unfold row; rw [dif_pos r.isLt]

theorem row_wid (a p : Fin 4 → EReal) (o : EReal) (c : Fin 80 → EReal) (r : Fin 2) :
    row a p o c ⟨2 + r.val, by omega⟩ = wid (a ⟨r.val, by omega⟩) (a ⟨2 + r.val, by omega⟩) (p ⟨r.val, by omega⟩) (p ⟨2 + r.val, by omega⟩) := by
  have h : 2 + r.val - 2 = r.val := by omega
  have h1 : ¬ 2 + r.val < 2 := by omega
  have h2 : r.val < 2 := r.isLt
  unfold row
  simp only [h, h1, h2, dite_true, dite_false]

theorem row_conf (a p : Fin 4 → EReal) (o : EReal) (c : Fin 80 → EReal) : row a p o c 4 = conf o c := by
  unfold row; rw [dif_neg (by decide), dif_neg (by decide), if_pos (by decide)]

theorem row_cls (a p : Fin 4 → EReal) (o : EReal) (c : Fin 80 → EReal) (k : Fin 80) :
    row a p o c ⟨5 + k.val, by omega⟩ = probs c k := by
  unfold row
  rw [dif_neg (show ¬ 5 + k.val < 2 by omega), dif_neg (show ¬ 5 + k.val - 2 < 2 by omega), if_neg (show ¬ 5 + k.val - 2 - 2 < 1 by omega)]
  congr 1
  exact Fin.ext (show 5 + k.val - 2 - 2 - 1 = k.val by omega)

theorem at_128 (b : Fin 8) (j : Fin 5376) (r : Fin 2) : P V main_v128 (ix3 b j r)
    = ctr ((img V b).anc j ⟨r.val, by omega⟩) ((img V b).anc j ⟨2 + r.val, by omega⟩) ((img V b).prd j ⟨r.val, by omega⟩) ((img V b).prd j ⟨2 + r.val, by omega⟩) := by
  rw [p_v128, p_v124]
  pointwise []
  exact (all_row V b j _).trans (row_ctr _ _ _ _ r)

theorem at_130 (b : Fin 8) (j : Fin 5376) (r : Fin 2) : P V main_v130 (ix3 b j r) = P V main_v128 (ix3 b j r) := by
  rw [p_v130, p_v128]

theorem at_127 (b : Fin 8) (j : Fin 5376) (r : Fin 2) : P V main_v127 (ix3 b j r) = lit 0x3F000000#32
    * wid ((img V b).anc j ⟨r.val, by omega⟩) ((img V b).anc j ⟨2 + r.val, by omega⟩) ((img V b).prd j ⟨r.val, by omega⟩) ((img V b).prd j ⟨2 + r.val, by omega⟩) := by
  rw [p_v127, p_v126, p_cst_14, p_v125, p_v124]
  pointwise []
  exact congrArg (lit 0x3F000000#32 * ·) ((all_row V b j _).trans (row_wid _ _ _ _ r))

theorem at_132 (b : Fin 8) (j : Fin 5376) (r : Fin 4) : P V main_v132 (ix3 b j r) = (img V b).boxes.at_ r j := by
  rw [p_v132, p_v131, p_v129]
  match r with
  | 0 => pointwise []; rw [at_128, at_127]; rfl
  | 1 => pointwise []; rw [at_128, at_127]; rfl
  | 2 => pointwise []; rw [at_130, at_128, at_127]; rfl
  | 3 => pointwise []; rw [at_130, at_128, at_127]; rfl

theorem at_134 (b : Fin 8) (j : Fin 5376) : P V main_v134 (ix2 b j) = conf ((img V b).obj j) ((img V b).cla j) := by
  rw [p_v134, p_v133]
  pointwise []
  exact (all_row V b j _).trans (row_conf _ _ _ _)

theorem at_135 (b : Fin 8) (j : Fin 5376) (k : Fin 80) : P V main_v135 (ix3 b j k) = probs ((img V b).cla j) k := by
  rw [p_v135]
  pointwise []
  exact (all_row V b j _).trans (row_cls _ _ _ _ k)

theorem at_136 (b : Fin 8) (j : Fin 5376) : P V main_v136 (ix2 b j) = BitVec.ofNat 32 ((img V b).boxes.kind j).val := by
  rw [p_v136]
  refine argmax_eq _ _ _ _ _ _ _ (by norm_num) (probs ((img V b).cla j)) (fun k => ix3 b j k) (drop_3 _ b j) (at_135 V b j) (fun k => ?_) (fun k => ?_) (fun k => ?_)
  · rw [p_call0_v0]; pointwise []
  · rw [p_call0_cst]; exact lit_bot
  · rw [p_call0_c]; rfl

theorem at_139 (b : Fin 8) (j : Fin 5376) : P V main_v139 (ix2 b j) = (img V b).start j := by
  rw [p_v139, p_v138, p_v137, p_cst_15, p_call1_v2, p_call1_v1, p_call1_v0, p_cst_16]
  pointwise []
  rw [at_134]
  rfl

theorem at_145 (b : Fin 8) (j : Fin 5376) (r : Fin 4) : P V main_v145 (ix3 b j r) = (img V b).boxes.moved r j := by
  rw [p_v145, p_v144, p_v143, p_v142, p_cst_17, p_v141, p_v140]
  pointwise []
  rw [at_132, at_136, KerRun.sitofp_small]
  rfl

theorem at_156 (b : Fin 8) (j : Fin 5376) : P V main_v156 (ix2 b j) = (img V b).boxes.area j := by
  rw [p_v156, p_v155, p_v154, p_v153, p_v152, p_v151, p_v150, p_v149, p_v148, p_v147, p_v146]
  pointwise []
  simp only [at_145]
  rfl

end Cert.RefRun

end
-- ==== Proof.RefEqsBody.lean ====
/- What each buffer holds at the end of a trip, before the carried buffers are rewritten, from what the buffers it is computed from hold. -/
module

public import proofs.«01_k».proof.Proof.RefEqsPre

@[expose] public section

set_option maxRecDepth 4000

noncomputable section

namespace Cert.RefRun

open Cert.ReferenceIdeal Cert.ReferenceIdeal.Gen
open Idealize.ShloMosaic Idealize.ShloMosaic.TcCoe
open Idealize.ShloMosaic.StableHlo

/-- What a buffer holds after the early operations of a trip begun on the contents `V`. -/
def T (V : Valuation τ sig (Elt Ideal)) (r : Ref sig .tc) : r.ty.Contents (Elt Ideal) := after early V (Proc.devRef .tc r)

theorem mem_body0 {op : HloOp τ sig (Elt Ideal)} (h : op ∈ (body0 : Ops Ideal)) : op ∈ (early : Ops Ideal) := by simp only [early, List.mem_append, h, true_or, or_true]
theorem mem_body1 {op : HloOp τ sig (Elt Ideal)} (h : op ∈ (body1 : Ops Ideal)) : op ∈ (early : Ops Ideal) := by simp only [early, List.mem_append, h, true_or, or_true]
theorem mem_body2 {op : HloOp τ sig (Elt Ideal)} (h : op ∈ (body2 : Ops Ideal)) : op ∈ (early : Ops Ideal) := by simp only [early, List.mem_append, h, true_or, or_true]
theorem mem_body3 {op : HloOp τ sig (Elt Ideal)} (h : op ∈ (body3 : Ops Ideal)) : op ∈ (early : Ops Ideal) := by simp only [early, List.mem_append, h, true_or, or_true]
theorem mem_body4 {op : HloOp τ sig (Elt Ideal)} (h : op ∈ (body4 : Ops Ideal)) : op ∈ (early : Ops Ideal) := by simp only [early, List.mem_append, h, true_or, or_true]
theorem mem_body5 {op : HloOp τ sig (Elt Ideal)} (h : op ∈ (body5 : Ops Ideal)) : op ∈ (early : Ops Ideal) := by simp only [early, List.mem_append, h, true_or, or_true]
theorem mem_body6 {op : HloOp τ sig (Elt Ideal)} (h : op ∈ (body6 : Ops Ideal)) : op ∈ (early : Ops Ideal) := by simp only [early, List.mem_append, h, true_or, or_true]
theorem mem_body7 {op : HloOp τ sig (Elt Ideal)} (h : op ∈ (body7 : Ops Ideal)) : op ∈ (early : Ops Ideal) := by simp only [early, List.mem_append, h, true_or, or_true]
theorem mem_body8 {op : HloOp τ sig (Elt Ideal)} (h : op ∈ (body8 : Ops Ideal)) : op ∈ (early : Ops Ideal) := by simp only [early, List.mem_append, h, true_or, or_true]
theorem mem_body9 {op : HloOp τ sig (Elt Ideal)} (h : op ∈ (body9 : Ops Ideal)) : op ∈ (early : Ops Ideal) := by simp only [early, List.mem_append, h, true_or, or_true]
theorem mem_body10 {op : HloOp τ sig (Elt Ideal)} (h : op ∈ (body10 : Ops Ideal)) : op ∈ (early : Ops Ideal) := by simp only [early, List.mem_append, h, true_or, or_true]
theorem mem_body11 {op : HloOp τ sig (Elt Ideal)} (h : op ∈ (body11 : Ops Ideal)) : op ∈ (early : Ops Ideal) := by simp only [early, List.mem_append, h, true_or, or_true]
theorem mem_body12 {op : HloOp τ sig (Elt Ideal)} (h : op ∈ (body12 : Ops Ideal)) : op ∈ (early : Ops Ideal) := by simp only [early, List.mem_append, h, true_or, or_true]
theorem mem_body13 {op : HloOp τ sig (Elt Ideal)} (h : op ∈ (body13 : Ops Ideal)) : op ∈ (early : Ops Ideal) := by simp only [early, List.mem_append, h, true_or, or_true]
theorem mem_body14 {op : HloOp τ sig (Elt Ideal)} (h : op ∈ (body14 : Ops Ideal)) : op ∈ (early : Ops Ideal) := by simp only [early, List.mem_append, h, true_or, or_true]
theorem mem_body15 {op : HloOp τ sig (Elt Ideal)} (h : op ∈ (body15 : Ops Ideal)) : op ∈ (early : Ops Ideal) := by simp only [early, List.mem_append, h, true_or, or_true]
theorem mem_body16 {op : HloOp τ sig (Elt Ideal)} (h : op ∈ (body16 : Ops Ideal)) : op ∈ (early : Ops Ideal) := by simp only [early, List.mem_append, h, true_or, or_true]
theorem mem_body17 {op : HloOp τ sig (Elt Ideal)} (h : op ∈ (body17 : Ops Ideal)) : op ∈ (early : Ops Ideal) := by simp only [early, List.mem_append, h, true_or, or_true]
theorem mem_body18 {op : HloOp τ sig (Elt Ideal)} (h : op ∈ (body18 : Ops Ideal)) : op ∈ (early : Ops Ideal) := by simp only [early, List.mem_append, h, true_or, or_true]

variable (V : Valuation τ sig (Elt Ideal))

theorem t_while0b_call2_v0 : (T V main_while0b_call2_v0 : Arr S8x5376 .i32) = (iotaInDim S8x5376 32 1) :=
  (early_ssa.nullary V (mem_body0 (List.mem_of_getElem? (i := 0) rfl)))
theorem t_while0b_call2_cst : (T V main_while0b_call2_cst : Arr S_ .f32) = (constant (F := Ideal) S_ .f32 0xFF800000#32) :=
  (early_ssa.nullary V (mem_body0 (List.mem_of_getElem? (i := 1) rfl)))
theorem t_while0b_call2_c : (T V main_while0b_call2_c : Arr S_ .i32) = (constantI S_ 32 0#32) :=
  (early_ssa.nullary V (mem_body0 (List.mem_of_getElem? (i := 2) rfl)))
theorem t_while0b_call2_v1_0 : (T V main_while0b_call2_v1_0 : Arr S8 .f32) = (fun x y u v j => (Host.argReduce (reducer_argmax_f32_i32 (F := Ideal)) x y u v reducesTo_S8x5376_S8_d1 h_S_ j).1) (T V main_v158_5 : Arr S8x5376 .f32) (T V main_while0b_call2_v0 : Arr S8x5376 .i32) (T V main_while0b_call2_cst : Arr S_ .f32) (T V main_while0b_call2_c : Arr S_ .i32) :=
  (early_ssa.quaternary V (mem_body0 (List.mem_of_getElem? (i := 3) rfl)) (by decide) (by decide) (by decide) (by decide))
theorem t_while0b_v160 : (T V main_while0b_v160 : Arr S8 .i32) = (fun x y u v j => (Host.argReduce (reducer_argmax_f32_i32 (F := Ideal)) x y u v reducesTo_S8x5376_S8_d1 h_S_ j).2) (T V main_v158_5 : Arr S8x5376 .f32) (T V main_while0b_call2_v0 : Arr S8x5376 .i32) (T V main_while0b_call2_cst : Arr S_ .f32) (T V main_while0b_call2_c : Arr S_ .i32) :=
  (early_ssa.quaternary V (mem_body0 (List.mem_of_getElem? (i := 4) rfl)) (by decide) (by decide) (by decide) (by decide))
theorem t_while0b_cst_25 : (T V main_while0b_cst_25 : Arr S_ .f32) = (constant (F := Ideal) S_ .f32 0xFF800000#32) :=
  (early_ssa.nullary V (mem_body1 (List.mem_of_getElem? (i := 0) rfl)))
theorem t_while0b_v161 : (T V main_while0b_v161 : Arr S8 .f32) = ((fun x v => Host.reduce (FloatOps.maximumf (F := Ideal) (φ := .f32)) x v reducesTo_S8x5376_S8_d1 h_S_) : (⟨S8x5376, .f32⟩ : BufTy).Contents (Elt Ideal) → (⟨S_, .f32⟩ : BufTy).Contents (Elt Ideal) → (⟨S8, .f32⟩ : BufTy).Contents (Elt Ideal)) (T V main_v158_5 : Arr S8x5376 .f32) (T V main_while0b_cst_25 : Arr S_ .f32) :=
  (early_ssa.binary V (mem_body1 (List.mem_of_getElem? (i := 1) rfl)) (by decide) (by decide))
theorem t_while0b_cst_26 : (T V main_while0b_cst_26 : Arr S_ .f32) = (constant (F := Ideal) S_ .f32 0x00000000#32) :=
  (early_ssa.nullary V (mem_body1 (List.mem_of_getElem? (i := 2) rfl)))
theorem t_while0b_v162 : (T V main_while0b_v162 : Arr S8 .f32) = (broadcastInDim S8 ![] bcast_S_S8 : (⟨S_, .f32⟩ : BufTy).Contents (Elt Ideal) → (⟨S8, .f32⟩ : BufTy).Contents (Elt Ideal)) (T V main_while0b_cst_26 : Arr S_ .f32) :=
  (early_ssa.unary V (mem_body1 (List.mem_of_getElem? (i := 3) rfl)) (by decide))
theorem t_while0b_v163 : (T V main_while0b_v163 : Arr S8 .i1) = (cmpf (F := Ideal) (φ := .f32) .ogt) (T V main_while0b_v161 : Arr S8 .f32) (T V main_while0b_v162 : Arr S8 .f32) :=
  (early_ssa.binary V (mem_body1 (List.mem_of_getElem? (i := 4) rfl)) (by decide) (by decide))
theorem t_while0b_v164 : (T V main_while0b_v164 : Arr S8x1 .i32) = (broadcastInDim S8x1 ![0] bcast_S8_S8x1_0 : (⟨S8, .i32⟩ : BufTy).Contents (Elt Ideal) → (⟨S8x1, .i32⟩ : BufTy).Contents (Elt Ideal)) (T V main_while0b_v160 : Arr S8 .i32) :=
  (early_ssa.unary V (mem_body1 (List.mem_of_getElem? (i := 5) rfl)) (by decide))
theorem t_while0b_call3_v0 : (T V main_while0b_call3_v0 : Arr S8x1x1 .i32) = (broadcastInDim S8x1x1 ![0, 1] bcast_S8x1_S8x1x1_0_1) (T V main_while0b_v164 : Arr S8x1 .i32) :=
  (early_ssa.unary V (mem_body2 (List.mem_of_getElem? (i := 0) rfl)) (by decide))
theorem t_while0b_v165 : (T V main_while0b_v165 : Arr S8x1x4 .f32) = (fun x i => Host.gather gather_S8x5376x4_S8x1x1_S8x1x4_2_1_0_0_1_2_114 x i) (T V main_v158_0 : Arr S8x5376x4 .f32) (T V main_while0b_call3_v0 : Arr S8x1x1 .i32) :=
  (early_ssa.binary V (mem_body2 (List.mem_of_getElem? (i := 1) rfl)) (by decide) (by decide))
theorem t_while0b_v166 : (T V main_while0b_v166 : Arr S8x4 .f32) = shapeCast S8x4 (T V main_while0b_v165 : Arr S8x1x4 .f32) shapeCasts_S8x1x4_S8x4 :=
  (early_ssa.reshape V (mem_body3 (List.mem_of_getElem? (i := 0) rfl)) (by decide))
theorem t_while0b_v167 : (T V main_while0b_v167 : Arr S8x1 .f32) = ((extractStridedSlice S8x1 ![0, 0] · slices_S8x4_S8x1_0_0) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 1) rfl)) (by decide))
theorem t_while0b_v168 : (T V main_while0b_v168 : Arr S8 .f32) = shapeCast S8 (T V main_while0b_v167 : Arr S8x1 .f32) shapeCasts_S8x1_S8 :=
  (early_ssa.reshape V (mem_body3 (List.mem_of_getElem? (i := 2) rfl)) (by decide))
theorem t_while0b_v169 : (T V main_while0b_v169 : Arr S8x5376x1 .f32) = ((extractStridedSlice S8x5376x1 ![0, 0, 0] · slices_S8x5376x4_S8x5376x1_0_0_0) : (⟨S8x5376x4, .f32⟩ : BufTy).Contents (Elt Ideal) → (⟨S8x5376x1, .f32⟩ : BufTy).Contents (Elt Ideal)) (T V main_v158_0 : Arr S8x5376x4 .f32) :=
  (early_ssa.unary V (mem_body3 (List.mem_of_getElem? (i := 3) rfl)) (by decide))
theorem t_while0b_v170 : (T V main_while0b_v170 : Arr S8x5376 .f32) = shapeCast S8x5376 (T V main_while0b_v169 : Arr S8x5376x1 .f32) shapeCasts_S8x5376x1_S8x5376 :=
  (early_ssa.reshape V (mem_body3 (List.mem_of_getElem? (i := 4) rfl)) (by decide))
theorem t_while0b_v171 : (T V main_while0b_v171 : Arr S8x1 .f32) = (broadcastInDim S8x1 ![0] bcast_S8_S8x1_0 : (⟨S8, .f32⟩ : BufTy).Contents (Elt Ideal) → (⟨S8x1, .f32⟩ : BufTy).Contents (Elt Ideal)) (T V main_while0b_v168 : Arr S8 .f32) :=
  (early_ssa.unary V (mem_body3 (List.mem_of_getElem? (i := 5) rfl)) (by decide))
theorem t_while0b_v172 : (T V main_while0b_v172 : Arr S8x5376 .f32) = (broadcastInDim S8x5376 ![0, 1] bcast_S8x1_S8x5376_0_1 : (⟨S8x1, .f32⟩ : BufTy).Contents (Elt Ideal) → (⟨S8x5376, .f32⟩ : BufTy).Contents (Elt Ideal)) (T V main_while0b_v171 : Arr S8x1 .f32) :=
  (early_ssa.unary V (mem_body3 (List.mem_of_getElem? (i := 6) rfl)) (by decide))
theorem t_while0b_v173 : (T V main_while0b_v173 : Arr S8x5376 .f32) = (maximumf (F := Ideal) (φ := .f32)) (T V main_while0b_v172 : Arr S8x5376 .f32) (T V main_while0b_v170 : Arr S8x5376 .f32) :=
  (early_ssa.binary V (mem_body3 (List.mem_of_getElem? (i := 7) rfl)) (by decide) (by decide))
theorem t_while0b_v174 : (T V main_while0b_v174 : Arr S8x1 .f32) = ((extractStridedSlice S8x1 ![0, 1] · slices_S8x4_S8x1_0_1) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 8) rfl)) (by decide))
theorem t_while0b_v175 : (T V main_while0b_v175 : Arr S8 .f32) = shapeCast S8 (T V main_while0b_v174 : Arr S8x1 .f32) shapeCasts_S8x1_S8 :=
  (early_ssa.reshape V (mem_body3 (List.mem_of_getElem? (i := 9) rfl)) (by decide))
theorem t_while0b_v176 : (T V main_while0b_v176 : Arr S8x5376x1 .f32) = ((extractStridedSlice S8x5376x1 ![0, 0, 1] · slices_S8x5376x4_S8x5376x1_0_0_1) : (⟨S8x5376x4, .f32⟩ : BufTy).Contents (Elt Ideal) → (⟨S8x5376x1, .f32⟩ : BufTy).Contents (Elt Ideal)) (T V main_v158_0 : Arr S8x5376x4 .f32) :=
  (early_ssa.unary V (mem_body3 (List.mem_of_getElem? (i := 10) rfl)) (by decide))
theorem t_while0b_v177 : (T V main_while0b_v177 : Arr S8x5376 .f32) = shapeCast S8x5376 (T V main_while0b_v176 : Arr S8x5376x1 .f32) shapeCasts_S8x5376x1_S8x5376 :=
  (early_ssa.reshape V (mem_body3 (List.mem_of_getElem? (i := 11) rfl)) (by decide))
theorem t_while0b_v178 : (T V main_while0b_v178 : Arr S8x1 .f32) = (broadcastInDim S8x1 ![0] bcast_S8_S8x1_0 : (⟨S8, .f32⟩ : BufTy).Contents (Elt Ideal) → (⟨S8x1, .f32⟩ : BufTy).Contents (Elt Ideal)) (T V main_while0b_v175 : Arr S8 .f32) :=
  (early_ssa.unary V (mem_body3 (List.mem_of_getElem? (i := 12) rfl)) (by decide))
theorem t_while0b_v179 : (T V main_while0b_v179 : Arr S8x5376 .f32) = (broadcastInDim S8x5376 ![0, 1] bcast_S8x1_S8x5376_0_1 : (⟨S8x1, .f32⟩ : BufTy).Contents (Elt Ideal) → (⟨S8x5376, .f32⟩ : BufTy).Contents (Elt Ideal)) (T V main_while0b_v178 : Arr S8x1 .f32) :=
  (early_ssa.unary V (mem_body3 (List.mem_of_getElem? (i := 13) rfl)) (by decide))
theorem t_while0b_v180 : (T V main_while0b_v180 : Arr S8x5376 .f32) = (maximumf (F := Ideal) (φ := .f32)) (T V main_while0b_v179 : Arr S8x5376 .f32) (T V main_while0b_v177 : Arr S8x5376 .f32) :=
  (early_ssa.binary V (mem_body3 (List.mem_of_getElem? (i := 14) rfl)) (by decide) (by decide))
theorem t_while0b_v181 : (T V main_while0b_v181 : Arr S8x1 .f32) = ((extractStridedSlice S8x1 ![0, 2] · slices_S8x4_S8x1_0_2) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 15) rfl)) (by decide))
theorem t_while0b_v182 : (T V main_while0b_v182 : Arr S8 .f32) = shapeCast S8 (T V main_while0b_v181 : Arr S8x1 .f32) shapeCasts_S8x1_S8 :=
  (early_ssa.reshape V (mem_body3 (List.mem_of_getElem? (i := 16) rfl)) (by decide))
theorem t_while0b_v183 : (T V main_while0b_v183 : Arr S8x5376x1 .f32) = ((extractStridedSlice S8x5376x1 ![0, 0, 2] · slices_S8x5376x4_S8x5376x1_0_0_2) : (⟨S8x5376x4, .f32⟩ : BufTy).Contents (Elt Ideal) → (⟨S8x5376x1, .f32⟩ : BufTy).Contents (Elt Ideal)) (T V main_v158_0 : Arr S8x5376x4 .f32) :=
  (early_ssa.unary V (mem_body3 (List.mem_of_getElem? (i := 17) rfl)) (by decide))
theorem t_while0b_v184 : (T V main_while0b_v184 : Arr S8x5376 .f32) = shapeCast S8x5376 (T V main_while0b_v183 : Arr S8x5376x1 .f32) shapeCasts_S8x5376x1_S8x5376 :=
  (early_ssa.reshape V (mem_body3 (List.mem_of_getElem? (i := 18) rfl)) (by decide))
theorem t_while0b_v185 : (T V main_while0b_v185 : Arr S8x1 .f32) = (broadcastInDim S8x1 ![0] bcast_S8_S8x1_0 : (⟨S8, .f32⟩ : BufTy).Contents (Elt Ideal) → (⟨S8x1, .f32⟩ : BufTy).Contents (Elt Ideal)) (T V main_while0b_v182 : Arr S8 .f32) :=
  (early_ssa.unary V (mem_body3 (List.mem_of_getElem? (i := 19) rfl)) (by decide))
theorem t_while0b_v186 : (T V main_while0b_v186 : Arr S8x5376 .f32) = (broadcastInDim S8x5376 ![0, 1] bcast_S8x1_S8x5376_0_1 : (⟨S8x1, .f32⟩ : BufTy).Contents (Elt Ideal) → (⟨S8x5376, .f32⟩ : BufTy).Contents (Elt Ideal)) (T V main_while0b_v185 : Arr S8x1 .f32) :=
  (early_ssa.unary V (mem_body3 (List.mem_of_getElem? (i := 20) rfl)) (by decide))
theorem t_while0b_v187 : (T V main_while0b_v187 : Arr S8x5376 .f32) = (minimumf (F := Ideal) (φ := .f32)) (T V main_while0b_v186 : Arr S8x5376 .f32) (T V main_while0b_v184 : Arr S8x5376 .f32) :=
  (early_ssa.binary V (mem_body3 (List.mem_of_getElem? (i := 21) rfl)) (by decide) (by decide))
theorem t_while0b_v188 : (T V main_while0b_v188 : Arr S8x1 .f32) = ((extractStridedSlice S8x1 ![0, 3] · slices_S8x4_S8x1_0_3) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 22) rfl)) (by decide))
theorem t_while0b_v189 : (T V main_while0b_v189 : Arr S8 .f32) = shapeCast S8 (T V main_while0b_v188 : Arr S8x1 .f32) shapeCasts_S8x1_S8 :=
  (early_ssa.reshape V (mem_body3 (List.mem_of_getElem? (i := 23) rfl)) (by decide))
theorem t_while0b_v190 : (T V main_while0b_v190 : Arr S8x5376x1 .f32) = ((extractStridedSlice S8x5376x1 ![0, 0, 3] · slices_S8x5376x4_S8x5376x1_0_0_3) : (⟨S8x5376x4, .f32⟩ : BufTy).Contents (Elt Ideal) → (⟨S8x5376x1, .f32⟩ : BufTy).Contents (Elt Ideal)) (T V main_v158_0 : Arr S8x5376x4 .f32) :=
  (early_ssa.unary V (mem_body3 (List.mem_of_getElem? (i := 24) rfl)) (by decide))
theorem t_while0b_v191 : (T V main_while0b_v191 : Arr S8x5376 .f32) = shapeCast S8x5376 (T V main_while0b_v190 : Arr S8x5376x1 .f32) shapeCasts_S8x5376x1_S8x5376 :=
  (early_ssa.reshape V (mem_body3 (List.mem_of_getElem? (i := 25) rfl)) (by decide))
theorem t_while0b_v192 : (T V main_while0b_v192 : Arr S8x1 .f32) = (broadcastInDim S8x1 ![0] bcast_S8_S8x1_0 : (⟨S8, .f32⟩ : BufTy).Contents (Elt Ideal) → (⟨S8x1, .f32⟩ : BufTy).Contents (Elt Ideal)) (T V main_while0b_v189 : Arr S8 .f32) :=
  (early_ssa.unary V (mem_body3 (List.mem_of_getElem? (i := 26) rfl)) (by decide))
theorem t_while0b_v193 : (T V main_while0b_v193 : Arr S8x5376 .f32) = (broadcastInDim S8x5376 ![0, 1] bcast_S8x1_S8x5376_0_1 : (⟨S8x1, .f32⟩ : BufTy).Contents (Elt Ideal) → (⟨S8x5376, .f32⟩ : BufTy).Contents (Elt Ideal)) (T V main_while0b_v192 : Arr S8x1 .f32) :=
  (early_ssa.unary V (mem_body3 (List.mem_of_getElem? (i := 27) rfl)) (by decide))
theorem t_while0b_v194 : (T V main_while0b_v194 : Arr S8x5376 .f32) = (minimumf (F := Ideal) (φ := .f32)) (T V main_while0b_v193 : Arr S8x5376 .f32) (T V main_while0b_v191 : Arr S8x5376 .f32) :=
  (early_ssa.binary V (mem_body3 (List.mem_of_getElem? (i := 28) rfl)) (by decide) (by decide))
theorem t_while0b_v195 : (T V main_while0b_v195 : Arr S8x5376 .f32) = (subf (F := Ideal) (φ := .f32)) (T V main_while0b_v187 : Arr S8x5376 .f32) (T V main_while0b_v173 : Arr S8x5376 .f32) :=
  (early_ssa.binary V (mem_body3 (List.mem_of_getElem? (i := 29) rfl)) (by decide) (by decide))
theorem t_while0b_cst_27 : (T V main_while0b_cst_27 : Arr S_ .f32) = (constant (F := Ideal) S_ .f32 0x00000000#32) :=
  (early_ssa.nullary V (mem_body3 (List.mem_of_getElem? (i := 30) rfl)))
theorem t_while0b_v196 : (T V main_while0b_v196 : Arr S8x5376 .f32) = (broadcastInDim S8x5376 ![] bcast_S_S8x5376 : (⟨S_, .f32⟩ : BufTy).Contents (Elt Ideal) → (⟨S8x5376, .f32⟩ : BufTy).Contents (Elt Ideal)) (T V main_while0b_cst_27 : Arr S_ .f32) :=
  (early_ssa.unary V (mem_body3 (List.mem_of_getElem? (i := 31) rfl)) (by decide))
theorem t_while0b_v197 : (T V main_while0b_v197 : Arr S8x5376 .f32) = (maximumf (F := Ideal) (φ := .f32)) (T V main_while0b_v195 : Arr S8x5376 .f32) (T V main_while0b_v196 : Arr S8x5376 .f32) :=
  (early_ssa.binary V (mem_body3 (List.mem_of_getElem? (i := 32) rfl)) (by decide) (by decide))
theorem t_while0b_v198 : (T V main_while0b_v198 : Arr S8x5376 .f32) = (subf (F := Ideal) (φ := .f32)) (T V main_while0b_v194 : Arr S8x5376 .f32) (T V main_while0b_v180 : Arr S8x5376 .f32) :=
  (early_ssa.binary V (mem_body3 (List.mem_of_getElem? (i := 33) rfl)) (by decide) (by decide))
theorem t_while0b_cst_28 : (T V main_while0b_cst_28 : Arr S_ .f32) = (constant (F := Ideal) S_ .f32 0x00000000#32) :=
  (early_ssa.nullary V (mem_body3 (List.mem_of_getElem? (i := 34) rfl)))
theorem t_while0b_v199 : (T V main_while0b_v199 : Arr S8x5376 .f32) = (broadcastInDim S8x5376 ![] bcast_S_S8x5376 : (⟨S_, .f32⟩ : BufTy).Contents (Elt Ideal) → (⟨S8x5376, .f32⟩ : BufTy).Contents (Elt Ideal)) (T V main_while0b_cst_28 : Arr S_ .f32) :=
  (early_ssa.unary V (mem_body3 (List.mem_of_getElem? (i := 35) rfl)) (by decide))
theorem t_while0b_v200 : (T V main_while0b_v200 : Arr S8x5376 .f32) = (maximumf (F := Ideal) (φ := .f32)) (T V main_while0b_v198 : Arr S8x5376 .f32) (T V main_while0b_v199 : Arr S8x5376 .f32) :=
  (early_ssa.binary V (mem_body3 (List.mem_of_getElem? (i := 36) rfl)) (by decide) (by decide))
theorem t_while0b_v201 : (T V main_while0b_v201 : Arr S8x5376 .f32) = (mulf (F := Ideal) (φ := .f32)) (T V main_while0b_v197 : Arr S8x5376 .f32) (T V main_while0b_v200 : Arr S8x5376 .f32) :=
  (early_ssa.binary V (mem_body3 (List.mem_of_getElem? (i := 37) rfl)) (by decide) (by decide))
theorem t_while0b_v202 : (T V main_while0b_v202 : Arr S8x1 .f32) = ((extractStridedSlice S8x1 ![0, 2] · slices_S8x4_S8x1_0_2) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 38) rfl)) (by decide))
theorem t_while0b_v203 : (T V main_while0b_v203 : Arr S8 .f32) = shapeCast S8 (T V main_while0b_v202 : Arr S8x1 .f32) shapeCasts_S8x1_S8 :=
  (early_ssa.reshape V (mem_body3 (List.mem_of_getElem? (i := 39) rfl)) (by decide))
theorem t_while0b_v204 : (T V main_while0b_v204 : Arr S8x1 .f32) = ((extractStridedSlice S8x1 ![0, 0] · slices_S8x4_S8x1_0_0) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 40) rfl)) (by decide))
theorem t_while0b_v205 : (T V main_while0b_v205 : Arr S8 .f32) = shapeCast S8 (T V main_while0b_v204 : Arr S8x1 .f32) shapeCasts_S8x1_S8 :=
  (early_ssa.reshape V (mem_body3 (List.mem_of_getElem? (i := 41) rfl)) (by decide))
theorem t_while0b_v206 : (T V main_while0b_v206 : Arr S8 .f32) = (subf (F := Ideal) (φ := .f32)) (T V main_while0b_v203 : Arr S8 .f32) (T V main_while0b_v205 : Arr S8 .f32) :=
  (early_ssa.binary V (mem_body3 (List.mem_of_getElem? (i := 42) rfl)) (by decide) (by decide))
theorem t_while0b_v207 : (T V main_while0b_v207 : Arr S8x1 .f32) = ((extractStridedSlice S8x1 ![0, 3] · slices_S8x4_S8x1_0_3) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 43) rfl)) (by decide))
theorem t_while0b_v208 : (T V main_while0b_v208 : Arr S8 .f32) = shapeCast S8 (T V main_while0b_v207 : Arr S8x1 .f32) shapeCasts_S8x1_S8 :=
  (early_ssa.reshape V (mem_body3 (List.mem_of_getElem? (i := 44) rfl)) (by decide))
theorem t_while0b_v209 : (T V main_while0b_v209 : Arr S8x1 .f32) = ((extractStridedSlice S8x1 ![0, 1] · slices_S8x4_S8x1_0_1) : (⟨S8x4, .f32⟩ : BufTy).Contents (Elt Ideal) → (⟨S8x1, .f32⟩ : BufTy).Contents (Elt Ideal)) (T V main_while0b_v166 : Arr S8x4 .f32) :=
  (early_ssa.unary V (mem_body3 (List.mem_of_getElem? (i := 45) rfl)) (by decide))
theorem t_while0b_v210 : (T V main_while0b_v210 : Arr S8 .f32) = shapeCast S8 (T V main_while0b_v209 : Arr S8x1 .f32) shapeCasts_S8x1_S8 :=
  (early_ssa.reshape V (mem_body3 (List.mem_of_getElem? (i := 46) rfl)) (by decide))
theorem t_while0b_v211 : (T V main_while0b_v211 : Arr S8 .f32) = (subf (F := Ideal) (φ := .f32)) (T V main_while0b_v208 : Arr S8 .f32) (T V main_while0b_v210 : Arr S8 .f32) :=
  (early_ssa.binary V (mem_body3 (List.mem_of_getElem? (i := 47) rfl)) (by decide) (by decide))
theorem t_while0b_v212 : (T V main_while0b_v212 : Arr S8 .f32) = (mulf (F := Ideal) (φ := .f32)) (T V main_while0b_v206 : Arr S8 .f32) (T V main_while0b_v211 : Arr S8 .f32) :=
  (early_ssa.binary V (mem_body3 (List.mem_of_getElem? (i := 48) rfl)) (by decide) (by decide))
theorem t_while0b_v213 : (T V main_while0b_v213 : Arr S8x1 .f32) = (broadcastInDim S8x1 ![0] bcast_S8_S8x1_0 : (⟨S8, .f32⟩ : BufTy).Contents (Elt Ideal) → (⟨S8x1, .f32⟩ : BufTy).Contents (Elt Ideal)) (T V main_while0b_v212 : Arr S8 .f32) :=
  (early_ssa.unary V (mem_body3 (List.mem_of_getElem? (i := 49) rfl)) (by decide))
theorem t_while0b_v214 : (T V main_while0b_v214 : Arr S8x5376 .f32) = (broadcastInDim S8x5376 ![0, 1] bcast_S8x1_S8x5376_0_1 : (⟨S8x1, .f32⟩ : BufTy).Contents (Elt Ideal) → (⟨S8x5376, .f32⟩ : BufTy).Contents (Elt Ideal)) (T V main_while0b_v213 : Arr S8x1 .f32) :=
  (early_ssa.unary V (mem_body3 (List.mem_of_getElem? (i := 50) rfl)) (by decide))
theorem t_while0b_v215 : (T V main_while0b_v215 : Arr S8x5376 .f32) = (addf (F := Ideal) (φ := .f32)) (T V main_while0b_v214 : Arr S8x5376 .f32) (T V main_v158_1 : Arr S8x5376 .f32) :=
  (early_ssa.binary V (mem_body3 (List.mem_of_getElem? (i := 51) rfl)) (by decide) (by decide))
theorem t_while0b_v216 : (T V main_while0b_v216 : Arr S8x5376 .f32) = (subf (F := Ideal) (φ := .f32)) (T V main_while0b_v215 : Arr S8x5376 .f32) (T V main_while0b_v201 : Arr S8x5376 .f32) :=
  (early_ssa.binary V (mem_body3 (List.mem_of_getElem? (i := 52) rfl)) (by decide) (by decide))
theorem t_while0b_cst_29 : (T V main_while0b_cst_29 : Arr S_ .f32) = (constant (F := Ideal) S_ .f32 0x3089705F#32) :=
  (early_ssa.nullary V (mem_body3 (List.mem_of_getElem? (i := 53) rfl)))
theorem t_while0b_v217 : (T V main_while0b_v217 : Arr S8x5376 .f32) = (broadcastInDim S8x5376 ![] bcast_S_S8x5376 : (⟨S_, .f32⟩ : BufTy).Contents (Elt Ideal) → (⟨S8x5376, .f32⟩ : BufTy).Contents (Elt Ideal)) (T V main_while0b_cst_29 : Arr S_ .f32) :=
  (early_ssa.unary V (mem_body3 (List.mem_of_getElem? (i := 54) rfl)) (by decide))
theorem t_while0b_v218 : (T V main_while0b_v218 : Arr S8x5376 .f32) = (addf (F := Ideal) (φ := .f32)) (T V main_while0b_v216 : Arr S8x5376 .f32) (T V main_while0b_v217 : Arr S8x5376 .f32) :=
  (early_ssa.binary V (mem_body3 (List.mem_of_getElem? (i := 55) rfl)) (by decide) (by decide))
theorem t_while0b_v219 : (T V main_while0b_v219 : Arr S8x5376 .f32) = (Host.divf (F := Ideal) (φ := .f32)) (T V main_while0b_v201 : Arr S8x5376 .f32) (T V main_while0b_v218 : Arr S8x5376 .f32) :=
  (early_ssa.binary V (mem_body3 (List.mem_of_getElem? (i := 56) rfl)) (by decide) (by decide))
theorem t_while0b_cst_30 : (T V main_while0b_cst_30 : Arr S_ .f32) = (constant (F := Ideal) S_ .f32 0x3F19999A#32) :=
  (early_ssa.nullary V (mem_body3 (List.mem_of_getElem? (i := 57) rfl)))
theorem t_while0b_v220 : (T V main_while0b_v220 : Arr S8x5376 .f32) = (broadcastInDim S8x5376 ![] bcast_S_S8x5376 : (⟨S_, .f32⟩ : BufTy).Contents (Elt Ideal) → (⟨S8x5376, .f32⟩ : BufTy).Contents (Elt Ideal)) (T V main_while0b_cst_30 : Arr S_ .f32) :=
  (early_ssa.unary V (mem_body3 (List.mem_of_getElem? (i := 58) rfl)) (by decide))
theorem t_while0b_v221 : (T V main_while0b_v221 : Arr S8x5376 .i1) = (cmpf (F := Ideal) (φ := .f32) .oge) (T V main_while0b_v219 : Arr S8x5376 .f32) (T V main_while0b_v220 : Arr S8x5376 .f32) :=
  (early_ssa.binary V (mem_body3 (List.mem_of_getElem? (i := 59) rfl)) (by decide) (by decide))
theorem t_while0b_v222 : (T V main_while0b_v222 : Arr S8x1 .i1) = (broadcastInDim S8x1 ![0] bcast_S8_S8x1_0 : (⟨S8, .i1⟩ : BufTy).Contents (Elt Ideal) → (⟨S8x1, .i1⟩ : BufTy).Contents (Elt Ideal)) (T V main_while0b_v163 : Arr S8 .i1) :=
  (early_ssa.unary V (mem_body3 (List.mem_of_getElem? (i := 60) rfl)) (by decide))
theorem t_while0b_v223 : (T V main_while0b_v223 : Arr S8x5376 .i1) = (broadcastInDim S8x5376 ![0, 1] bcast_S8x1_S8x5376_0_1 : (⟨S8x1, .i1⟩ : BufTy).Contents (Elt Ideal) → (⟨S8x5376, .i1⟩ : BufTy).Contents (Elt Ideal)) (T V main_while0b_v222 : Arr S8x1 .i1) :=
  (early_ssa.unary V (mem_body3 (List.mem_of_getElem? (i := 61) rfl)) (by decide))
theorem t_while0b_v224 : (T V main_while0b_v224 : Arr S8x5376 .i1) = (andi : (⟨S8x5376, .i1⟩ : BufTy).Contents (Elt Ideal) → (⟨S8x5376, .i1⟩ : BufTy).Contents (Elt Ideal) → (⟨S8x5376, .i1⟩ : BufTy).Contents (Elt Ideal)) (T V main_while0b_v221 : Arr S8x5376 .i1) (T V main_while0b_v223 : Arr S8x5376 .i1) :=
  (early_ssa.binary V (mem_body3 (List.mem_of_getElem? (i := 62) rfl)) (by decide) (by decide))
theorem t_while0b_cst_31 : (T V main_while0b_cst_31 : Arr S_ .f32) = (constant (F := Ideal) S_ .f32 0xBF800000#32) :=
  (early_ssa.nullary V (mem_body3 (List.mem_of_getElem? (i := 63) rfl)))
theorem t_while0b_call4_v0 : (T V main_while0b_call4_v0 : Arr S_ .f32) = id (T V main_while0b_cst_31 : Arr S_ .f32) :=
  (early_ssa.unary V (mem_body4 (List.mem_of_getElem? (i := 0) rfl)) (by decide))
theorem t_while0b_call4_v1 : (T V main_while0b_call4_v1 : Arr S5376 .f32) = (broadcastInDim S5376 ![] bcast_S_S5376) (T V main_while0b_call4_v0 : Arr S_ .f32) :=
  (early_ssa.unary V (mem_body4 (List.mem_of_getElem? (i := 1) rfl)) (by decide))
theorem t_while0b_call4_v2 : (T V main_while0b_call4_v2 : Arr S8x5376 .f32) = (broadcastInDim S8x5376 ![1] bcast_S5376_S8x5376_1) (T V main_while0b_call4_v1 : Arr S5376 .f32) :=
  (early_ssa.unary V (mem_body4 (List.mem_of_getElem? (i := 2) rfl)) (by decide))
theorem t_while0b_v225 : (T V main_while0b_v225 : Arr S8x5376 .f32) = select (T V main_while0b_v224 : Arr S8x5376 .i1) (T V main_while0b_call4_v2 : Arr S8x5376 .f32) (T V main_v158_5 : Arr S8x5376 .f32) :=
  (early_ssa.ternary V (mem_body4 (List.mem_of_getElem? (i := 3) rfl)) (by decide) (by decide) (by decide))
theorem t_while0b_v226 : (T V main_while0b_v226 : Arr S5376 .i32) = (iotaInDim S5376 32 0) :=
  (early_ssa.nullary V (mem_body5 (List.mem_of_getElem? (i := 0) rfl)))
theorem t_while0b_v227 : (T V main_while0b_v227 : Arr S1x5376 .i32) = (broadcastInDim S1x5376 ![1] bcast_S5376_S1x5376_1 : (⟨S5376, .i32⟩ : BufTy).Contents (Elt Ideal) → (⟨S1x5376, .i32⟩ : BufTy).Contents (Elt Ideal)) (T V main_while0b_v226 : Arr S5376 .i32) :=
  (early_ssa.unary V (mem_body5 (List.mem_of_getElem? (i := 1) rfl)) (by decide))
theorem t_while0b_v228 : (T V main_while0b_v228 : Arr S8x1 .i32) = (broadcastInDim S8x1 ![0] bcast_S8_S8x1_0 : (⟨S8, .i32⟩ : BufTy).Contents (Elt Ideal) → (⟨S8x1, .i32⟩ : BufTy).Contents (Elt Ideal)) (T V main_while0b_v160 : Arr S8 .i32) :=
  (early_ssa.unary V (mem_body5 (List.mem_of_getElem? (i := 2) rfl)) (by decide))
theorem t_while0b_v229 : (T V main_while0b_v229 : Arr S8x5376 .i32) = (broadcastInDim S8x5376 ![0, 1] bcast_S1x5376_S8x5376_0_1 : (⟨S1x5376, .i32⟩ : BufTy).Contents (Elt Ideal) → (⟨S8x5376, .i32⟩ : BufTy).Contents (Elt Ideal)) (T V main_while0b_v227 : Arr S1x5376 .i32) :=
  (early_ssa.unary V (mem_body5 (List.mem_of_getElem? (i := 3) rfl)) (by decide))
theorem t_while0b_v230 : (T V main_while0b_v230 : Arr S8x5376 .i32) = (broadcastInDim S8x5376 ![0, 1] bcast_S8x1_S8x5376_0_1 : (⟨S8x1, .i32⟩ : BufTy).Contents (Elt Ideal) → (⟨S8x5376, .i32⟩ : BufTy).Contents (Elt Ideal)) (T V main_while0b_v228 : Arr S8x1 .i32) :=
  (early_ssa.unary V (mem_body5 (List.mem_of_getElem? (i := 4) rfl)) (by decide))
theorem t_while0b_v231 : (T V main_while0b_v231 : Arr S8x5376 .i1) = (cmpi .eq : (⟨S8x5376, .i32⟩ : BufTy).Contents (Elt Ideal) → (⟨S8x5376, .i32⟩ : BufTy).Contents (Elt Ideal) → (⟨S8x5376, .i1⟩ : BufTy).Contents (Elt Ideal)) (T V main_while0b_v229 : Arr S8x5376 .i32) (T V main_while0b_v230 : Arr S8x5376 .i32) :=
  (early_ssa.binary V (mem_body5 (List.mem_of_getElem? (i := 5) rfl)) (by decide) (by decide))
theorem t_while0b_cst_32 : (T V main_while0b_cst_32 : Arr S_ .f32) = (constant (F := Ideal) S_ .f32 0xBF800000#32) :=
  (early_ssa.nullary V (mem_body5 (List.mem_of_getElem? (i := 6) rfl)))
theorem t_while0b_call5_v0 : (T V main_while0b_call5_v0 : Arr S_ .f32) = id (T V main_while0b_cst_32 : Arr S_ .f32) :=
  (early_ssa.unary V (mem_body6 (List.mem_of_getElem? (i := 0) rfl)) (by decide))
theorem t_while0b_call5_v1 : (T V main_while0b_call5_v1 : Arr S5376 .f32) = (broadcastInDim S5376 ![] bcast_S_S5376) (T V main_while0b_call5_v0 : Arr S_ .f32) :=
  (early_ssa.unary V (mem_body6 (List.mem_of_getElem? (i := 1) rfl)) (by decide))
theorem t_while0b_call5_v2 : (T V main_while0b_call5_v2 : Arr S8x5376 .f32) = (broadcastInDim S8x5376 ![1] bcast_S5376_S8x5376_1) (T V main_while0b_call5_v1 : Arr S5376 .f32) :=
  (early_ssa.unary V (mem_body6 (List.mem_of_getElem? (i := 2) rfl)) (by decide))
theorem t_while0b_v232 : (T V main_while0b_v232 : Arr S8x5376 .f32) = select (T V main_while0b_v231 : Arr S8x5376 .i1) (T V main_while0b_call5_v2 : Arr S8x5376 .f32) (T V main_while0b_v225 : Arr S8x5376 .f32) :=
  (early_ssa.ternary V (mem_body6 (List.mem_of_getElem? (i := 3) rfl)) (by decide) (by decide) (by decide))
theorem t_while0b_v233 : (T V main_while0b_v233 : Arr S8x1 .i32) = (broadcastInDim S8x1 ![0] bcast_S8_S8x1_0 : (⟨S8, .i32⟩ : BufTy).Contents (Elt Ideal) → (⟨S8x1, .i32⟩ : BufTy).Contents (Elt Ideal)) (T V main_while0b_v160 : Arr S8 .i32) :=
  (early_ssa.unary V (mem_body7 (List.mem_of_getElem? (i := 0) rfl)) (by decide))
theorem t_while0b_call6_v0 : (T V main_while0b_call6_v0 : Arr S8x1x1 .i32) = (broadcastInDim S8x1x1 ![0, 1] bcast_S8x1_S8x1x1_0_1) (T V main_while0b_v233 : Arr S8x1 .i32) :=
  (early_ssa.unary V (mem_body8 (List.mem_of_getElem? (i := 0) rfl)) (by decide))
theorem t_while0b_v234 : (T V main_while0b_v234 : Arr S8x1x4 .f32) = (fun x i => Host.gather gather_S8x5376x4_S8x1x1_S8x1x4_2_1_0_0_1_2_114 x i) (T V main_v158_2 : Arr S8x5376x4 .f32) (T V main_while0b_call6_v0 : Arr S8x1x1 .i32) :=
  (early_ssa.binary V (mem_body8 (List.mem_of_getElem? (i := 1) rfl)) (by decide) (by decide))
theorem t_while0b_v235 : (T V main_while0b_v235 : Arr S8x4 .f32) = shapeCast S8x4 (T V main_while0b_v234 : Arr S8x1x4 .f32) shapeCasts_S8x1x4_S8x4 :=
  (early_ssa.reshape V (mem_body9 (List.mem_of_getElem? (i := 0) rfl)) (by decide))
theorem t_while0b_cst_33 : (T V main_while0b_cst_33 : Arr S_ .f32) = (constant (F := Ideal) S_ .f32 0x00000000#32) :=
  (early_ssa.nullary V (mem_body9 (List.mem_of_getElem? (i := 1) rfl)))
theorem t_while0b_v236 : (T V main_while0b_v236 : Arr S4 .f32) = (broadcastInDim S4 ![] bcast_S_S4 : (⟨S_, .f32⟩ : BufTy).Contents (Elt Ideal) → (⟨S4, .f32⟩ : BufTy).Contents (Elt Ideal)) (T V main_while0b_cst_33 : Arr S_ .f32) :=
  (early_ssa.unary V (mem_body9 (List.mem_of_getElem? (i := 2) rfl)) (by decide))
theorem t_while0b_call7_v0 : (T V main_while0b_call7_v0 : Arr S8x4 .f32) = (broadcastInDim S8x4 ![1] bcast_S4_S8x4_1) (T V main_while0b_v236 : Arr S4 .f32) :=
  (early_ssa.unary V (mem_body10 (List.mem_of_getElem? (i := 0) rfl)) (by decide))
theorem t_while0b_call7_v1 : (T V main_while0b_call7_v1 : Arr S8x4 .i1) = (broadcastInDim S8x4 ![0] bcast_S8_S8x4_0) (T V main_while0b_v163 : Arr S8 .i1) :=
  (early_ssa.unary V (mem_body10 (List.mem_of_getElem? (i := 1) rfl)) (by decide))
theorem t_while0b_v237 : (T V main_while0b_v237 : Arr S8x4 .f32) = select (T V main_while0b_call7_v1 : Arr S8x4 .i1) (T V main_while0b_v235 : Arr S8x4 .f32) (T V main_while0b_call7_v0 : Arr S8x4 .f32) :=
  (early_ssa.ternary V (mem_body10 (List.mem_of_getElem? (i := 2) rfl)) (by decide) (by decide) (by decide))
theorem t_while0b_cst_34 : (T V main_while0b_cst_34 : Arr S_ .f32) = (constant (F := Ideal) S_ .f32 0x00000000#32) :=
  (early_ssa.nullary V (mem_body11 (List.mem_of_getElem? (i := 0) rfl)))
theorem t_while0b_call8_v0 : (T V main_while0b_call8_v0 : Arr S_ .f32) = id (T V main_while0b_cst_34 : Arr S_ .f32) :=
  (early_ssa.unary V (mem_body12 (List.mem_of_getElem? (i := 0) rfl)) (by decide))
theorem t_while0b_call8_v1 : (T V main_while0b_call8_v1 : Arr S8 .f32) = (broadcastInDim S8 ![] bcast_S_S8) (T V main_while0b_call8_v0 : Arr S_ .f32) :=
  (early_ssa.unary V (mem_body12 (List.mem_of_getElem? (i := 1) rfl)) (by decide))
theorem t_while0b_v238 : (T V main_while0b_v238 : Arr S8 .f32) = select (T V main_while0b_v163 : Arr S8 .i1) (T V main_while0b_v161 : Arr S8 .f32) (T V main_while0b_call8_v1 : Arr S8 .f32) :=
  (early_ssa.ternary V (mem_body12 (List.mem_of_getElem? (i := 2) rfl)) (by decide) (by decide) (by decide))
theorem t_while0b_v239 : (T V main_while0b_v239 : Arr S8x1 .f32) = (broadcastInDim S8x1 ![0] bcast_S8_S8x1_0 : (⟨S8, .f32⟩ : BufTy).Contents (Elt Ideal) → (⟨S8x1, .f32⟩ : BufTy).Contents (Elt Ideal)) (T V main_while0b_v238 : Arr S8 .f32) :=
  (early_ssa.unary V (mem_body13 (List.mem_of_getElem? (i := 0) rfl)) (by decide))
theorem t_while0b_v240 : (T V main_while0b_v240 : Arr S8x1 .i32) = (broadcastInDim S8x1 ![0] bcast_S8_S8x1_0 : (⟨S8, .i32⟩ : BufTy).Contents (Elt Ideal) → (⟨S8x1, .i32⟩ : BufTy).Contents (Elt Ideal)) (T V main_while0b_v160 : Arr S8 .i32) :=
  (early_ssa.unary V (mem_body13 (List.mem_of_getElem? (i := 1) rfl)) (by decide))
theorem t_while0b_call9_v0 : (T V main_while0b_call9_v0 : Arr S8x1x1 .i32) = (broadcastInDim S8x1x1 ![0, 1] bcast_S8x1_S8x1x1_0_1) (T V main_while0b_v240 : Arr S8x1 .i32) :=
  (early_ssa.unary V (mem_body14 (List.mem_of_getElem? (i := 0) rfl)) (by decide))
theorem t_while0b_v241 : (T V main_while0b_v241 : Arr S8x1 .i32) = (fun x i => Host.gather gather_S8x5376_S8x1x1_S8x1_n_1_0_0_1_2_11 x i) (T V main_v158_3 : Arr S8x5376 .i32) (T V main_while0b_call9_v0 : Arr S8x1x1 .i32) :=
  (early_ssa.binary V (mem_body14 (List.mem_of_getElem? (i := 1) rfl)) (by decide) (by decide))
theorem t_while0b_v242 : (T V main_while0b_v242 : Arr S8 .i32) = shapeCast S8 (T V main_while0b_v241 : Arr S8x1 .i32) shapeCasts_S8x1_S8 :=
  (early_ssa.reshape V (mem_body15 (List.mem_of_getElem? (i := 0) rfl)) (by decide))
theorem t_while0b_v243 : (T V main_while0b_v243 : Arr S8 .f32) = (sitofp (F := Ideal) .f32 : (⟨S8, .i32⟩ : BufTy).Contents (Elt Ideal) → (⟨S8, .f32⟩ : BufTy).Contents (Elt Ideal)) (T V main_while0b_v242 : Arr S8 .i32) :=
  (early_ssa.unary V (mem_body15 (List.mem_of_getElem? (i := 1) rfl)) (by decide))
theorem t_while0b_cst_35 : (T V main_while0b_cst_35 : Arr S_ .f32) = (constant (F := Ideal) S_ .f32 0xBF800000#32) :=
  (early_ssa.nullary V (mem_body15 (List.mem_of_getElem? (i := 2) rfl)))
theorem t_while0b_call10_v0 : (T V main_while0b_call10_v0 : Arr S_ .f32) = id (T V main_while0b_cst_35 : Arr S_ .f32) :=
  (early_ssa.unary V (mem_body16 (List.mem_of_getElem? (i := 0) rfl)) (by decide))
theorem t_while0b_call10_v1 : (T V main_while0b_call10_v1 : Arr S8 .f32) = (broadcastInDim S8 ![] bcast_S_S8) (T V main_while0b_call10_v0 : Arr S_ .f32) :=
  (early_ssa.unary V (mem_body16 (List.mem_of_getElem? (i := 1) rfl)) (by decide))
theorem t_while0b_v244 : (T V main_while0b_v244 : Arr S8 .f32) = select (T V main_while0b_v163 : Arr S8 .i1) (T V main_while0b_v243 : Arr S8 .f32) (T V main_while0b_call10_v1 : Arr S8 .f32) :=
  (early_ssa.ternary V (mem_body16 (List.mem_of_getElem? (i := 2) rfl)) (by decide) (by decide) (by decide))
theorem t_while0b_v245 : (T V main_while0b_v245 : Arr S8x1 .f32) = (broadcastInDim S8x1 ![0] bcast_S8_S8x1_0 : (⟨S8, .f32⟩ : BufTy).Contents (Elt Ideal) → (⟨S8x1, .f32⟩ : BufTy).Contents (Elt Ideal)) (T V main_while0b_v244 : Arr S8 .f32) :=
  (early_ssa.unary V (mem_body17 (List.mem_of_getElem? (i := 0) rfl)) (by decide))
theorem t_while0b_v246 : (T V main_while0b_v246 : Arr S8x6 .f32) = (concatenate S8x6 1 [⟨S8x4, (T V main_while0b_v237 : (⟨S8x4, .f32⟩ : BufTy).Contents (Elt Ideal))⟩, ⟨S8x1, (T V main_while0b_v239 : (⟨S8x1, .f32⟩ : BufTy).Contents (Elt Ideal))⟩, ⟨S8x1, (T V main_while0b_v245 : (⟨S8x1, .f32⟩ : BufTy).Contents (Elt Ideal))⟩] concatenates_S8x4_S8x1_S8x1_S8x6_d1 : (⟨S8x6, .f32⟩ : BufTy).Contents (Elt Ideal)) :=
  (early_ssa.nary V (mem_body17 (List.mem_of_getElem? (i := 1) rfl)) (by decide)).trans rfl
theorem t_while0b_call11_v0 : (T V main_while0b_call11_v0 : Arr S1x8x6 .f32) = (broadcastInDim S1x8x6 ![1, 2] bcast_S8x6_S1x8x6_1_2) (T V main_while0b_v246 : Arr S8x6 .f32) :=
  (early_ssa.unary V (mem_body18 (List.mem_of_getElem? (i := 0) rfl)) (by decide))
theorem t_while0b_call11_c : (T V main_while0b_call11_c : Arr S_ .i32) = (constantI S_ 32 0#32) :=
  (early_ssa.nullary V (mem_body18 (List.mem_of_getElem? (i := 1) rfl)))
theorem t_while0b_call11_c_0 : (T V main_while0b_call11_c_0 : Arr S_ .i32) = (constantI S_ 32 0#32) :=
  (early_ssa.nullary V (mem_body18 (List.mem_of_getElem? (i := 2) rfl)))

end Cert.RefRun

end
-- ==== Proof.RefRow.lean ====
module
public import proofs.«01_k».proof.Proof.RefEqsBody
@[expose] public section
noncomputable section
namespace Cert.RefRun

open Cert.ReferenceIdeal Cert.ReferenceIdeal.Gen
open Idealize.ShloMosaic Idealize.ShloMosaic.TcCoe
open Idealize.ShloMosaic.StableHlo

variable (V : Valuation τ sig (Elt Ideal))

/-- The start of the trip's row in the array of detections: the trip counter, then two zeros. -/
def rowStart (k : Fin 3) : Arr S_ .i32 :=
  match k with
  | 0 => T V main_v158_4
  | 1 => T V main_while0b_call11_c
  | 2 => T V main_while0b_call11_c_0

/-- The references `rowStart` reads. -/
abbrev rowRefsT : Fin 3 → TRef sig ⟨S_, .i32⟩ := ![(.of main_v158_4 : TRef sig ⟨S_, .i32⟩), (.of main_while0b_call11_c : TRef sig ⟨S_, .i32⟩), (.of main_while0b_call11_c_0 : TRef sig ⟨S_, .i32⟩)]

/-- An indexed operation of a module-local function, its index operands read one by one. -/
theorem ssa_indexed {ops : Ops Ideal} (h : Ssa ops) {Ta Tb Tt Ty : BufTy} {n : ℕ} (a : TRef sig Ta) (b : TRef sig Tb) (ix : Fin n → TRef sig Tt) (y : TRef sig Ty)
    (f : Ta.Contents (Elt Ideal) → Tb.Contents (Elt Ideal) → (Fin n → Tt.Contents (Elt Ideal)) → Ty.Contents (Elt Ideal))
    (hop : TRef.binaryIndexed a b ix y f ∈ ops) (na : a.ref ≠ y.ref) (nb : b.ref ≠ y.ref) (hn : ∀ k, (ix k).ref ≠ y.ref)
    (va : Ta.Contents (Elt Ideal)) (vb : Tb.Contents (Elt Ideal)) (vi : Fin n → Tt.Contents (Elt Ideal))
    (ha : a.ofBuf (after ops V (Proc.devRef .tc a.ref)) = va) (hb : b.ofBuf (after ops V (Proc.devRef .tc b.ref)) = vb)
    (hi : ∀ k, (ix k).ofBuf (after ops V (Proc.devRef .tc (ix k).ref)) = vi k) :
    after ops V (Proc.devRef .tc y.ref) = y.toBuf (f va vb vi) := by
  rw [h.binaryIndexed V hop na nb hn, ha, hb]
  congr 2
  exact funext hi

theorem t_while0b_v247 : (T V main_while0b_v247 : Arr S100x8x6 .f32)
    = Host.dynamicUpdateSlice (T V main_v158_6 : Arr S100x8x6 .f32) (T V main_while0b_call11_v0 : Arr S1x8x6 .f32)
      (fun k => (rowStart V k (Shape.Idx.first h_S_)).toInt) updateFits_S100x8x6_S1x8x6 := by
  have hi : ∀ k, (rowRefsT k).ofBuf (after early V (Proc.devRef .tc (rowRefsT k).ref)) = rowStart V k := fun k => match k with
    | 0 => rfl
    | 1 => rfl
    | 2 => rfl
  have h := ssa_indexed V early_ssa (.of main_v158_6 : TRef sig ⟨S100x8x6, .f32⟩) (.of main_while0b_call11_v0 : TRef sig ⟨S1x8x6, .f32⟩) rowRefsT (.of main_while0b_v247 : TRef sig ⟨S100x8x6, .f32⟩)
    (fun x u i => Host.dynamicUpdateSlice x u (fun k => (i k (Shape.Idx.first h_S_)).toInt) updateFits_S100x8x6_S1x8x6)
    (mem_body18 (List.mem_of_getElem? (i := 3) rfl)) (by decide) (by decide) (by decide)
    (T V main_v158_6) (T V main_while0b_call11_v0) (rowStart V) rfl rfl hi
  exact h.trans (cast_eq _ _)

end Cert.RefRun
end
-- ==== Proof.RefGather.lean ====
/- The row, and the word, the reference takes out of every image's arrays at the index it found. -/
module

public import proofs.«01_k».proof.Proof.KerSpec
public import proofs.«01_k».proof.ReferenceIdeal
public import Idealize.ShloMosaic.Lib.Pointwise

@[expose] public section

noncomputable section

namespace Cert.RefRun

open Cert.ReferenceIdeal Cert.Spec
open Idealize.ShloMosaic Idealize.ShloMosaic.Pointwise

variable [Facts₀]

abbrev gRow := gather_S8x5376x4_S8x1x1_S8x1x4_2_1_0_0_1_2_114
abbrev gWord := gather_S8x5376_S8x1x1_S8x1_n_1_0_0_1_2_11

theorem clamp (k : Fin 5376) : min (BitVec.ofNat 32 k.val).toInt.toNat 5375 = k.val := by
  rw [KerRun.toInt_small _ (by have := k.isLt; omega)]
  have := k.isLt
  omega

theorem row_start (b : Fin 8) (r : Fin 4) : gRow.siIdx (ix3 b 0 r) ⟨0, Nat.zero_lt_one⟩ = ix3 b 0 0 :=
  funext fun | 0 => rfl | 1 => rfl | 2 => rfl

theorem word_start (b : Fin 8) : gWord.siIdx (ix2 b 0) ⟨0, Nat.zero_lt_one⟩ = ix3 b 0 0 :=
  funext fun | 0 => rfl | 1 => rfl | 2 => rfl

theorem gather_row {α : Type} (x : S8x5376x4.Idx → α) (i : IVec S8x1x1 32) (b : Fin 8) (r : Fin 4) (k : Fin 5376)
    (h : i (ix3 b 0 0) = BitVec.ofNat 32 k.val) : Host.gather gRow x i (ix3 b 0 r) = x (ix3 b k r) := by
  show x (gRow.operandIdx (ix3 b 0 r) i) = _
  congr 1
  funext a
  refine Fin.ext ?_
  show gRow.start (ix3 b 0 r) i a + gRow.batchCoord (ix3 b 0 r) a + gRow.offCoord (ix3 b 0 r) a = _
  match a with
  | 0 => show 0 + b.val + 0 = b.val; omega
  | 1 =>
    show min (i (gRow.siIdx (ix3 b 0 r) ⟨0, Nat.zero_lt_one⟩)).toInt.toNat 5375 + 0 + 0 = k.val
    rw [row_start, h, clamp, Nat.add_zero]
  | 2 => show 0 + 0 + r.val = r.val; omega

theorem gather_word {α : Type} (x : S8x5376.Idx → α) (i : IVec S8x1x1 32) (b : Fin 8) (k : Fin 5376)
    (h : i (ix3 b 0 0) = BitVec.ofNat 32 k.val) : Host.gather gWord x i (ix2 b 0) = x (ix2 b k) := by
  show x (gWord.operandIdx (ix2 b 0) i) = _
  congr 1
  funext a
  refine Fin.ext ?_
  show gWord.start (ix2 b 0) i a + gWord.batchCoord (ix2 b 0) a + gWord.offCoord (ix2 b 0) a = _
  match a with
  | 0 => show 0 + b.val + 0 = b.val; omega
  | 1 =>
    show min (i (gWord.siIdx (ix2 b 0) ⟨0, Nat.zero_lt_one⟩)).toInt.toNat 5375 + 0 + 0 = k.val
    rw [word_start, h, clamp, Nat.add_zero]

end Cert.RefRun

end
-- ==== Proof.RefStep.lean ====
/- One trip of the reference's loop is one step of suppression, image by image. -/
module

public import proofs.«01_k».proof.Proof.RefRow
public import proofs.«01_k».proof.Proof.RefArgmax
public import proofs.«01_k».proof.Proof.RefGather

@[expose] public section

noncomputable section

namespace Cert.RefRun

open Cert.ReferenceIdeal Cert.ReferenceIdeal.Gen Cert.Spec
open Idealize.ShloMosaic Idealize.ShloMosaic.TcCoe Idealize.ShloMosaic.Pointwise

/-- What a trip starts from, for one image: its boxes and its current scores. -/
structure Holds (V : Valuation τ sig (Elt Ideal)) (B : Boxes) (sc : Fin 5376 → EReal) (b : Fin 8) : Prop where
  moved : ∀ j r, T V main_v158_0 (ix3 b j r) = B.moved r j
  area : ∀ j, T V main_v158_1 (ix2 b j) = B.area j
  corner : ∀ j r, T V main_v158_2 (ix3 b j r) = B.at_ r j
  kind : ∀ j, T V main_v158_3 (ix2 b j) = BitVec.ofNat 32 (B.kind j).val
  score : ∀ j, T V main_v158_5 (ix2 b j) = sc j

variable {V : Valuation τ sig (Elt Ideal)} {B : Boxes} {sc : Fin 5376 → EReal} {b : Fin 8} (h : Holds V B sc b)
include h

theorem at_160 : T V main_while0b_v160 (ix1 b) = BitVec.ofNat 32 (first sc).val := by
  rw [t_while0b_v160]
  refine argmax_eq _ _ _ _ _ _ _ (by norm_num) sc (fun k => ix2 b k) (drop_2 _ b) h.score (fun k => ?_) (fun k => ?_) (fun k => ?_)
  · rw [t_while0b_call2_v0]; pointwise []
  · rw [t_while0b_call2_cst]; exact lit_bot
  · rw [t_while0b_call2_c]; rfl

theorem at_161 : T V main_while0b_v161 (ix1 b) = best sc := by
  rw [t_while0b_v161, t_while0b_cst_25]
  pointwise []
  simp only [h.score]
  rfl

theorem at_163 : T V main_while0b_v163 (ix1 b) = BitVec.ofBool (decide (0 < best sc)) := by
  rw [t_while0b_v163, t_while0b_v162, t_while0b_cst_26]
  pointwise []
  rw [at_161 h]

theorem at_166 (r : Fin 4) : T V main_while0b_v166 (ix2 b r) = B.moved r (first sc) := by
  rw [t_while0b_v166, t_while0b_v165]
  pointwise []
  rw [gather_row _ _ b r (first sc) ?_, h.moved]
  rw [t_while0b_call3_v0, t_while0b_v164]
  pointwise []
  exact at_160 h

theorem at_235 (r : Fin 4) : T V main_while0b_v235 (ix2 b r) = B.at_ r (first sc) := by
  rw [t_while0b_v235, t_while0b_v234]
  pointwise []
  rw [gather_row _ _ b r (first sc) ?_, h.corner]
  rw [t_while0b_call6_v0, t_while0b_v233]
  pointwise []
  exact at_160 h

theorem at_242 : T V main_while0b_v242 (ix1 b) = BitVec.ofNat 32 (B.kind (first sc)).val := by
  rw [t_while0b_v242, t_while0b_v241]
  pointwise []
  rw [gather_word _ _ b (first sc) ?_, h.kind]
  rw [t_while0b_call9_v0, t_while0b_v240]
  pointwise []
  exact at_160 h

theorem at_201 (j : Fin 5376) : T V main_while0b_v201 (ix2 b j) = B.inter (first sc) j := by
  rw [t_while0b_v201, t_while0b_v200, t_while0b_v199, t_while0b_cst_28, t_while0b_v198, t_while0b_v197, t_while0b_v196, t_while0b_cst_27, t_while0b_v195,
    t_while0b_v194, t_while0b_v193, t_while0b_v192, t_while0b_v191, t_while0b_v190, t_while0b_v189, t_while0b_v188,
    t_while0b_v187, t_while0b_v186, t_while0b_v185, t_while0b_v184, t_while0b_v183, t_while0b_v182, t_while0b_v181,
    t_while0b_v180, t_while0b_v179, t_while0b_v178, t_while0b_v177, t_while0b_v176, t_while0b_v175, t_while0b_v174,
    t_while0b_v173, t_while0b_v172, t_while0b_v171, t_while0b_v170, t_while0b_v169, t_while0b_v168, t_while0b_v167]
  pointwise []
  simp only [at_166 h, h.moved]
  rfl

theorem at_212 : T V main_while0b_v212 (ix1 b) = B.area (first sc) := by
  rw [t_while0b_v212, t_while0b_v211, t_while0b_v210, t_while0b_v209, t_while0b_v208, t_while0b_v207, t_while0b_v206, t_while0b_v205, t_while0b_v204,
    t_while0b_v203, t_while0b_v202]
  pointwise []
  simp only [at_166 h]
  rfl

theorem at_219 (j : Fin 5376) : T V main_while0b_v219 (ix2 b j) = B.iou (first sc) j := by
  rw [t_while0b_v219, t_while0b_v218, t_while0b_v217, t_while0b_cst_29, t_while0b_v216, t_while0b_v215, t_while0b_v214, t_while0b_v213]
  pointwise []
  rw [at_201 h, at_212 h, h.area]
  rfl

theorem at_225 (j : Fin 5376) : T V main_while0b_v225 (ix2 b j)
    = if lit 0x3F19999A#32 ≤ B.iou (first sc) j ∧ 0 < best sc then lit 0xBF800000#32 else sc j := by
  rw [t_while0b_v225, t_while0b_call4_v2, t_while0b_call4_v1, t_while0b_call4_v0, t_while0b_cst_31, t_while0b_v224, t_while0b_v223, t_while0b_v222,
    t_while0b_v221, t_while0b_v220, t_while0b_cst_30]
  pointwise []
  simp only [at_219 h, at_163 h, h.score, Scalar.select, KerRun.andi_one, KerRun.ofBool_decide]
  rfl

theorem at_232 (j : Fin 5376) : T V main_while0b_v232 (ix2 b j) = B.next sc j := by
  rw [t_while0b_v232, t_while0b_call5_v2, t_while0b_call5_v1, t_while0b_call5_v0, t_while0b_cst_32, t_while0b_v231, t_while0b_v230, t_while0b_v229,
    t_while0b_v228, t_while0b_v227, t_while0b_v226]
  pointwise []
  simp only [at_160 h, at_225 h, Scalar.select, KerRun.cmpi_eq_one]
  have e : (BitVec.ofNat 32 j.val = BitVec.ofNat 32 (first sc).val) ↔ j = first sc := by
    constructor
    · intro e
      have := congrArg BitVec.toNat e
      rw [BitVec.toNat_ofNat, BitVec.toNat_ofNat] at this
      have := j.isLt
      have := (first sc).isLt
      exact Fin.ext (by omega)
    · rintro rfl; rfl
  simp only [e]
  rfl

omit h in
theorem zero : id (constant (F := Ideal) S_ .f32 0#32) ix0 = (0 : EReal) := by
  rw [id_eq]
  pointwise []

theorem at_246 (r : Fin 6) : T V main_while0b_v246 (ix2 b r) = B.report sc r := by
  have h4 : ∀ r : Fin 4, T V main_while0b_v237 (ix2 b r) = if 0 < best sc then B.at_ r (first sc) else 0 := fun r => by
    rw [t_while0b_v237, t_while0b_call7_v1, t_while0b_call7_v0, t_while0b_v236, t_while0b_cst_33]
    pointwise []
    simp only [at_163 h, at_235 h, Scalar.select, KerRun.ofBool_decide]
  rw [t_while0b_v246, t_while0b_v245, t_while0b_v244, t_while0b_call10_v1, t_while0b_call10_v0, t_while0b_cst_35, t_while0b_v243, t_while0b_v239,
    t_while0b_v238, t_while0b_call8_v1, t_while0b_call8_v0, t_while0b_cst_34]
  match r with
  | 0 => pointwise []; exact h4 0
  | 1 => pointwise []; exact h4 1
  | 2 => pointwise []; exact h4 2
  | 3 => pointwise []; exact h4 3
  | 4 => pointwise []; simp only [at_163 h, at_161 h, Scalar.select, KerRun.ofBool_decide]; rw [zero]; rfl
  | 5 => pointwise []; simp only [at_163 h, at_242 h, Scalar.select, KerRun.ofBool_decide, KerRun.sitofp_small]; rfl

end Cert.RefRun

end
-- ==== Proof.RefFrame.lean ====
/- The reference leaves its arguments as it found them, and every counter at zero. -/
module

public import proofs.«01_k».proof.Proof.RefRun
public import Idealize.ShloMosaic.Lib.Quiescent

@[expose] public section

set_option maxRecDepth 4000

noncomputable section

namespace Cert.RefRun

open Cert.ReferenceIdeal Cert.ReferenceIdeal.Gen
open Idealize.ShloMosaic Idealize.ShloMosaic.TcCoe Idealize.SL.Sem
open Idealize.ShloMosaic.StableHlo

variable {F : FTy → Type} [FloatOps F]

/-- Everything the stretches before the loop write. -/
def preW : List (Ref sig .tc) := pre0W ++ pre1W ++ pre2W ++ pre3W ++ pre4W ++ pre5W ++ pre6W ++ pre7W

/-- The stretches before the loop keep what they do not write. -/
theorem keep_pre (V : Valuation τ sig (Elt F)) (r : Ref sig .tc) (hr : r ∉ preW) :
    afterL preI V (Proc.devRef .tc r) = V (Proc.devRef .tc r) := by
  simp only [preW, List.mem_append, not_or] at hr
  obtain ⟨⟨⟨⟨⟨⟨⟨h0, h1⟩, h2⟩, h3⟩, h4⟩, h5⟩, h6⟩, h7⟩ := hr
  simp only [preI, afterL_cons, afterL_nil]
  rw [keep pre7_writes _ _ h7, keep pre6_writes _ _ h6, keep pre5_writes _ _ h5, keep pre4_writes _ _ h4,
    keep pre3_writes _ _ h3, keep pre2_writes _ _ h2, keep pre1_writes _ _ h1, keep pre0_writes _ _ h0]

variable (m : (ℓ : Loc nD τ sig) → Buf (Elt F) ℓ) (ρ : Dev nD → PrngReg)

/-- A reference that no trip writes is the same before every run of the condition. -/
theorem atK_keep (c : Dev nD) (r : Ref sig .tc) (h1 : r ∉ condW) (h2 : r ∉ earlyW) (h3 : r ∉ body19W) :
    ∀ k, atK m k c (Proc.devRef .tc r) = entryContents preI m c (Proc.devRef .tc r)
  | 0 => rfl
  | k + 1 => by
    rw [show atK m (k + 1) c = afterL bodyI (after condOps (atK m k c)) from rfl, body_after, keep body19_writes _ _ h3,
      keep early_writes _ _ h2, keep cond_writes _ _ h1, atK_keep c r h1 h2 h3 k]

/-- A reference nothing writes ends as launched. -/
theorem final_keep (c : Dev nD) (r : Ref sig .tc) (h0 : r ∉ preW) (h1 : r ∉ condW) (h2 : r ∉ earlyW) (h3 : r ∉ body19W)
    (h4 : r ∉ post0W) :
    finalContents condOps preI bodyI postI 100 m c (Proc.devRef .tc r) = m ((c.tc : Thread nD τ).loc r) := by
  rw [show finalContents condOps preI bodyI postI 100 m c = afterL postI (after condOps (atK m 100 c)) from rfl]
  simp only [postI, afterL_cons, afterL_nil]
  rw [keep post0_writes _ _ h4, keep cond_writes _ _ h1, atK_keep m c r h1 h2 h3,
    show entryContents preI m c = afterL preI (launchContents m c) from rfl, keep_pre _ _ h0]

/-- The arguments of the reference end as launched. -/
def ArgsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)

/-- What the fold leaves at a reference that nothing writes. -/
theorem arg_kept {s : MemSt nD τ sig (Elt F)} (h : ∀ (c : Dev nD) (b : Ref sig .tc), (Proc.devRef .tc b : DevRef τ sig).isScoped = false →
      s.mem ((c.tc : Thread nD τ).loc b) = finalContents condOps preI bodyI postI 100 m c (Proc.devRef .tc b)) (c : Dev nD) : ArgsKept m s c := by
  have H : ∀ r : Ref sig .tc, (Proc.devRef .tc r : DevRef τ sig).isScoped = false → r ∉ preW → r ∉ condW → r ∉ earlyW → r ∉ body19W → r ∉ post0W →
      s.mem ((c.tc : Thread nD τ).loc r) = m ((c.tc : Thread nD τ).loc r) := fun r hs h0 h1 h2 h3 h4 => (h c r hs).trans (final_keep m c r h0 h1 h2 h3 h4)
  refine ⟨?_, ?_, ?_, ?_, ?_, ?_, ?_, ?_, ?_, ?_, ?_, ?_, ?_⟩ <;>
    exact H _ (by decide +kernel) (by decide +kernel) (by decide +kernel) (by decide +kernel) (by decide +kernel) (by decide +kernel)

/-- The reference runs, its result is the fold's, its arguments end as launched, and every counter ends at zero. -/
theorem run_result : θ_run (defs (F := F)) (onTc (τ := τ) (main (F := F))) ⟨m, fun _ => 0, ρ⟩
    (fun r => (∀ c : Dev nD, r.2.mem ((c.tc : Thread nD τ).loc main_v159) = finalContents condOps preI bodyI postI 100 m c (Proc.devRef .tc main_v159)
      ∧ ArgsKept m r.2 c) ∧ r.2.sem = fun _ => 0) :=
  (θ_run (defs (F := F)) _ _).mono (fun r h => ⟨fun c => ⟨h c main_v159 (by decide +kernel), arg_kept m h c⟩,
    Idealize.ShloMosaic.sem_eq_zero_of_no_sems (by decide) r.2⟩) (run_fold m ρ)

end Cert.RefRun

end
-- ==== Proof.RefResult.lean ====
/- What the reference returns: every image's reported rows. -/
module

public import proofs.«01_k».proof.Proof.RefInit
public import proofs.«01_k».proof.Proof.RefStep
public import proofs.«01_k».proof.Proof.RefFrame

@[expose] public section

noncomputable section

namespace Cert.RefRun

open Cert.ReferenceIdeal Cert.ReferenceIdeal.Gen Cert.Spec
open Idealize.ShloMosaic Idealize.ShloMosaic.TcCoe Idealize.ShloMosaic.Pointwise
open Idealize.ShloMosaic.StableHlo

/-- One row of the detections replaced. -/
theorem row_replaced {α : Type} (x : S100x8x6.Idx → α) (u : S1x8x6.Idx → α) (start : Fin 3 → Int) (k : Fin 100)
    (h0 : start 0 = (k.val : Int)) (h1 : start 1 = 0) (h2 : start 2 = 0) (h : S100x8x6.Slices (fun _ => 0) S1x8x6) (t : Fin 100) (b : Fin 8) (r : Fin 6) :
    Host.dynamicUpdateSlice x u start h (ix3 t b r) = if t = k then u (ix3 0 b r) else x (ix3 t b r) := by
  have e0 : (min (max (start 0) 0) ((100 - 1 : ℕ) : Int)).toNat = k.val := by have := k.isLt; omega
  have e1 : (min (max (start 1) 0) ((8 - 8 : ℕ) : Int)).toNat = 0 := by omega
  have e2 : (min (max (start 2) 0) ((6 - 6 : ℕ) : Int)).toNat = 0 := by omega
  unfold Host.dynamicUpdateSlice updateSlice
  by_cases ht : t = k
  · rw [if_pos ht, dif_pos]
    · congr 1
      funext a
      refine Fin.ext ?_
      match a with
      | 0 => show t.val - (min (max (start 0) 0) ((100 - 1 : ℕ) : Int)).toNat = 0; rw [e0, ht]; omega
      | 1 => show b.val - (min (max (start 1) 0) ((8 - 8 : ℕ) : Int)).toNat = b.val; rw [e1]; omega
      | 2 => show r.val - (min (max (start 2) 0) ((6 - 6 : ℕ) : Int)).toNat = r.val; rw [e2]; omega
    · intro a
      match a with
      | 0 =>
        show (min (max (start 0) 0) ((100 - 1 : ℕ) : Int)).toNat ≤ t.val ∧ t.val < (min (max (start 0) 0) ((100 - 1 : ℕ) : Int)).toNat + 1
        rw [e0, ht]; omega
      | 1 =>
        show (min (max (start 1) 0) ((8 - 8 : ℕ) : Int)).toNat ≤ b.val ∧ b.val < (min (max (start 1) 0) ((8 - 8 : ℕ) : Int)).toNat + 8
        rw [e1]; omega
      | 2 =>
        show (min (max (start 2) 0) ((6 - 6 : ℕ) : Int)).toNat ≤ r.val ∧ r.val < (min (max (start 2) 0) ((6 - 6 : ℕ) : Int)).toNat + 6
        rw [e2]; omega
  · rw [if_neg ht, dif_neg]
    intro hin
    have h3 : (min (max (start 0) 0) ((100 - 1 : ℕ) : Int)).toNat ≤ t.val ∧ t.val < (min (max (start 0) 0) ((100 - 1 : ℕ) : Int)).toNat + 1 := hin 0
    rw [e0] at h3
    exact ht (Fin.ext (by omega))

/-- What a buffer holds, of the contents `V`. -/
def C (V : Valuation τ sig (Elt Ideal)) (r : Ref sig .tc) : r.ty.Contents (Elt Ideal) := V (Proc.devRef .tc r)

theorem last_5 (X : Valuation τ sig (Elt Ideal)) : C (after body19 X) main_v158_5 = C X main_while0b_v232 := by
  unfold C
  after_results
  rfl

theorem last_6 (X : Valuation τ sig (Elt Ideal)) : C (after body19 X) main_v158_6 = C X main_while0b_v247 := by
  unfold C
  after_results
  rfl

variable (m : (ℓ : Loc nD τ sig) → Buf (Elt Ideal) ℓ) (c : Dev nD)

/-- The contents the program is started on. -/
abbrev start : Valuation τ sig (Elt Ideal) := launchContents m c

theorem entry_eq : entryContents preI m c = after preAll (start m c) := by
  simp only [entryContents, preI, preAll, afterL_cons, afterL_nil, after_append]

theorem entry_C (r : Ref sig .tc) : C (entryContents preI m c) r = P (start m c) r := by
  unfold C P
  rw [entry_eq]

/-- A trip's contents, once its condition has run. -/
abbrev trip (k : ℕ) : Valuation τ sig (Elt Ideal) := after condOps (atK m k c)

theorem trip_fixed (k : ℕ) (r : Ref sig .tc) (h1 : r ∉ condW) (h2 : r ∉ earlyW) (h3 : r ∉ body19W) : T (trip m c k) r = P (start m c) r := by
  unfold T trip
  rw [keep early_writes _ _ h2, keep cond_writes _ _ h1, atK_keep m c r h1 h2 h3 k]
  exact entry_C m c r

theorem trip_read (k : ℕ) (r : Ref sig .tc) (h1 : r ∉ condW) (h2 : r ∉ earlyW) : T (trip m c k) r = C (atK m k c) r := by
  unfold T C trip
  rw [keep early_writes _ _ h2, keep cond_writes _ _ h1]

theorem trip_next (k : ℕ) : atK m (k + 1) c = after body19 (after early (trip m c k)) := by
  rw [show atK m (k + 1) c = afterL bodyI (after condOps (atK m k c)) from rfl, body_after]

/-- What a trip starts from. -/
theorem holds (k : ℕ) (b : Fin 8) (hs : ∀ j, C (atK m k c) main_v158_5 (ix2 b j) = (img (start m c) b).boxes.scores (img (start m c) b).start k j) :
    Holds (trip m c k) (img (start m c) b).boxes ((img (start m c) b).boxes.scores (img (start m c) b).start k) b where
  moved j r := by
    rw [trip_fixed m c k main_v158_0 (by decide +kernel) (by decide +kernel) (by decide +kernel), p_v158_0]
    exact at_145 _ b j r
  area j := by
    rw [trip_fixed m c k main_v158_1 (by decide +kernel) (by decide +kernel) (by decide +kernel), p_v158_1]
    exact at_156 _ b j
  corner j r := by
    rw [trip_fixed m c k main_v158_2 (by decide +kernel) (by decide +kernel) (by decide +kernel), p_v158_2]
    exact at_132 _ b j r
  kind j := by
    rw [trip_fixed m c k main_v158_3 (by decide +kernel) (by decide +kernel) (by decide +kernel), p_v158_3]
    exact at_136 _ b j
  score j := by
    rw [trip_read m c k main_v158_5 (by decide +kernel) (by decide +kernel)]
    exact hs j

/-- The scores after `k` trips. -/
theorem scores_at (b : Fin 8) : ∀ (k : ℕ) (j : Fin 5376),
    C (atK m k c) main_v158_5 (ix2 b j) = (img (start m c) b).boxes.scores (img (start m c) b).start k j
  | 0, j => by
    rw [show atK m 0 c = entryContents preI m c from rfl, entry_C, p_v158_5]
    exact at_139 _ b j
  | k + 1, j => by
    rw [trip_next, last_5]
    exact at_232 (holds m c k b (scores_at b k)) j

theorem ctr_at (k : ℕ) (i : S_.Idx) : T (trip m c k) main_v158_4 i = BitVec.ofNat 32 k := by
  rw [trip_read m c k main_v158_4 (by decide +kernel) (by decide +kernel)]
  unfold C
  rw [atK_ctr m c k]
  simp [Scf.iv]

/-- The rows written by the first `k` trips. -/
theorem rows_at (b : Fin 8) (r : Fin 6) : ∀ (k : ℕ), k ≤ 100 → ∀ t : Fin 100, t.val < k →
    C (atK m k c) main_v158_6 (ix3 t b r) = (img (start m c) b).result t.val r
  | 0, _, t, h => absurd h (Nat.not_lt_zero _)
  | k + 1, hk, t, ht => by
    rw [trip_next, last_6]
    show T (trip m c k) main_while0b_v247 (ix3 t b r) = _
    rw [t_while0b_v247, row_replaced _ _ _ ⟨k, by omega⟩ ?_ ?_ ?_]
    · by_cases e : t = ⟨k, by omega⟩
      · rw [if_pos e, t_while0b_call11_v0]
        pointwise []
        rw [at_246 (holds m c k b (scores_at m c b k)) r, e]
        rfl
      · rw [if_neg e, trip_read m c k main_v158_6 (by decide +kernel) (by decide +kernel)]
        exact rows_at b r k (by omega) t (by have : t.val ≠ k := fun h => e (Fin.ext h); omega)
    · show (T (trip m c k) main_v158_4 (Shape.Idx.first h_S_)).toInt = _
      rw [ctr_at, KerRun.toInt_small _ (by omega)]
    · show (T (trip m c k) main_while0b_call11_c (Shape.Idx.first h_S_)).toInt = 0
      rw [t_while0b_call11_c]; rfl
    · show (T (trip m c k) main_while0b_call11_c_0 (Shape.Idx.first h_S_)).toInt = 0
      rw [t_while0b_call11_c_0]; rfl

theorem post_eq (X : Valuation τ sig (Elt Ideal)) : C (afterL postI X) main_v159
    = transpose S8x100x6 [1, 0, 2] (C X main_v158_6 : Arr S100x8x6 .f32) transposes_S100x8x6_S8x100x6_1_0_2 := by
  unfold C
  simp only [postI, afterL_cons, afterL_nil]
  after_results

/-- The returned array holds every image's result. -/
theorem v159_apply (b : Fin 8) (t : Fin 100) (r : Fin 6) :
    C (finalContents condOps preI bodyI postI 100 m c) main_v159 (ix3 b t r) = (img (start m c) b).result t.val r := by
  rw [show finalContents condOps preI bodyI postI 100 m c = afterL postI (after condOps (atK m 100 c)) from rfl, post_eq]
  pointwise []
  rw [show C (after condOps (atK m 100 c)) main_v158_6 = C (atK m 100 c) main_v158_6 from keep cond_writes _ _ (by decide +kernel)]
  exact rows_at m c b r 100 le_rfl t t.isLt

/-- The reference's arguments, as launched. -/
theorem args_start : args (start m c) = ⟨m ((c.tc : Thread nD τ).loc main_arg0), m ((c.tc : Thread nD τ).loc main_arg1),
    m ((c.tc : Thread nD τ).loc main_arg2), m ((c.tc : Thread nD τ).loc main_arg3), m ((c.tc : Thread nD τ).loc main_arg4),
    m ((c.tc : Thread nD τ).loc main_arg5), m ((c.tc : Thread nD τ).loc main_arg6), m ((c.tc : Thread nD τ).loc main_arg7),
    m ((c.tc : Thread nD τ).loc main_arg8), m ((c.tc : Thread nD τ).loc main_arg9), m ((c.tc : Thread nD τ).loc main_arg10),
    m ((c.tc : Thread nD τ).loc main_arg11)⟩ := by
  have H : ∀ r : Ref sig .tc, r ∉ preW → P (start m c) r = m ((c.tc : Thread nD τ).loc r) := fun r hr => by
    rw [← entry_C]
    exact keep_pre (launchContents m c) r hr
  unfold args
  rw [H _ (by decide +kernel), H _ (by decide +kernel), H _ (by decide +kernel), H _ (by decide +kernel), H _ (by decide +kernel), H _ (by decide +kernel),
    H _ (by decide +kernel), H _ (by decide +kernel), H _ (by decide +kernel), H _ (by decide +kernel), H _ (by decide +kernel), H _ (by decide +kernel)]

end Cert.RefRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KerOut
public import proofs.«01_k».proof.Proof.RefResult
public import Idealize.ShloMosaic.Adequacy
public import Idealize.ShloMosaic.Init

@[expose] public section

noncomputable section

namespace Cert.Proof

open Idealize.ShloMosaic Idealize.SL.Sem

/-- Started on the same arguments, the two programs return the same array. -/
theorem same (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : Cert.RefRun.args (Cert.RefRun.start m' c) = Cert.KerRun.argsOf m c) :
    Cert.RefRun.C (StableHlo.finalContents Cert.RefRun.condOps Cert.RefRun.preI Cert.RefRun.bodyI Cert.RefRun.postI 100 m' c) Cert.ReferenceIdeal.main_v159
      = Cert.KernelIdeal.Gen.W4 m g c (Proc.devRef .tc Cert.KernelIdeal.main_v15) := by
  funext i
  obtain ⟨b, t, r, rfl⟩ : ∃ (b : Fin 8) (t : Fin 100) (r : Fin 6), i = ix3 b t r := ⟨i 0, i 1, i 2, eq_ix3 i⟩
  rw [Cert.RefRun.v159_apply m' c b t r]
  refine Eq.trans ?_ (Cert.KerRun.v15_apply m g c b t r).symm
  unfold Cert.RefRun.img
  rw [h]

theorem algebraic : Cert.algebraic_KernelIdeal_ReferenceIdeal (hKernelIdeal := Cert.KernelIdeal.Gen.facts) (hReferenceIdeal := Cert.ReferenceIdeal.Gen.facts) := by
  intro m g m' g' _ ha
  have hargs : ∀ c, Cert.RefRun.args (Cert.RefRun.start m' c) = Cert.KerRun.argsOf m c := fun c => by
    obtain ⟨h0, h1, h2, h3, h4, h5, h6, h7, h8, h9, h10, h11, -⟩ := ha c
    rw [Cert.RefRun.args_start, h0, h1, h2, h3, h4, h5, h6, h7, h8, h9, h10, h11]
    rfl
  refine ⟨fun c => Cert.KernelIdeal.Gen.W4 m g c (Proc.devRef .tc Cert.KernelIdeal.main_v15), ?_, ?_⟩
  · refine (θ_run _ _ _).mono (fun r h c => ?_) (Cert.KerRun.run_result m g)
    obtain ⟨hv, hk⟩ := h.1 c
    exact ⟨hv, hk _ (by decide), hk _ (by decide), hk _ (by decide), hk _ (by decide), hk _ (by decide), hk _ (by decide), hk _ (by decide),
      hk _ (by decide), hk _ (by decide), hk _ (by decide), hk _ (by decide), hk _ (by decide), hk _ (by decide)⟩
  · refine (θ_run _ _ _).mono (fun r h c => ?_) (Cert.RefRun.run_result m' g')
    exact ⟨(h.1 c).1.trans (same m g m' c (hargs c)), (h.1 c).2⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run _ _ _).mono (fun _ h => ⟨fun c => (h.1 c).2, h.2⟩) (Cert.RefRun.run_result m ρ),
  trivial,
  algebraic⟩

end Cert.Proof

end
